-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_qv_lb [hPre_finite_qv_lb : Cert.Pre_finite_qv_lb.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_qv_lb.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_qv_lb [hPre_finite_qv_lb : Cert.Pre_finite_qv_lb.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_qv_lb.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_finite_qv_lb [hHgrnIdeal : Cert.HgrnIdeal.Facts] [hPre_finite_qv_lb : Cert.Pre_finite_qv_lb.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_qv_lb m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_finite_qv_lb [hHgrnRefIdeal : Cert.HgrnRefIdeal.Facts] [hPre_finite_qv_lb : Cert.Pre_finite_qv_lb.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_qv_lb m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)) →
    ∃ (v0 : (c : Dev Cert.MatmulIdeal.nD) → Buf (Elt Ideal) ((c.tc : Thread Cert.MatmulIdeal.nD Cert.MatmulIdeal.τ).loc Cert.MatmulIdeal.main_v1)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v1) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v0) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Hgrn_HgrnIdeal : Prop :=
  True

def algebraic_HgrnIdeal_HgrnRefIdeal_pre_finite_qv_lb [hHgrnIdeal : Cert.HgrnIdeal.Facts] [hHgrnRefIdeal : Cert.HgrnRefIdeal.Facts] [hPre_finite_qv_lb : Cert.Pre_finite_qv_lb.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_qv_lb m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v1_0)) (v1 : (c : Dev Cert.HgrnIdeal.nD) → Buf (Elt Ideal) ((c.tc : Thread Cert.HgrnIdeal.nD Cert.HgrnIdeal.τ).loc Cert.HgrnIdeal.main_v1_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1_0) = v0 c
          ∧ r.2.mem ((c.tc : Thread Cert.HgrnIdeal.nD Cert.HgrnIdeal.τ).loc Cert.HgrnIdeal.main_v1_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v110) = v0 c
          ∧ r.2.mem ((c.tc : Thread Cert.HgrnRefIdeal.nD Cert.HgrnRefIdeal.τ).loc Cert.HgrnRefIdeal.main_v94) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v40) = v0 c
          ∧ r.2.mem ((c.tc : Thread Cert.ConvRefIdeal.nD Cert.ConvRefIdeal.τ).loc Cert.ConvRefIdeal.main_v41) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v62_0)) (v1 : (c : Dev Cert.PrepIdeal.nD) → Buf (Elt Ideal) ((c.tc : Thread Cert.PrepIdeal.nD Cert.PrepIdeal.τ).loc Cert.PrepIdeal.main_v62_1)) (v2 : (c : Dev Cert.PrepIdeal.nD) → Buf (Elt Ideal) ((c.tc : Thread Cert.PrepIdeal.nD Cert.PrepIdeal.τ).loc Cert.PrepIdeal.main_v62_2)) (v3 : (c : Dev Cert.PrepIdeal.nD) → Buf (Elt Ideal) ((c.tc : Thread Cert.PrepIdeal.nD Cert.PrepIdeal.τ).loc Cert.PrepIdeal.main_v62_3)) (v4 : (c : Dev Cert.PrepIdeal.nD) → Buf (Elt Ideal) ((c.tc : Thread Cert.PrepIdeal.nD Cert.PrepIdeal.τ).loc Cert.PrepIdeal.main_v62_4)) (v5 : (c : Dev Cert.PrepIdeal.nD) → Buf (Elt Ideal) ((c.tc : Thread Cert.PrepIdeal.nD Cert.PrepIdeal.τ).loc Cert.PrepIdeal.main_v62_5)) (v6 : (c : Dev Cert.PrepIdeal.nD) → Buf (Elt Ideal) ((c.tc : Thread Cert.PrepIdeal.nD Cert.PrepIdeal.τ).loc Cert.PrepIdeal.main_v62_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v62_0) = v0 c
          ∧ r.2.mem ((c.tc : Thread Cert.PrepIdeal.nD Cert.PrepIdeal.τ).loc Cert.PrepIdeal.main_v62_1) = v1 c
          ∧ r.2.mem ((c.tc : Thread Cert.PrepIdeal.nD Cert.PrepIdeal.τ).loc Cert.PrepIdeal.main_v62_2) = v2 c
          ∧ r.2.mem ((c.tc : Thread Cert.PrepIdeal.nD Cert.PrepIdeal.τ).loc Cert.PrepIdeal.main_v62_3) = v3 c
          ∧ r.2.mem ((c.tc : Thread Cert.PrepIdeal.nD Cert.PrepIdeal.τ).loc Cert.PrepIdeal.main_v62_4) = v4 c
          ∧ r.2.mem ((c.tc : Thread Cert.PrepIdeal.nD Cert.PrepIdeal.τ).loc Cert.PrepIdeal.main_v62_5) = v5 c
          ∧ r.2.mem ((c.tc : Thread Cert.PrepIdeal.nD Cert.PrepIdeal.τ).loc Cert.PrepIdeal.main_v62_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v136) = v0 c
          ∧ r.2.mem ((c.tc : Thread Cert.PrepRefIdeal.nD Cert.PrepRefIdeal.τ).loc Cert.PrepRefIdeal.main_v67) = v1 c
          ∧ r.2.mem ((c.tc : Thread Cert.PrepRefIdeal.nD Cert.PrepRefIdeal.τ).loc Cert.PrepRefIdeal.main_v137) = v2 c
          ∧ r.2.mem ((c.tc : Thread Cert.PrepRefIdeal.nD Cert.PrepRefIdeal.τ).loc Cert.PrepRefIdeal.main_v139) = v3 c
          ∧ r.2.mem ((c.tc : Thread Cert.PrepRefIdeal.nD Cert.PrepRefIdeal.τ).loc Cert.PrepRefIdeal.main_v140) = v4 c
          ∧ r.2.mem ((c.tc : Thread Cert.PrepRefIdeal.nD Cert.PrepRefIdeal.τ).loc Cert.PrepRefIdeal.main_v135) = v5 c
          ∧ r.2.mem ((c.tc : Thread Cert.PrepRefIdeal.nD Cert.PrepRefIdeal.τ).loc Cert.PrepRefIdeal.main_v141) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def Claim : Prop :=
  ∃ (hKernel : Cert.Kernel.Facts) (hKernelIdeal : Cert.KernelIdeal.Facts) (hReferenceIdeal : Cert.ReferenceIdeal.Facts) (hMatmul : Cert.Matmul.Facts) (hMatmulIdeal : Cert.MatmulIdeal.Facts) (hMatmulRefIdeal : Cert.MatmulRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hDown : Cert.Down.Facts) (hDownIdeal : Cert.DownIdeal.Facts) (hDownRefIdeal : Cert.DownRefIdeal.Facts) (hPle : Cert.Ple.Facts) (hPleIdeal : Cert.PleIdeal.Facts) (hPleRefIdeal : Cert.PleRefIdeal.Facts) (hHgrn : Cert.Hgrn.Facts) (hHgrnIdeal : Cert.HgrnIdeal.Facts) (hHgrnRefIdeal : Cert.HgrnRefIdeal.Facts) (hConv : Cert.Conv.Facts) (hConvIdeal : Cert.ConvIdeal.Facts) (hConvRefIdeal : Cert.ConvRefIdeal.Facts) (hPrep : Cert.Prep.Facts) (hPrepIdeal : Cert.PrepIdeal.Facts) (hPrepRefIdeal : Cert.PrepRefIdeal.Facts) (hPre_finite_qk : Cert.Pre_finite_qk.Facts) (hPre_finite_qv_lb : Cert.Pre_finite_qv_lb.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Matmul (hMatmul := hMatmul)
    ∧ quiescent_MatmulIdeal (hMatmulIdeal := hMatmulIdeal)
    ∧ quiescent_MatmulRefIdeal (hMatmulRefIdeal := hMatmulRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_Down (hDown := hDown)
    ∧ quiescent_DownIdeal (hDownIdeal := hDownIdeal)
    ∧ quiescent_DownRefIdeal (hDownRefIdeal := hDownRefIdeal)
    ∧ quiescent_Ple (hPle := hPle)
    ∧ quiescent_PleIdeal (hPleIdeal := hPleIdeal)
    ∧ quiescent_PleRefIdeal (hPleRefIdeal := hPleRefIdeal)
    ∧ quiescent_Hgrn (hHgrn := hHgrn)
    ∧ quiescent_HgrnIdeal (hHgrnIdeal := hHgrnIdeal)
    ∧ quiescent_HgrnIdeal_pre_finite_qv_lb (hHgrnIdeal := hHgrnIdeal) (hPre_finite_qv_lb := hPre_finite_qv_lb)
    ∧ quiescent_HgrnRefIdeal (hHgrnRefIdeal := hHgrnRefIdeal)
    ∧ quiescent_HgrnRefIdeal_pre_finite_qv_lb (hHgrnRefIdeal := hHgrnRefIdeal) (hPre_finite_qv_lb := hPre_finite_qv_lb)
    ∧ quiescent_Conv (hConv := hConv)
    ∧ quiescent_ConvIdeal (hConvIdeal := hConvIdeal)
    ∧ quiescent_ConvRefIdeal (hConvRefIdeal := hConvRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Matmul_MatmulIdeal
    ∧ algebraic_MatmulIdeal_MatmulRefIdeal (hMatmulIdeal := hMatmulIdeal) (hMatmulRefIdeal := hMatmulRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_Down_DownIdeal
    ∧ algebraic_DownIdeal_DownRefIdeal (hDownIdeal := hDownIdeal) (hDownRefIdeal := hDownRefIdeal)
    ∧ preserves_Ple_PleIdeal
    ∧ algebraic_PleIdeal_PleRefIdeal (hPleIdeal := hPleIdeal) (hPleRefIdeal := hPleRefIdeal)
    ∧ preserves_Hgrn_HgrnIdeal
    ∧ algebraic_HgrnIdeal_HgrnRefIdeal_pre_finite_qv_lb (hHgrnIdeal := hHgrnIdeal) (hHgrnRefIdeal := hHgrnRefIdeal) (hPre_finite_qv_lb := hPre_finite_qv_lb)
    ∧ preserves_Conv_ConvIdeal
    ∧ algebraic_ConvIdeal_ConvRefIdeal (hConvIdeal := hConvIdeal) (hConvRefIdeal := hConvRefIdeal)
    ∧ preserves_Prep_PrepIdeal
    ∧ algebraic_PrepIdeal_PrepRefIdeal (hPrepIdeal := hPrepIdeal) (hPrepRefIdeal := hPrepRefIdeal)
-- ==== Pre_finite_qk.lean ====
abbrev S4x4096x5632 : Shape := ⟨3, ![4, 4096, 5632]⟩
abbrev S4x4096x1024 : Shape := ⟨3, ![4, 4096, 1024]⟩
abbrev S_ : Shape := ⟨0, ![]⟩

class Facts : Prop where
  slices_S4x4096x5632_S4x4096x1024_0_0_2048 : S4x4096x5632.Slices ![0, 0, 2048] S4x4096x1024
  bcast_S_S4x4096x1024 : S_.BroadcastsInDim S4x4096x1024 (![] : Fin 0 → Fin S4x4096x1024.rank)

variable [Facts]

def fn {F : FTy → Type} [FloatOps F] (main_arg0 : FVec F S4x4096x5632 .f32) : IVec S4x4096x1024 1 :=
  let main_v0 : FVec F S4x4096x1024 .f32 := (extractStridedSlice S4x4096x1024 ![0, 0, 2048] · slices_S4x4096x5632_S4x4096x1024_0_0_2048) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  main_v3
-- ==== Pre_finite_qv_lb.lean ====
abbrev S4x4096x5632 : Shape := ⟨3, ![4, 4096, 5632]⟩
abbrev S2x512 : Shape := ⟨2, ![2, 512]⟩
abbrev S4x4x128x128 : Shape := ⟨4, ![4, 4, 128, 128]⟩
abbrev S128 : Shape := ⟨1, ![128]⟩
abbrev S4x4096x512 : Shape := ⟨3, ![4, 4096, 512]⟩
abbrev S_ : Shape := ⟨0, ![]⟩
abbrev S1x512 : Shape := ⟨2, ![1, 512]⟩
abbrev S512 : Shape := ⟨1, ![512]⟩
abbrev S1x1x512 : Shape := ⟨3, ![1, 1, 512]⟩

class Facts : Prop where
  slices_S4x4096x5632_S4x4096x512_0_0_0 : S4x4096x5632.Slices ![0, 0, 0] S4x4096x512
  slices_S4x4096x5632_S4x4096x512_0_0_1024 : S4x4096x5632.Slices ![0, 0, 1024] S4x4096x512
  bcast_S_S4x4096x512 : S_.BroadcastsInDim S4x4096x512 (![] : Fin 0 → Fin S4x4096x512.rank)
  slices_S2x512_S1x512_0_0 : S2x512.Slices ![0, 0] S1x512
  shapeCasts_S1x512_S512 : S1x512.ShapeCasts S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  slices_S2x512_S1x512_1_0 : S2x512.Slices ![1, 0] S1x512

variable [Facts]

def fn_part1 {F : FTy → Type} [FloatOps F] (main_v16 : IVec S4x4096x512 1) (main_v19 : FVec F S512 .f32) (main_cst_2 : FVec F S_ .f32) : IVec S4x4096x512 1 :=
  let main_v20 : FVec F S512 .f32 := broadcastInDim S512 ![] bcast_S_S512 main_cst_2
  let main_v21 : IVec S512 1 := cmpf .olt main_v19 main_v20
  let main_v22 : IVec S1x1x512 1 := broadcastInDim S1x1x512 ![2] bcast_S512_S1x1x512_2 main_v21
  let main_v23 : IVec S4x4096x512 1 := broadcastInDim S4x4096x512 ![0, 1, 2] bcast_S1x1x512_S4x4096x512_0_1_2 main_v22
  let main_v24 : IVec S4x4096x512 1 := andi main_v16 main_v23
  main_v24

def fn {F : FTy → Type} [FloatOps F] (main_arg0 : FVec F S4x4096x5632 .f32) (main_arg1 : FVec F S2x512 .f32) (main_arg2 : FVec F S4x4x128x128 .f32) (main_arg3 : FVec F S128 .f32) : IVec S4x4096x512 1 :=
  let main_v0 : FVec F S4x4096x512 .f32 := (extractStridedSlice S4x4096x512 ![0, 0, 0] · slices_S4x4096x5632_S4x4096x512_0_0_0) main_arg0
  let main_v1 : FVec F S4x4096x512 .f32 := (extractStridedSlice S4x4096x512 ![0, 0, 1024] · slices_S4x4096x5632_S4x4096x512_0_0_1024) main_arg0
  let main_v2 : FVec F S4x4096x512 .f32 := Host.absf main_v0
  let main_cst : FVec F S_ .f32 := constant S_ .f32 0x7F800000#32
  let main_v3 : FVec F S4x4096x512 .f32 := broadcastInDim S4x4096x512 ![] bcast_S_S4x4096x512 main_cst
  let main_v4 : IVec S4x4096x512 1 := cmpf .olt main_v2 main_v3
  let main_v5 : FVec F S4x4096x512 .f32 := Host.absf main_v1
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : IVec S4x4096x512 1 := andi main_v4 main_v7
  let main_v9 : FVec F S1x512 .f32 := (extractStridedSlice S1x512 ![0, 0] · slices_S2x512_S1x512_0_0) main_arg1
  let main_v10 : FVec F S512 .f32 := shapeCast S512 main_v9 shapeCasts_S1x512_S512
  let main_v11 : FVec F S512 .f32 := Host.absf main_v10
  let main_cst_1 : FVec F S_ .f32 := constant S_ .f32 0x7F800000#32
  let main_v12 : FVec F S512 .f32 := broadcastInDim S512 ![] bcast_S_S512 main_cst_1
  let main_v13 : IVec S512 1 := cmpf .olt main_v11 main_v12
  let main_v14 : IVec S1x1x512 1 := broadcastInDim S1x1x512 ![2] bcast_S512_S1x1x512_2 main_v13
  let main_v15 : IVec S4x4096x512 1 := broadcastInDim S4x4096x512 ![0, 1, 2] bcast_S1x1x512_S4x4096x512_0_1_2 main_v14
  let main_v16 : IVec S4x4096x512 1 := andi main_v8 main_v15
  let main_v17 : FVec F S1x512 .f32 := (extractStridedSlice S1x512 ![1, 0] · slices_S2x512_S1x512_1_0) main_arg1
  let main_v18 : FVec F S512 .f32 := shapeCast S512 main_v17 shapeCasts_S1x512_S512
  let main_v19 : FVec F S512 .f32 := Host.absf main_v18
  let main_cst_2 : FVec F S_ .f32 := constant S_ .f32 0x7F800000#32
  fn_part1 (F := F) main_v16 main_v19 main_cst_2
-- ==== Kernel.lean ====
abbrev S4x4096x5632 : Shape := ⟨3, ![4, 4096, 5632]⟩
abbrev S4x4096x512 : Shape := ⟨3, ![4, 4096, 512]⟩
abbrev S1x128x128 : Shape := ⟨3, ![1, 128, 128]⟩
abbrev S1x4096x128 : Shape := ⟨3, ![1, 4096, 128]⟩
abbrev S128x128 : Shape := ⟨2, ![128, 128]⟩
abbrev S128x256 : Shape := ⟨2, ![128, 256]⟩

abbrev nBuf : Space → Nat
  | .hbm => 2
  | .vmem => 8
  | .smem => 0
  | _ => 0

abbrev bufTy : (tb : Table) → Fin (tcTables nBuf tb) → BufTy
  | .hbm, ⟨0, _⟩ => ⟨S4x4096x5632, .f32⟩
  | .hbm, ⟨1, _⟩ => ⟨S4x4096x512, .f32⟩
  | .local _ .vmem, ⟨0, _⟩ => ⟨S1x128x128, .f32⟩
  | .local _ .vmem, ⟨1, _⟩ => ⟨S1x128x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128x128, .f32⟩
  | .local _ .vmem, ⟨7, _⟩ => ⟨S1x128x128, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c128_i32_4 : BitVec 32 := 128#32
  let v16 : BitVec 32 := Scalar.muli arg2 c128_i32_4
  v16
def k0_off1 (i : grid0.Coords) : Fin 3 → Nat :=
  let c0_5 : Index := 0#32
  let arg2 : BitVec 32 := BitVec.ofNat 32 (i 2).val
  let c128_i32_4 : BitVec 32 := 128#32
  let v16 : BitVec 32 := Scalar.muli arg2 c128_i32_4
  let v17 : BitVec 32 := v16
  let v18 : Index := Scalar.indexCast v17
  let c0_6 : Index := 0#32
  ![0, v18.toNat, 0]
@[reducible] def k0_t1_loop (i : grid0.Coords) : Scf.Loop 32 :=
  let c0_i32 : BitVec 32 := 0#32
  let arg2 : BitVec 32 := BitVec.ofNat 32 (i 2).val
  let v63 : BitVec 32 := Scalar.subi arg2 c0_i32
  let c1_i32 : BitVec 32 := 1#32
  let v65 : BitVec 32 := Scalar.divsi v63 c1_i32
  let v66 : BitVec 32 := Scalar.muli v65 c1_i32
  let v67 : BitVec 32 := Scalar.addi c0_i32 v66
  let c1_i32_21 : BitVec 32 := 1#32
  ⟨c0_i32, v67, c1_i32_21⟩
def k0_mult2 (i : grid0.Coords) (k0_t1 : Fin (k0_t1_loop i).trips) : BitVec 32 :=
  let arg2 : BitVec 32 := BitVec.ofNat 32 (i 2).val
  let c1_i32_26 : BitVec 32 := 1#32
  let v73 : BitVec 32 := Scalar.subi arg2 c1_i32_26
  let c0_i32 : BitVec 32 := 0#32
  let c1_i32_21 : BitVec 32 := 1#32
  let arg7 : BitVec 32 := Scf.iv c0_i32 c1_i32_21 k0_t1
  let v74 : BitVec 32 := Scalar.subi v73 arg7
  let c128_i32_27 : BitVec 32 := 128#32
  let v75 : BitVec 32 := Scalar.muli v74 c128_i32_27
  v75
def k0_off2 (i : grid0.Coords) (k0_t1 : Fin (k0_t1_loop i).trips) : Fin 3 → Nat :=
  let c0_28 : Index := 0#32
  let arg2 : BitVec 32 := BitVec.ofNat 32 (i 2).val
  let c1_i32_26 : BitVec 32 := 1#32
  let v73 : BitVec 32 := Scalar.subi arg2 c1_i32_26
  let c0_i32 : BitVec 32 := 0#32
  let c1_i32_21 : BitVec 32 := 1#32
  let arg7 : BitVec 32 := Scf.iv c0_i32 c1_i32_21 k0_t1
  let v74 : BitVec 32 := Scalar.subi v73 arg7
  let c128_i32_27 : BitVec 32 := 128#32
  let v75 : BitVec 32 := Scalar.muli v74 c128_i32_27
  let v76 : BitVec 32 := v75
  let v77 : Index := Scalar.indexCast v76
  let c0_29 : Index := 0#32
  ![0, v77.toNat, 0]
@[reducible] def k0_t2_loop (i : grid0.Coords) : Scf.Loop 32 :=
  let c0_i32 : BitVec 32 := 0#32
  let arg2 : BitVec 32 := BitVec.ofNat 32 (i 2).val
  let v63 : BitVec 32 := Scalar.subi arg2 c0_i32
  let c1_i32 : BitVec 32 := 1#32
  let v65 : BitVec 32 := Scalar.divsi v63 c1_i32
  let v66 : BitVec 32 := Scalar.muli v65 c1_i32
  let v67 : BitVec 32 := Scalar.addi c0_i32 v66
  let v64 : BitVec 32 := Scalar.addi c0_i32 v63
  let c1_i32_22 : BitVec 32 := 1#32
  ⟨v67, v64, c1_i32_22⟩
def k0_mult3 (i : grid0.Coords) (k0_t2 : Fin (k0_t2_loop i).trips) : BitVec 32 :=
  let arg2 : BitVec 32 := BitVec.ofNat 32 (i 2).val
  let c1_i32_26 : BitVec 32 := 1#32
  let v73 : BitVec 32 := Scalar.subi arg2 c1_i32_26
  let c0_i32 : BitVec 32 := 0#32
  let v63 : BitVec 32 := Scalar.subi arg2 c0_i32
  let c1_i32 : BitVec 32 := 1#32
  let v65 : BitVec 32 := Scalar.divsi v63 c1_i32
  let v66 : BitVec 32 := Scalar.muli v65 c1_i32
  let v67 : BitVec 32 := Scalar.addi c0_i32 v66
  let c1_i32_22 : BitVec 32 := 1#32
  let arg7 : BitVec 32 := Scf.iv v67 c1_i32_22 k0_t2
  let v74 : BitVec 32 := Scalar.subi v73 arg7
  let c128_i32_27 : BitVec 32 := 128#32
  let v75 : BitVec 32 := Scalar.muli v74 c128_i32_27
  v75
def k0_off3 (i : grid0.Coords) (k0_t2 : Fin (k0_t2_loop i).trips) : Fin 3 → Nat :=
  let c0_28 : Index := 0#32
  let arg2 : BitVec 32 := BitVec.ofNat 32 (i 2).val
  let c1_i32_26 : BitVec 32 := 1#32
  let v73 : BitVec 32 := Scalar.subi arg2 c1_i32_26
  let c0_i32 : BitVec 32 := 0#32
  let v63 : BitVec 32 := Scalar.subi arg2 c0_i32
  let c1_i32 : BitVec 32 := 1#32
  let v65 : BitVec 32 := Scalar.divsi v63 c1_i32
  let v66 : BitVec 32 := Scalar.muli v65 c1_i32
  let v67 : BitVec 32 := Scalar.addi c0_i32 v66
  let c1_i32_22 : BitVec 32 := 1#32
  let arg7 : BitVec 32 := Scf.iv v67 c1_i32_22 k0_t2
  let v74 : BitVec 32 := Scalar.subi v73 arg7
  let c128_i32_27 : BitVec 32 := 128#32
  let v75 : BitVec 32 := Scalar.muli v74 c128_i32_27
  let v76 : BitVec 32 := v75
  let v77 : Index := Scalar.indexCast v76
  let c0_29 : Index := 0#32
  ![0, v77.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x5632 : Shape := ⟨3, ![4, 4096, 5632]⟩
abbrev S4x4096x512 : Shape := ⟨3, ![4, 4096, 512]⟩
abbrev S4x4096x4x128 : Shape := ⟨4, ![4, 4096, 4, 128]⟩
abbrev S4096 : Shape := ⟨1, ![4096]⟩
abbrev S4x4x4096x4096 : Shape := ⟨4, ![4, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4x128x4096 : Shape := ⟨4, ![4, 4, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S4x4096x512, .f32⟩
  | .hbm, ⟨2, _⟩ => ⟨S4x4096x4x128, .f32⟩
  | .hbm, ⟨3, _⟩ => ⟨S4x4096x512, .f32⟩
  | .hbm, ⟨4, _⟩ => ⟨S4x4096x4x128, .f32⟩
  | .hbm, ⟨5, _⟩ => ⟨S4x4096x512, .f32⟩
  | .hbm, ⟨6, _⟩ => ⟨S4x4096x4x128, .f32⟩
  | .hbm, ⟨7, _⟩ => ⟨S4096, .i32⟩
  | .hbm, ⟨8, _⟩ => ⟨S4096, .i32⟩
  | .hbm, ⟨9, _⟩ => ⟨S4x4x4096x4096, .f32⟩
  | .hbm, ⟨10, _⟩ => ⟨S_, .f32⟩
  | .hbm, ⟨11, _⟩ => ⟨S4x4x4096x4096, .f32⟩
  | .hbm, ⟨12, _⟩ => ⟨S4x4x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4x4x4096x4096, .f32⟩
  | .hbm, ⟨19, _⟩ => ⟨S4x4x4096x4096, .f32⟩
  | .hbm, ⟨20, _⟩ => ⟨S_, .f32⟩
  | .hbm, ⟨21, _⟩ => ⟨S4x4x4096x4096, .f32⟩
  | .hbm, ⟨22, _⟩ => ⟨S4x4x4096x4096, .f32⟩
  | .hbm, ⟨23, _⟩ => ⟨S4x4x4096x4096, .f32⟩
  | .hbm, ⟨24, _⟩ => ⟨S4x4x4096x4096, .f32⟩
  | .hbm, ⟨25, _⟩ => ⟨S4x4x4096x4096, .i1⟩
  | .hbm, ⟨26, _⟩ => ⟨S4x4x4096x4096, .f32⟩
  | .hbm, ⟨27, _⟩ => ⟨S4x4x4096x4096, .f32⟩
  | .hbm, ⟨28, _⟩ => ⟨S4x4x4096x4096, .f32⟩
  | .hbm, ⟨29, _⟩ => ⟨S4x4x4096x4096, .f32⟩
  | .hbm, ⟨30, _⟩ => ⟨S4x4x4096x4096, .f32⟩
  | .hbm, ⟨31, _⟩ => ⟨S4x4x4096x4096, .f32⟩
  | .hbm, ⟨32, _⟩ => ⟨S4x4x4096x4096, .f32⟩
  | .hbm, ⟨33, _⟩ => ⟨S4x4x4096x4096, .f32⟩
  | .hbm, ⟨34, _⟩ => ⟨S4x4x4096x4096, .f32⟩
  | .hbm, ⟨35, _⟩ => ⟨S_, .f32⟩
  | .hbm, ⟨36, _⟩ => ⟨S_, .f32⟩
  | .hbm, ⟨37, _⟩ => ⟨S4x4x4096x4096, .i1⟩
  | .hbm, ⟨38, _⟩ => ⟨S4x4x4096x4096, .f32⟩
  | .hbm, ⟨39, _⟩ => ⟨S4x4x4096x4096, .f32⟩
  | .hbm, ⟨40, _⟩ => ⟨S_, .f32⟩
  | .hbm, ⟨41, _⟩ => ⟨S_, .f32⟩
  | .hbm, ⟨42, _⟩ => ⟨S4x4x4096x4096, .f32⟩
  | .hbm, ⟨43, _⟩ => ⟨S4x4x4096x4096, .f32⟩
  | .hbm, ⟨44, _⟩ => ⟨S4x4x4096x4096, .f32⟩
  | .hbm, ⟨45, _⟩ => ⟨S_, .f32⟩
  | .hbm, ⟨46, _⟩ => ⟨S4x4x4096x4096, .f32⟩
  | .hbm, ⟨47, _⟩ => ⟨S4x4x4096x4096, .f32⟩
  | .hbm, ⟨48, _⟩ => ⟨S4x4x4096x4096, .f32⟩
  | .hbm, ⟨49, _⟩ => ⟨S4x4x4096x4096, .f32⟩
  | .hbm, ⟨50, _⟩ => ⟨S4x4x4096x4096, .i1⟩
  | .hbm, ⟨51, _⟩ => ⟨S4x4x4096x4096, .f32⟩
  | .hbm, ⟨52, _⟩ => ⟨S4x4x4096x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x4096x4096, .f32⟩
  | .hbm, ⟨57, _⟩ => ⟨S4x4x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S_, .f32⟩
  | .hbm, ⟨63, _⟩ => ⟨S_, .f32⟩
  | .hbm, ⟨64, _⟩ => ⟨S4x4x4096x4096, .i1⟩
  | .hbm, ⟨65, _⟩ => ⟨S4x4x4096x4096, .f32⟩
  | .hbm, ⟨66, _⟩ => ⟨S4x4x4096x4096, .f32⟩
  | .hbm, ⟨67, _⟩ => ⟨S4x4x128x4096, .f32⟩
  | .hbm, ⟨68, _⟩ => ⟨S4x4096x4x128, .f32⟩
  | .hbm, ⟨69, _⟩ => ⟨S4x4096x512, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== Matmul.lean ====
abbrev S16384x1024 : Shape := ⟨2, ![16384, 1024]⟩
abbrev S1024x5632 : Shape := ⟨2, ![1024, 5632]⟩
abbrev S16384x5632 : Shape := ⟨2, ![16384, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S16384x5632, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatmulRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gate.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .f32⟩
  | .hbm, ⟨4, _⟩ => ⟨S16384x3072, .f32⟩
  | .hbm, ⟨5, _⟩ => ⟨S_, .f32⟩
  | .hbm, ⟨6, _⟩ => ⟨S16384x3072, .f32⟩
  | .hbm, ⟨7, _⟩ => ⟨S16384x3072, .f32⟩
  | .hbm, ⟨8, _⟩ => ⟨S_, .f32⟩
  | .hbm, ⟨9, _⟩ => ⟨S16384x3072, .f32⟩
  | .hbm, ⟨10, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S16384x3x1024 : Shape := ⟨3, ![16384, 3, 1024]⟩
abbrev S16384x1x1024 : Shape := ⟨3, ![16384, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x3x1024, .f32⟩
  | .hbm, ⟨12, _⟩ => ⟨S16384x1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Hgrn.lean ====
abbrev S4x4096x5632 : Shape := ⟨3, ![4, 4096, 5632]⟩
abbrev S2x512 : Shape := ⟨2, ![2, 512]⟩
abbrev S4x4x128x128 : Shape := ⟨4, ![4, 4, 128, 128]⟩
abbrev S128 : Shape := ⟨1, ![128]⟩
abbrev S1x128 : Shape := ⟨2, ![1, 128]⟩
abbrev S4x4096x512 : Shape := ⟨3, ![4, 4096, 512]⟩
abbrev S1x128x128 : Shape := ⟨3, ![1, 128, 128]⟩
abbrev S2x128 : Shape := ⟨2, ![2, 128]⟩
abbrev S1x1x128x128 : Shape := ⟨4, ![1, 1, 128, 128]⟩
abbrev S128x128 : Shape := ⟨2, ![128, 128]⟩
abbrev S16x128 : Shape := ⟨2, ![16, 128]⟩
abbrev S256x128 : Shape := ⟨2, ![256, 128]⟩
abbrev S128x16 : Shape := ⟨2, ![128, 16]⟩
abbrev S128x1 : Shape := ⟨2, ![128, 1]⟩

abbrev nBuf : Space → Nat
  | .hbm => 7
  | .vmem => 18
  | .smem => 0
  | _ => 0

abbrev bufTy : (tb : Table) → Fin (tcTables nBuf tb) → BufTy
  | .hbm, ⟨0, _⟩ => ⟨S4x4096x5632, .f32⟩
  | .hbm, ⟨1, _⟩ => ⟨S2x512, .f32⟩
  | .hbm, ⟨2, _⟩ => ⟨S4x4x128x128, .f32⟩
  | .hbm, ⟨3, _⟩ => ⟨S128, .f32⟩
  | .hbm, ⟨4, _⟩ => ⟨S1x128, .f32⟩
  | .hbm, ⟨5, _⟩ => ⟨S4x4096x512, .f32⟩
  | .hbm, ⟨6, _⟩ => ⟨S4x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S2x128, .f32⟩
  | .local _ .vmem, ⟨9, _⟩ => ⟨S2x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x128, .f32⟩
  | .local _ .vmem, ⟨13, _⟩ => ⟨S1x128x128, .f32⟩
  | .local _ .vmem, ⟨14, _⟩ => ⟨S1x128x128, .f32⟩
  | .local _ .vmem, ⟨15, _⟩ => ⟨S1x1x128x128, .f32⟩
  | .local _ .vmem, ⟨16, _⟩ => ⟨S1x1x128x128, .f32⟩
  | .local _ .vmem, ⟨17, _⟩ => ⟨S128x128, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 32], ![false, false, false]⟩

def k0_cond2 (i : grid0.Coords) : BitVec 1 :=
  let arg2 : BitVec 32 := BitVec.ofNat 32 (i 2).val
  let c31_i32 : BitVec 32 := 31#32
  let v2743 : BitVec 1 := Scalar.cmpi .eq arg2 c31_i32
  let v2744 : BitVec 32 := Scalar.extui v2743
  let c0_i32_443 : BitVec 32 := 0#32
  let v2745 : BitVec 1 := Scalar.cmpi .ne v2744 c0_i32_443
  v2745

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnRefIdeal.lean ====
abbrev S4x4096x5632 : Shape := ⟨3, ![4, 4096, 5632]⟩
abbrev S2x512 : Shape := ⟨2, ![2, 512]⟩
abbrev S4x4x128x128 : Shape := ⟨4, ![4, 4, 128, 128]⟩
abbrev S128 : Shape := ⟨1, ![128]⟩
abbrev S4x4096x512 : Shape := ⟨3, ![4, 4096, 512]⟩
abbrev S4x4096x4x128 : Shape := ⟨4, ![4, 4096, 4, 128]⟩
abbrev S_ : Shape := ⟨0, ![]⟩
abbrev S512 : Shape := ⟨1, ![512]⟩
abbrev S1x512 : Shape := ⟨2, ![1, 512]⟩
abbrev S4x128 : Shape := ⟨2, ![4, 128]⟩
abbrev S1x1x4x128 : Shape := ⟨4, ![1, 1, 4, 128]⟩
abbrev S4x4x128x4096 : Shape := ⟨4, ![4, 4, 128, 4096]⟩
abbrev S4096x4096 : Shape := ⟨2, ![4096, 4096]⟩
abbrev S4x4096x1x4x128 : Shape := ⟨5, ![4, 4096, 1, 4, 128]⟩
abbrev S4x1x4096x4x128 : Shape := ⟨5, ![4, 1, 4096, 4, 128]⟩
abbrev S4x4096x4096x4x128 : Shape := ⟨5, ![4, 4096, 4096, 4, 128]⟩
abbrev S4096x4096x1x1 : Shape := ⟨4, ![4096, 4096, 1, 1]⟩
abbrev S4x4096x4096x4 : Shape := ⟨4, ![4, 4096, 4096, 4]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 155
  | .vmem => 0
  | .smem => 0
  | _ => 0

abbrev hbmTy0_0 (i : Nat) : BufTy := match i % 128 with
  | 0 => ⟨S4x4096x5632, .f32⟩
  | 1 => ⟨S2x512, .f32⟩
  | 2 => ⟨S4x4x128x128, .f32⟩
  | 3 => ⟨S128, .f32⟩
  | 4 => ⟨S4x4096x512, .f32⟩
  | 5 => ⟨S4x4096x4x128, .f32⟩
  | 6 => ⟨S4x4096x512, .f32⟩
  | 7 => ⟨S4x4096x4x128, .f32⟩
  | 8 => ⟨S4x4096x512, .f32⟩
  | 9 => ⟨S4x4096x4x128, .f32⟩
  | 10 => ⟨S4x4096x512, .f32⟩
  | 11 => ⟨S4x4096x4x128, .f32⟩
  | 12 => ⟨S_, .f32⟩
  | 13 => ⟨S512, .f32⟩
  | 14 => ⟨S_, .f32⟩
  | 15 => ⟨S512, .f32⟩
  | 16 => ⟨S512, .f32⟩
  | 17 => ⟨S1x512, .f32⟩
  | 18 => ⟨S2x512, .f32⟩
  | 19 => ⟨S2x512, .f32⟩
  | 20 => ⟨S2x512, .f32⟩
  | 21 => ⟨S_, .f32⟩
  | 22 => ⟨S512, .f32⟩
  | 23 => ⟨S1x512, .f32⟩
  | 24 => ⟨S2x512, .f32⟩
  | 25 => ⟨S2x512, .f32⟩
  | 26 => ⟨S_, .f32⟩
  | 27 => ⟨S_, .f32⟩
  | 28 => ⟨S2x512, .f32⟩
  | 29 => ⟨S1x512, .f32⟩
  | 30 => ⟨S2x512, .f32⟩
  | 31 => ⟨S2x512, .f32⟩
  | 32 => ⟨S1x512, .f32⟩
  | 33 => ⟨S512, .f32⟩
  | 34 => ⟨S4x128, .f32⟩
  | 35 => ⟨S_, .f32⟩
  | 36 => ⟨S4x128, .f32⟩
  | 37 => ⟨S4x128, .f32⟩
  | 38 => ⟨S4x4096x4x128, .f32⟩
  | 39 => ⟨S4x4096x4x128, .f32⟩
  | 40 => ⟨S_, .f32⟩
  | 41 => ⟨S4x4096x4x128, .f32⟩
  | 42 => ⟨S4x4096x4x128, .f32⟩
  | 43 => ⟨S_, .f32⟩
  | 44 => ⟨S4x4096x4x128, .f32⟩
  | 45 => ⟨S4x4096x4x128, .f32⟩
  | 46 => ⟨S1x1x4x128, .f32⟩
  | 47 => ⟨S4x4096x4x128, .f32⟩
  | 48 => ⟨S4x4096x4x128, .f32⟩
  | 49 => ⟨S1x1x4x128, .f32⟩
  | 50 => ⟨S4x4096x4x128, .f32⟩
  | 51 => ⟨S4x4096x4x128, .f32⟩
  | 52 => ⟨S_, .f32⟩
  | 53 => ⟨S4x4096x4x128, .f32⟩
  | 54 => ⟨S4x4096x4x128, .f32⟩
  | 55 => ⟨S4x4096x4x128, .f32⟩
  | 56 => ⟨S_, .f32⟩
  | 57 => ⟨S4x128, .f32⟩
  | 58 => ⟨S4x128, .f32⟩
  | 59 => ⟨S4x4096x4x128, .f32⟩
  | 60 => ⟨S4x4096x4x128, .f32⟩
  | 61 => ⟨S4x4096x4x128, .f32⟩
  | 62 => ⟨S_, .f32⟩
  | 63 => ⟨S4x4096x4x128, .f32⟩
  | 64 => ⟨S4x4096x4x128, .f32⟩
  | 65 => ⟨S_, .f32⟩
  | 66 => ⟨S4x4096x4x128, .f32⟩
  | 67 => ⟨S4x4096x4x128, .f32⟩
  | 68 => ⟨S1x1x4x128, .f32⟩
  | 69 => ⟨S4x4096x4x128, .f32⟩
  | 70 => ⟨S4x4096x4x128, .f32⟩
  | 71 => ⟨S_, .f32⟩
  | 72 => ⟨S_, .f32⟩
  | 73 => ⟨S4x4096x4x128, .f32⟩
  | 74 => ⟨S4x4096x4x128, .f32⟩
  | 75 => ⟨S4x4096x4x128, .f32⟩
  | 76 => ⟨S4x4x128x4096, .f32⟩
  | 77 => ⟨S4x4096x4x128, .f32⟩
  | 78 => ⟨S_, .i1⟩
  | 79 => ⟨S4096x4096, .i1⟩
  | 80 => ⟨S4096x4096, .i32⟩
  | 81 => ⟨S_, .i32⟩
  | 82 => ⟨S4096x4096, .i32⟩
  | 83 => ⟨S4096x4096, .i32⟩
  | 84 => ⟨S4096x4096, .i32⟩
  | 85 => ⟨S4096x4096, .i1⟩
  | 86 => ⟨S_, .i1⟩
  | 87 => ⟨S4096x4096, .i1⟩
  | 88 => ⟨S4096x4096, .i1⟩
  | 89 => ⟨S4x4096x1x4x128, .f32⟩
  | 90 => ⟨S4x1x4096x4x128, .f32⟩
  | 91 => ⟨S4x4096x4096x4x128, .f32⟩
  | 92 => ⟨S4x4096x4096x4x128, .f32⟩
  | 93 => ⟨S4x4096x4096x4x128, .f32⟩
  | 94 => ⟨S4096x4096x1x1, .i1⟩
  | 95 => ⟨S_, .f32⟩
  | 96 => ⟨S4x4096x4096x4x128, .f32⟩
  | 97 => ⟨S4x4096x4096x4x128, .f32⟩
  | 98 => ⟨S4x4096x4096x4x128, .f32⟩
  | 99 => ⟨S_, .f32⟩
  | 100 => ⟨S_, .f32⟩
  | 101 => ⟨S4x4096x4096x4x128, .i1⟩
  | 102 => ⟨S4x4096x4096x4x128, .f32⟩
  | 103 => ⟨S4x4096x4096x4x128, .f32⟩
  | 104 => ⟨S4x4096x1x4x128, .f32⟩
  | 105 => ⟨S4x1x4096x4x128, .f32⟩
  | 106 => ⟨S4x4096x4096x4x128, .f32⟩
  | 107 => ⟨S4x4096x4096x4x128, .f32⟩
  | 108 => ⟨S4x4096x4096x4x128, .f32⟩
  | 109 => ⟨S4x4096x4096x4x128, .f32⟩
  | 110 => ⟨S_, .f32⟩
  | 111 => ⟨S4x4096x4096x4, .f32⟩
  | 112 => ⟨S4x4x128x4096, .f32⟩
  | 113 => ⟨S4x4096x4x128, .f32⟩
  | 114 => ⟨S4x4096x4x128, .f32⟩
  | 115 => ⟨S4x1x4x128, .f32⟩
  | 116 => ⟨S4x4x128, .f32⟩
  | 117 => ⟨S4x4x128, .f32⟩
  | 118 => ⟨S4x4x128x1, .f32⟩
  | 119 => ⟨S4x4x128x128, .f32⟩
  | 120 => ⟨S4x4x128x128, .f32⟩
  | 121 => ⟨S4x1x4x128, .f32⟩
  | 122 => ⟨S4x4096x4x128, .f32⟩
  | 123 => ⟨S4x4096x4x128, .f32⟩
  | 124 => ⟨S4x4096x4x128, .f32⟩
  | 125 => ⟨S4x4096x4x128, .f32⟩
  | 126 => ⟨S4x4x128x128, .f32⟩
  | 127 => ⟨S4x4x128x128, .f32⟩
  | _ => ⟨S4x4096x5632, .f32⟩

abbrev hbmTy0_1 (i : Nat) : BufTy := match i % 128 with
  | 0 => ⟨S4x4096x4x128, .f32⟩
  | 1 => ⟨S_, .f32⟩
  | 2 => ⟨S4x4096x4, .f32⟩
  | 3 => ⟨S4x4096x4x1, .f32⟩
  | 4 => ⟨S_, .f32⟩
  | 5 => ⟨S4x4096x4x1, .f32⟩
  | 6 => ⟨S4x4096x4x1, .f32⟩
  | 7 => ⟨S_, .f32⟩
  | 8 => ⟨S4x4096x4x1, .f32⟩
  | 9 => ⟨S4x4096x4x1, .f32⟩
  | 10 => ⟨S4x4096x4x1, .f32⟩
  | 11 => ⟨S4x4096x4x128, .f32⟩
  | 12 => ⟨S4x4096x4x128, .f32⟩
  | 13 => ⟨S1x1x1x128, .f32⟩
  | 14 => ⟨S4x4096x4x128, .f32⟩
  | 15 => ⟨S4x4096x4x128, .f32⟩
  | 16 => ⟨S4x4096x4x128, .f32⟩
  | 17 => ⟨S4x4096x4x128, .f32⟩
  | 18 => ⟨S_, .f32⟩
  | 19 => ⟨S4x4096x4x128, .f32⟩
  | 20 => ⟨S4x4096x4x128, .f32⟩
  | 21 => ⟨S_, .f32⟩
  | 22 => ⟨S4x4096x4x128, .f32⟩
  | 23 => ⟨S4x4096x4x128, .f32⟩
  | 24 => ⟨S4x4096x4x128, .f32⟩
  | 25 => ⟨S4x4096x4x128, .f32⟩
  | 26 => ⟨S4x4096x512, .f32⟩
  | _ => ⟨S4x4096x5632, .f32⟩

abbrev hbmTy (i : Nat) : BufTy := match i / 128 with
  | 0 => hbmTy0_0 i
  | 1 => hbmTy0_1 i
  | _ => ⟨S4x4096x5632, .f32⟩

abbrev bufTy : (tb : Table) → Fin (tcTables nBuf tb) → BufTy
  | .hbm, ⟨i, _⟩ => hbmTy i
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_call0_cst : Ref sig .tc := ⟨.hbm, 26, rfl⟩
abbrev main_call0_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call1_call0_cst : Ref sig .tc := ⟨.hbm, 71, rfl⟩
abbrev main_call1_call0_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c : Ref sig .tc := ⟨.hbm, 78, rfl⟩
abbrev main_v60 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_12 : Ref sig .tc := ⟨.hbm, 129, rfl⟩
abbrev main_v96 : Ref sig .tc := ⟨.hbm, 130, rfl⟩
abbrev main_v97 : Ref sig .tc := ⟨.hbm, 131, rfl⟩
abbrev main_cst_13 : Ref sig .tc := ⟨.hbm, 132, rfl⟩
abbrev main_v98 : Ref sig .tc := ⟨.hbm, 133, rfl⟩
abbrev main_v99 : Ref sig .tc := ⟨.hbm, 134, rfl⟩
abbrev main_cst_14 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩

abbrev nD : Nat := 1
abbrev τ : Topo := Topo.v7x

variable {F : FTy → Type} [FloatOps F]
-- ==== Conv.lean ====
abbrev S4x4096x5632 : Shape := ⟨3, ![4, 4096, 5632]⟩
abbrev S4x2x2816 : Shape := ⟨3, ![4, 2, 2816]⟩
abbrev S3x2816 : Shape := ⟨2, ![3, 2816]⟩
abbrev S2816 : Shape := ⟨1, ![2816]⟩
abbrev S1x2816 : Shape := ⟨2, ![1, 2816]⟩
abbrev S4x4096x2816 : Shape := ⟨3, ![4, 4096, 2816]⟩
abbrev S1x256x2816 : Shape := ⟨3, ![1, 256, 2816]⟩
abbrev S1x8x2816 : Shape := ⟨3, ![1, 8, 2816]⟩
abbrev S1x2x2816 : Shape := ⟨3, ![1, 2, 2816]⟩
abbrev S256x2816 : Shape := ⟨2, ![256, 2816]⟩
abbrev S1x1x2816 : Shape := ⟨3, ![1, 1, 2816]⟩
abbrev S2x2816 : Shape := ⟨2, ![2, 2816]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x5632, .f32⟩
  | .hbm, ⟨1, _⟩ => ⟨S4x2x2816, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S4x4096x2816, .bf16⟩
  | .hbm, ⟨6, _⟩ => ⟨S4x2x2816, .f32⟩
  | .local _ .vmem, ⟨0, _⟩ => ⟨S1x256x2816, .f32⟩
  | .local _ .vmem, ⟨1, _⟩ => ⟨S1x256x2816, .f32⟩
  | .local _ .vmem, ⟨2, _⟩ => ⟨S1x8x2816, .f32⟩
  | .local _ .vmem, ⟨3, _⟩ => ⟨S1x8x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x2x2816, .f32⟩
  | .local _ .vmem, ⟨7, _⟩ => ⟨S1x2x2816, .f32⟩
  | .local _ .vmem, ⟨8, _⟩ => ⟨S3x2816, .f32⟩
  | .local _ .vmem, ⟨9, _⟩ => ⟨S1x2816, .f32⟩
  | .local _ .vmem, ⟨10, _⟩ => ⟨S1x256x2816, .bf16⟩
  | .local _ .vmem, ⟨11, _⟩ => ⟨S1x256x2816, .bf16⟩
  | .local _ .vmem, ⟨12, _⟩ => ⟨S1x2x2816, .f32⟩
  | .local _ .vmem, ⟨13, _⟩ => ⟨S1x2x2816, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_30 : BitVec 32 := 0#32
  let v68 : BitVec 1 := Scalar.cmpi .ne v67 c0_i32_30
  v68

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S4x4096x5632 : Shape := ⟨3, ![4, 4096, 5632]⟩
abbrev S4x2x2816 : Shape := ⟨3, ![4, 2, 2816]⟩
abbrev S3x2816 : Shape := ⟨2, ![3, 2816]⟩
abbrev S2816 : Shape := ⟨1, ![2816]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S4x2x2816, .f32⟩
  | .hbm, ⟨2, _⟩ => ⟨S3x2816, .f32⟩
  | .hbm, ⟨3, _⟩ => ⟨S2816, .f32⟩
  | .hbm, ⟨4, _⟩ => ⟨S4x4096x2816, .f32⟩
  | .hbm, ⟨5, _⟩ => ⟨S4x4096x2816, .f32⟩
  | .hbm, ⟨6, _⟩ => ⟨S4x4098x2816, .f32⟩
  | .hbm, ⟨7, _⟩ => ⟨S1x2816, .f32⟩
  | .hbm, ⟨8, _⟩ => ⟨S2816, .f32⟩
  | .hbm, ⟨9, _⟩ => ⟨S4x4096x2816, .f32⟩
  | .hbm, ⟨10, _⟩ => ⟨S1x1x2816, .f32⟩
  | .hbm, ⟨11, _⟩ => ⟨S4x4096x2816, .f32⟩
  | .hbm, ⟨12, _⟩ => ⟨S4x4096x2816, .f32⟩
  | .hbm, ⟨13, _⟩ => ⟨S1x1x2816, .f32⟩
  | .hbm, ⟨14, _⟩ => ⟨S4x4096x2816, .f32⟩
  | .hbm, ⟨15, _⟩ => ⟨S4x4096x2816, .f32⟩
  | .hbm, ⟨16, _⟩ => ⟨S1x2816, .f32⟩
  | .hbm, ⟨17, _⟩ => ⟨S2816, .f32⟩
  | .hbm, ⟨18, _⟩ => ⟨S4x4096x2816, .f32⟩
  | .hbm, ⟨19, _⟩ => ⟨S1x1x2816, .f32⟩
  | .hbm, ⟨20, _⟩ => ⟨S4x4096x2816, .f32⟩
  | .hbm, ⟨21, _⟩ => ⟨S4x4096x2816, .f32⟩
  | .hbm, ⟨22, _⟩ => ⟨S4x4096x2816, .f32⟩
  | .hbm, ⟨23, _⟩ => ⟨S1x2816, .f32⟩
  | .hbm, ⟨24, _⟩ => ⟨S2816, .f32⟩
  | .hbm, ⟨25, _⟩ => ⟨S4x4096x2816, .f32⟩
  | .hbm, ⟨26, _⟩ => ⟨S1x1x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S_, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .bf16⟩
  | .hbm, ⟨49, _⟩ => ⟨S4x2x2816, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Prep.lean ====
abbrev S4x4096x5632 : Shape := ⟨3, ![4, 4096, 5632]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4x4096x512 : Shape := ⟨3, ![4, 4096, 512]⟩
abbrev S4x4096x256 : Shape := ⟨3, ![4, 4096, 256]⟩
abbrev S4x4096x64 : Shape := ⟨3, ![4, 4096, 64]⟩
abbrev S1x128x512 : Shape := ⟨3, ![1, 128, 512]⟩
abbrev S1x128x256 : Shape := ⟨3, ![1, 128, 256]⟩
abbrev S1x128x128 : Shape := ⟨3, ![1, 128, 128]⟩
abbrev S128x128 : Shape := ⟨2, ![128, 128]⟩
abbrev S1x128x64 : Shape := ⟨3, ![1, 128, 64]⟩
abbrev S128x512 : Shape := ⟨2, ![128, 512]⟩
abbrev S128x64 : Shape := ⟨2, ![128, 64]⟩

abbrev nBuf : Space → Nat
  | .hbm => 83
  | .vmem => 36
  | .smem => 0
  | _ => 0

abbrev bufTy : (tb : Table) → Fin (tcTables nBuf tb) → BufTy
  | .hbm, ⟨0, _⟩ => ⟨S4x4096x5632, .f32⟩
  | .hbm, ⟨1, _⟩ => ⟨S4096, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .f32⟩
  | .hbm, ⟨13, _⟩ => ⟨S4096x1, .f32⟩
  | .hbm, ⟨14, _⟩ => ⟨S1x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x96, .f32⟩
  | .hbm, ⟨22, _⟩ => ⟨S_, .f32⟩
  | .hbm, ⟨23, _⟩ => ⟨S4096x96, .f32⟩
  | .hbm, ⟨24, _⟩ => ⟨S_, .f32⟩
  | .hbm, ⟨25, _⟩ => ⟨S4096x16, .f32⟩
  | .hbm, ⟨26, _⟩ => ⟨S4096x128, .f32⟩
  | .hbm, ⟨27, _⟩ => ⟨S4096x128, .f32⟩
  | .hbm, ⟨28, _⟩ => ⟨S4096x16, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S1x4096x1x128, .f32⟩
  | .hbm, ⟨34, _⟩ => ⟨S1x4096x1x128, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S4096, .f32⟩
  | .hbm, ⟨50, _⟩ => ⟨S4096x1, .f32⟩
  | .hbm, ⟨51, _⟩ => ⟨S1x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S_, .f32⟩
  | .hbm, ⟨58, _⟩ => ⟨S4096x48, .f32⟩
  | .hbm, ⟨59, _⟩ => ⟨S_, .f32⟩
  | .hbm, ⟨60, _⟩ => ⟨S4096x48, .f32⟩
  | .hbm, ⟨61, _⟩ => ⟨S_, .f32⟩
  | .hbm, ⟨62, _⟩ => ⟨S4096x8, .f32⟩
  | .hbm, ⟨63, _⟩ => ⟨S4096x64, .f32⟩
  | .hbm, ⟨64, _⟩ => ⟨S4096x64, .f32⟩
  | .hbm, ⟨65, _⟩ => ⟨S4096x8, .f32⟩
  | .hbm, ⟨66, _⟩ => ⟨S4096x64, .f32⟩
  | .hbm, ⟨67, _⟩ => ⟨S1x4096x1x64, .f32⟩
  | .hbm, ⟨68, _⟩ => ⟨S1x4096x2x64, .f32⟩
  | .hbm, ⟨69, _⟩ => ⟨S4096x128, .f32⟩
  | .hbm, ⟨70, _⟩ => ⟨S1x4096x1x64, .f32⟩
  | .hbm, ⟨71, _⟩ => ⟨S1x4096x2x64, .f32⟩
  | .hbm, ⟨72, _⟩ => ⟨S4096x128, .f32⟩
  | .hbm, ⟨73, _⟩ => ⟨S1x4096x1x64, .f32⟩
  | .hbm, ⟨74, _⟩ => ⟨S1x4096x2x64, .f32⟩
  | .hbm, ⟨75, _⟩ => ⟨S4096x128, .f32⟩
  | .hbm, ⟨76, _⟩ => ⟨S4x4096x512, .bf16⟩
  | .hbm, ⟨77, _⟩ => ⟨S4x4096x512, .f32⟩
  | .hbm, ⟨78, _⟩ => ⟨S4x4096x512, .bf16⟩
  | .hbm, ⟨79, _⟩ => ⟨S4x4096x512, .bf16⟩
  | .hbm, ⟨80, _⟩ => ⟨S4x4096x256, .bf16⟩
  | .hbm, ⟨81, _⟩ => ⟨S4x4096x64, .f32⟩
  | .hbm, ⟨82, _⟩ => ⟨S4x4096x64, .bf16⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x256, .f32⟩
  | .local _ .vmem, ⟨7, _⟩ => ⟨S1x128x256, .f32⟩
  | .local _ .vmem, ⟨8, _⟩ => ⟨S1x128x128, .f32⟩
  | .local _ .vmem, ⟨9, _⟩ => ⟨S1x128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x128x512, .bf16⟩
  | .local _ .vmem, ⟨23, _⟩ => ⟨S1x128x512, .bf16⟩
  | .local _ .vmem, ⟨24, _⟩ => ⟨S1x128x512, .f32⟩
  | .local _ .vmem, ⟨25, _⟩ => ⟨S1x128x512, .f32⟩
  | .local _ .vmem, ⟨26, _⟩ => ⟨S1x128x512, .bf16⟩
  | .local _ .vmem, ⟨27, _⟩ => ⟨S1x128x512, .bf16⟩
  | .local _ .vmem, ⟨28, _⟩ => ⟨S1x128x512, .bf16⟩
  | .local _ .vmem, ⟨29, _⟩ => ⟨S1x128x512, .bf16⟩
  | .local _ .vmem, ⟨30, _⟩ => ⟨S1x128x256, .bf16⟩
  | .local _ .vmem, ⟨31, _⟩ => ⟨S1x128x256, .bf16⟩
  | .local _ .vmem, ⟨32, _⟩ => ⟨S1x128x64, .f32⟩
  | .local _ .vmem, ⟨33, _⟩ => ⟨S1x128x64, .f32⟩
  | .local _ .vmem, ⟨34, _⟩ => ⟨S1x128x64, .bf16⟩
  | .local _ .vmem, ⟨35, _⟩ => ⟨S1x128x64, .bf16⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62_0 : Ref sig .tc := ⟨.hbm, 76, rfl⟩
abbrev main_v62_1 : Ref sig .tc := ⟨.hbm, 77, rfl⟩
abbrev main_v62_2 : Ref sig .tc := ⟨.hbm, 78, rfl⟩
abbrev main_v62_3 : Ref sig .tc := ⟨.hbm, 79, rfl⟩
abbrev main_v62_4 : Ref sig .tc := ⟨.hbm, 80, rfl⟩
abbrev main_v62_5 : Ref sig .tc := ⟨.hbm, 81, rfl⟩
abbrev main_v62_6 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_4 (i : grid0.Coords) : Fin 3 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg0.toNat, arg1.toNat, c42_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PrepRefIdeal.lean ====
abbrev S4x4096x5632 : Shape := ⟨3, ![4, 4096, 5632]⟩
abbrev S4096 : Shape := ⟨1, ![4096]⟩
abbrev S4x4096x512 : Shape := ⟨3, ![4, 4096, 512]⟩
abbrev S4x4096x4x128 : Shape := ⟨4, ![4, 4096, 4, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x4x16 : Shape := ⟨4, ![4, 4096, 4, 16]⟩
abbrev S4x4096x4x96 : Shape := ⟨4, ![4, 4096, 4, 96]⟩
abbrev S4x4096x256 : Shape := ⟨3, ![4, 4096, 256]⟩
abbrev S4x4096x4x64 : Shape := ⟨4, ![4, 4096, 4, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S4x4096x4x8 : Shape := ⟨4, ![4, 4096, 4, 8]⟩
abbrev S4x4096x4x48 : Shape := ⟨4, ![4, 4096, 4, 48]⟩
abbrev S4x4096x64 : Shape := ⟨3, ![4, 4096, 64]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩

abbrev nBuf : Space → Nat
  | .hbm => 156
  | .vmem => 0
  | .smem => 0
  | _ => 0

abbrev hbmTy0_0 (i : Nat) : BufTy := match i % 128 with
  | 0 => ⟨S4x4096x5632, .f32⟩
  | 1 => ⟨S4096, .i32⟩
  | 2 => ⟨S4x4096x512, .f32⟩
  | 3 => ⟨S4x4096x4x128, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S4096, .f32⟩
  | 15 => ⟨S4096x1, .f32⟩
  | 16 => ⟨S1x16, .f32⟩
  | 17 => ⟨S4096x16, .f32⟩
  | 18 => ⟨S4096x16, .f32⟩
  | 19 => ⟨S4096x16, .f32⟩
  | 20 => ⟨S4096x16, .f32⟩
  | 21 => ⟨S1x4096x1x16, .f32⟩
  | 22 => ⟨S4096x16, .f32⟩
  | 23 => ⟨S1x4096x1x16, .f32⟩
  | 24 => ⟨S4x4096x4x16, .f32⟩
  | 25 => ⟨S4x4096x4x16, .f32⟩
  | 26 => ⟨S4x4096x4x96, .f32⟩
  | 27 => ⟨S4x4096x4x16, .f32⟩
  | 28 => ⟨S4x4096x4x16, .f32⟩
  | 29 => ⟨S4x4096x4x16, .f32⟩
  | 30 => ⟨S4x4096x4x16, .f32⟩
  | 31 => ⟨S4x4096x4x16, .f32⟩
  | 32 => ⟨S4x4096x4x16, .f32⟩
  | 33 => ⟨S4x4096x4x16, .f32⟩
  | 34 => ⟨S4x4096x4x16, .f32⟩
  | 35 => ⟨S4x4096x4x16, .f32⟩
  | 36 => ⟨S4x4096x4x16, .f32⟩
  | 37 => ⟨S4x4096x4x128, .f32⟩
  | 38 => ⟨S4x4096x512, .f32⟩
  | 39 => ⟨S4x4096x512, .f32⟩
  | 40 => ⟨S4x4096x4x128, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S4096, .f32⟩
  | 52 => ⟨S4096x1, .f32⟩
  | 53 => ⟨S1x16, .f32⟩
  | 54 => ⟨S4096x16, .f32⟩
  | 55 => ⟨S4096x16, .f32⟩
  | 56 => ⟨S4096x16, .f32⟩
  | 57 => ⟨S4096x16, .f32⟩
  | 58 => ⟨S1x4096x1x16, .f32⟩
  | 59 => ⟨S4096x16, .f32⟩
  | 60 => ⟨S1x4096x1x16, .f32⟩
  | 61 => ⟨S4x4096x4x16, .f32⟩
  | 62 => ⟨S4x4096x4x16, .f32⟩
  | 63 => ⟨S4x4096x4x96, .f32⟩
  | 64 => ⟨S4x4096x4x16, .f32⟩
  | 65 => ⟨S4x4096x4x16, .f32⟩
  | 66 => ⟨S4x4096x4x16, .f32⟩
  | 67 => ⟨S4x4096x4x16, .f32⟩
  | 68 => ⟨S4x4096x4x16, .f32⟩
  | 69 => ⟨S4x4096x4x16, .f32⟩
  | 70 => ⟨S4x4096x4x16, .f32⟩
  | 71 => ⟨S4x4096x4x16, .f32⟩
  | 72 => ⟨S4x4096x4x16, .f32⟩
  | 73 => ⟨S4x4096x4x16, .f32⟩
  | 74 => ⟨S4x4096x4x128, .f32⟩
  | 75 => ⟨S4x4096x512, .f32⟩
  | 76 => ⟨S4x4096x256, .f32⟩
  | 77 => ⟨S4x4096x4x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S4096, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S4096x8, .f32⟩
  | 95 => ⟨S1x4096x1x8, .f32⟩
  | 96 => ⟨S4096x8, .f32⟩
  | 97 => ⟨S1x4096x1x8, .f32⟩
  | 98 => ⟨S4x4096x4x8, .f32⟩
  | 99 => ⟨S4x4096x4x8, .f32⟩
  | 100 => ⟨S4x4096x4x48, .f32⟩
  | 101 => ⟨S4x4096x4x8, .f32⟩
  | 102 => ⟨S4x4096x4x8, .f32⟩
  | 103 => ⟨S4x4096x4x8, .f32⟩
  | 104 => ⟨S4x4096x4x8, .f32⟩
  | 105 => ⟨S4x4096x4x8, .f32⟩
  | 106 => ⟨S4x4096x4x8, .f32⟩
  | 107 => ⟨S4x4096x4x8, .f32⟩
  | 108 => ⟨S4x4096x4x8, .f32⟩
  | 109 => ⟨S4x4096x4x8, .f32⟩
  | 110 => ⟨S4x4096x4x8, .f32⟩
  | 111 => ⟨S4x4096x4x64, .f32⟩
  | 112 => ⟨S4x4096x256, .f32⟩
  | 113 => ⟨S4x4096x64, .f32⟩
  | 114 => ⟨S4x4096x1x64, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S4096, .f32⟩
  | 126 => ⟨S4096x1, .f32⟩
  | 127 => ⟨S1x8, .f32⟩
  | _ => ⟨S4x4096x5632, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S1x4096x1x8, .f32⟩
  | 5 => ⟨S4096x8, .f32⟩
  | 6 => ⟨S1x4096x1x8, .f32⟩
  | 7 => ⟨S4x4096x1x8, .f32⟩
  | 8 => ⟨S4x4096x1x8, .f32⟩
  | 9 => ⟨S4x4096x1x48, .f32⟩
  | 10 => ⟨S4x4096x1x8, .f32⟩
  | 11 => ⟨S4x4096x1x8, .f32⟩
  | 12 => ⟨S4x4096x1x8, .f32⟩
  | 13 => ⟨S4x4096x1x8, .f32⟩
  | 14 => ⟨S4x4096x1x8, .f32⟩
  | 15 => ⟨S4x4096x1x8, .f32⟩
  | 16 => ⟨S4x4096x1x8, .f32⟩
  | 17 => ⟨S4x4096x1x8, .f32⟩
  | 18 => ⟨S4x4096x1x8, .f32⟩
  | 19 => ⟨S4x4096x1x8, .f32⟩
  | 20 => ⟨S4x4096x1x64, .f32⟩
  | 21 => ⟨S4x4096x64, .f32⟩
  | 22 => ⟨S4x4096x512, .bf16⟩
  | 23 => ⟨S4x4096x512, .bf16⟩
  | 24 => ⟨S4x4096x512, .f32⟩
  | 25 => ⟨S4x4096x512, .bf16⟩
  | 26 => ⟨S4x4096x256, .bf16⟩
  | 27 => ⟨S4x4096x64, .bf16⟩
  | _ => ⟨S4x4096x5632, .f32⟩

abbrev hbmTy (i : Nat) : BufTy := match i / 128 with
  | 0 => hbmTy0_0 i
  | 1 => hbmTy0_1 i
  | _ => ⟨S4x4096x5632, .f32⟩

abbrev bufTy : (tb : Table) → Fin (tcTables nBuf tb) → BufTy
  | .hbm, ⟨i, _⟩ => hbmTy i
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_5 : Ref sig .tc := ⟨.hbm, 79, rfl⟩
abbrev main_v71 : Ref sig .tc := ⟨.hbm, 80, rfl⟩
abbrev main_v72 : Ref sig .tc := ⟨.hbm, 81, rfl⟩
abbrev main_cst_6 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_cst_8 : Ref sig .tc := ⟨.hbm, 116, rfl⟩
abbrev main_v105 : Ref sig .tc := ⟨.hbm, 117, rfl⟩
abbrev main_v106 : Ref sig .tc := ⟨.hbm, 118, rfl⟩
abbrev main_cst_9 : Ref sig .tc := ⟨.hbm, 119, rfl⟩
abbrev main_v107 : Ref sig .tc := ⟨.hbm, 120, rfl⟩
abbrev main_v108 : Ref sig .tc := ⟨.hbm, 121, rfl⟩
abbrev main_cst_10 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩

abbrev nD : Nat := 1
abbrev τ : Topo := Topo.v7x

variable {F : FTy → Type} [FloatOps F]
-- ==== Proof.SbMath.lean ====
/- The arithmetic of stick-breaking attention for one query and one column of the values: its weights as real numbers,
   and the sums over a block of 128 keys that carry them from one block to the one before it. -/
module

public import Idealize.ShloMosaic.Lib.Pointwise

@[expose] public section

set_option maxRecDepth 16384

noncomputable section

open Idealize.ShloMosaic

namespace Cert.Proof.SbMath

/-- The softplus function as both programs compute it. -/
def sp (x : ℝ) : ℝ := max x 0 + Real.log (1 + Real.exp (-|x|))

/-- The logarithm of what key `n` leaves to the keys before it, for the query at position `t`: keys from `t` on take nothing. -/
def stay (z : ℕ → ℝ) (t n : ℕ) : ℝ := if n < t then -(sp (z n)) else 0

/-- The sum of those logarithms over the keys from `a` on. -/
def tail (z : ℕ → ℝ) (t a : ℕ) : ℝ := ∑ n ∈ Finset.Ico a 4096, stay z t n

/-- The weight of key `s` for the query at position `t`. -/
def wt (z : ℕ → ℝ) (t s : ℕ) : ℝ := if s < t then Real.exp (z s - sp (z s) + tail z t (s + 1)) else 0

/-- The weighted sum of the values over the keys from `a` on; from `0` on it is the attention's result. -/
def att (z : ℕ → ℝ) (v : ℕ → EReal) (t a : ℕ) : EReal := ∑ n ∈ Finset.Ico a 4096, (wt z t n : EReal) * v n

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem zero_sub_coe (x : ℝ) : (0 : EReal) - (x : EReal) = ((-x : ℝ) : EReal) := by
  rw [← EReal.coe_zero, ← EReal.coe_sub, zero_sub]

/-- The magnitude of a real number, as the float operation computes it. -/
theorem absf_coe (φ : FTy) (x : ℝ) : FloatOps.absf (F := Ideal) (φ := φ) (x : EReal) = ((|x| : ℝ) : EReal) := by
  rw [Ideal.absf_def]
  show max (x : EReal) (-(x : EReal)) = _
  rw [← EReal.coe_neg, abs_eq_max_neg]
  exact (EReal.coe_strictMono.monotone.map_max).symm

theorem log1p_exp_coe (x : ℝ) : Ideal.log1p (Ideal.exp (x : EReal)) = ((Real.log (1 + Real.exp x) : ℝ) : EReal) := by
  have h : (1 : EReal) + ((Real.exp x : ℝ) : EReal) = ((1 + Real.exp x : ℝ) : EReal) := by
    rw [EReal.coe_add, EReal.coe_one]
  have hp : ¬ (1 + Real.exp x ≤ 0) := not_le.mpr (by positivity)
  rw [Ideal.log1p, Ideal.exp_coe, h, Ideal.log_coe, if_neg hp]

theorem max_zero_coe (x : ℝ) : max (x : EReal) 0 = ((max x 0 : ℝ) : EReal) := by
  rw [← EReal.coe_zero]
  exact (EReal.coe_strictMono.monotone.map_max).symm

/-- The softplus of a real number, in the float operations. -/
theorem softplus_coe (φ : FTy) (x : ℝ) :
    max (x : EReal) 0 + Ideal.log1p (Ideal.exp (0 - FloatOps.absf (F := Ideal) (φ := φ) (x : EReal))) = ((sp x : ℝ) : EReal) := by
  rw [absf_coe, zero_sub_coe, log1p_exp_coe, max_zero_coe, ← EReal.coe_add, sp]

/-- Softplus of the opposite: what is left of the number itself. -/
theorem sp_neg (x : ℝ) : -(sp (-x)) = x - sp x := by
  have h : max (-x) 0 = max x 0 - x := by
    rcases le_total 0 x with hx | hx
    · rw [max_eq_right (by linarith), max_eq_left hx]; ring
    · rw [max_eq_left (by linarith), max_eq_right hx]; ring
  unfold sp
  rw [abs_neg, h]; ring

/-- A product with a matrix of reals, taken as a high part plus the low part that rounding lost (here zero). -/
theorem split_dot (a μ : Fin 128 → ℝ) :
    ∑ x, (a x : EReal) * (μ x : EReal) + ∑ x, ((a x : EReal) - (a x : EReal)) * (μ x : EReal)
      = ((∑ x, a x * μ x : ℝ) : EReal) := by
  have h : ∀ x, ((a x : EReal) - (a x : EReal)) * (μ x : EReal) = 0 := fun x => by
    rw [← EReal.coe_sub, sub_self, EReal.coe_zero, zero_mul]
  rw [Finset.sum_congr rfl fun x _ => h x, Finset.sum_const_zero, add_zero, ← coe_sum]
  exact Finset.sum_congr rfl fun x _ => (EReal.coe_mul _ _).symm

variable {M : Type} [AddCommMonoid M]

/-- A sum over a block of 128 keys as a sum over an interval. -/
theorem sum_block (f : ℕ → M) (j : ℕ) :
    ∑ x : Fin 128, f (128 * j + x.val) = ∑ n ∈ Finset.Ico (128 * j) (128 * (j + 1)), f n := by
  rw [Finset.sum_Ico_eq_sum_range, show 128 * (j + 1) - 128 * j = 128 by omega,
    Fin.sum_univ_eq_sum_range (fun x => f (128 * j + x)) 128]

/-- … and the part of it after key `c` of the block. -/
theorem sum_block_after (f : ℕ → ℝ) (j : ℕ) (c : Fin 128) :
    ∑ x : Fin 128, f (128 * j + x.val) * (if c.val < x.val then 1 else 0)
      = ∑ n ∈ Finset.Ico (128 * j + c.val + 1) (128 * (j + 1)), f n := by
  have h : ∀ x : Fin 128, f (128 * j + x.val) * (if c.val < x.val then 1 else 0)
      = (fun n => if 128 * j + c.val < n then f n else 0) (128 * j + x.val) := fun x => by
    by_cases hx : c.val < x.val
    · simp [hx]
    · simp [hx]
  rw [Finset.sum_congr rfl fun x _ => h x, sum_block (fun n => if 128 * j + c.val < n then f n else 0), ← Finset.sum_filter]
  refine Finset.sum_congr ?_ fun _ _ => rfl
  ext n
  simp only [Finset.mem_filter, Finset.mem_Ico]
  omega

/-- The tail from a block on: the block's own sum, then the tail from the next. -/
theorem tail_step (z : ℕ → ℝ) (t j : ℕ) (hj : j < 32) :
    tail z t (128 * (j + 1)) + ∑ x : Fin 128, stay z t (128 * j + x.val) = tail z t (128 * j) := by
  rw [sum_block, add_comm]
  exact Finset.sum_Ico_consecutive _ (by omega) (by omega)

/-- The tail after key `c` of a block: the rest of the block, then the tail from the next block. -/
theorem tail_after (z : ℕ → ℝ) (t j : ℕ) (hj : j < 32) (c : Fin 128) :
    tail z t (128 * (j + 1)) + ∑ x : Fin 128, stay z t (128 * j + x.val) * (if c.val < x.val then 1 else 0)
      = tail z t (128 * j + c.val + 1) := by
  have := c.isLt
  rw [sum_block_after, add_comm]
  exact Finset.sum_Ico_consecutive _ (by omega) (by omega)

/-- From the query's own position on nothing is taken. -/
theorem tail_zero (z : ℕ → ℝ) (t a : ℕ) (h : t ≤ a) : tail z t a = 0 :=
  Finset.sum_eq_zero fun n hn => if_neg (by have := (Finset.mem_Ico.mp hn).1; omega)

theorem att_zero (z : ℕ → ℝ) (v : ℕ → EReal) (t a : ℕ) (h : t ≤ a) : att z v t a = 0 :=
  Finset.sum_eq_zero fun n hn => by
    rw [wt, if_neg (by have := (Finset.mem_Ico.mp hn).1; omega), EReal.coe_zero, zero_mul]

/-- The weighted sum from a block on: the block's own, then the sum from the next. -/
theorem att_step (z : ℕ → ℝ) (v : ℕ → EReal) (t j : ℕ) (hj : j < 32) :
    att z v t (128 * (j + 1)) + ∑ x : Fin 128, (wt z t (128 * j + x.val) : EReal) * v (128 * j + x.val)
      = att z v t (128 * j) := by
  rw [sum_block (fun n => (wt z t n : EReal) * v n), add_comm]
  exact Finset.sum_Ico_consecutive _ (by omega) (by omega)

/-- The weight of key `c` of a block all of whose keys come before the query. -/
theorem wt_before (z : ℕ → ℝ) (t j : ℕ) (hj : j < 32) (ht : 128 * (j + 1) ≤ t) (c : Fin 128) (C : ℝ)
    (hC : C = tail z t (128 * (j + 1))) :
    Ideal.exp ((z (128 * j + c.val) : EReal) - (sp (z (128 * j + c.val)) : EReal) + (C : EReal)
        + ((∑ x : Fin 128, -(sp (z (128 * j + x.val))) * (if c.val < x.val then 1 else 0) : ℝ) : EReal))
      = (wt z t (128 * j + c.val) : EReal) := by
  have hc := c.isLt
  have hs : ∀ x : Fin 128, -(sp (z (128 * j + x.val))) = stay z t (128 * j + x.val) := fun x => by
    have := x.isLt
    rw [stay, if_pos (by omega)]
  rw [Finset.sum_congr rfl fun x _ => by rw [hs x], ← EReal.coe_sub, ← EReal.coe_add, ← EReal.coe_add, Ideal.exp_coe, wt,
    if_pos (by omega), ← tail_after z t j hj c, hC, add_assoc]

/-- The weight of key `c` of the query's own block. -/
theorem wt_own (z : ℕ → ℝ) (j : ℕ) (hj : j < 32) (r c : Fin 128) :
    (if c.val < r.val then
      Ideal.exp ((z (128 * j + c.val) : EReal) - (sp (z (128 * j + c.val)) : EReal) + 0
        + ((∑ x : Fin 128, (if x.val < r.val then -(sp (z (128 * j + x.val))) else 0) * (if c.val < x.val then 1 else 0) : ℝ) : EReal))
      else 0)
      = (wt z (128 * j + r.val) (128 * j + c.val) : EReal) := by
  have hs : ∀ x : Fin 128, (if x.val < r.val then -(sp (z (128 * j + x.val))) else 0)
      = stay z (128 * j + r.val) (128 * j + x.val) := fun x => by
    rw [stay]; simp only [Nat.add_lt_add_iff_left]
  have hr := r.isLt
  have ha := tail_after z (128 * j + r.val) j hj c
  rw [tail_zero z (128 * j + r.val) (128 * (j + 1)) (by omega), zero_add] at ha
  rw [Finset.sum_congr rfl fun x _ => by rw [hs x], ha, add_zero, ← EReal.coe_sub, ← EReal.coe_add, Ideal.exp_coe, wt]
  by_cases hcr : c.val < r.val
  · rw [if_pos hcr, if_pos (by omega)]
  · rw [if_neg hcr, if_neg (by omega), EReal.coe_zero]

end Cert.Proof.SbMath

end
-- ==== Proof.SbBlock.lean ====
/- One block of 128 keys of the stick-breaking attention kernel, for one query row: what the kernel's values for a block are
   in the terms of `SbMath`. -/
module

public import proofs.«01_k».proof.Proof.Gen.KernelIdeal.Skeleton
public import proofs.«01_k».proof.Proof.SbMath
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen
open Cert.Proof.SbMath

namespace Cert.Proof.Sb

/-- The scale of the scores, as both programs hold it. -/
abbrev κ : EReal := Ideal.ofBits FTy.f32 1035273459#32

/-- Choosing by a comparison of small naturals. -/
theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [Scalar.select, h]

theorem select_gt {α : Type} (a b : ℕ) (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb]
  by_cases h : b < a <;> simp [Scalar.select, h]

theorem select_ge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [Scalar.select, h]

/-- The right half of the kernel's matrix: ones. -/
theorem ones (x s : Fin 128) : k0_pay17 (F := Ideal) (ix2 x ⟨128 + s.val, by omega⟩) = ((1 : ℝ) : EReal) := by
  pointwise [k0_pay17]
  rw [select_ge _ 128 (by omega) (by omega), if_pos (by omega), EReal.coe_one]

/-- The left half: one below the diagonal, zero elsewhere. -/
theorem below (x s : Fin 128) :
    k0_pay17 (F := Ideal) (ix2 x ⟨s.val, by omega⟩) = (((if s.val < x.val then 1 else 0 : ℝ) : ℝ) : EReal) := by
  pointwise [k0_pay17]
  rw [select_ge _ 128 (by omega) (by omega), if_neg (by omega), select_gt _ _ (by omega) (by omega)]
  split <;> simp

theorem pay5_at (q : FVec Ideal S128x128 .bf16) (kb : Vec Ideal S1x128x128 .f32) (r s : Fin 128) :
    k0_pay5 q kb (ix2 r s) = (∑ x : Fin 128, q (ix2 r x) * kb (ix3 0 s x)) * κ := by
  pointwise [k0_pay5]

theorem pay6_at (q : FVec Ideal S128x128 .bf16) (kb : Vec Ideal S1x128x128 .f32) (r s : Fin 128) (z : ℝ)
    (h : k0_pay5 q kb (ix2 r s) = (z : EReal)) : k0_pay6 q kb (ix2 r s) = (sp z : EReal) := by
  pointwise [k0_pay6]
  rw [h]; exact softplus_coe _ z

theorem pay7_at (q : FVec Ideal S128x128 .bf16) (kb : Vec Ideal S1x128x128 .f32) (r : Fin 128) (c : Fin 256) (z μ : Fin 128 → ℝ)
    (h : ∀ x, k0_pay5 q kb (ix2 r x) = (z x : EReal)) (hμ : ∀ x, k0_pay17 (F := Ideal) (ix2 x c) = (μ x : EReal)) :
    k0_pay7 q k0_pay17 kb (ix2 r c) = ((∑ x, -(sp (z x)) * μ x : ℝ) : EReal) := by
  have h6 := fun x => pay6_at q kb r x (z x) (h x)
  rw [← split_dot]
  pointwise [k0_pay7]
  simp only [h6, hμ, zero_sub_coe]

/-- One block of keys that all come before the query: the tail carried on to the block's first key. -/
theorem pay8_at (q : FVec Ideal S128x128 .bf16) (car : FVec Ideal S128x128 .f32) (kb : Vec Ideal S1x128x128 .f32)
    (z : ℕ → ℝ) (t j : ℕ) (hj : j < 32) (ht : 128 * (j + 1) ≤ t) (r s : Fin 128)
    (hz : ∀ x : Fin 128, (∑ y : Fin 128, q (ix2 r y) * kb (ix3 0 x y)) * κ = (z (128 * j + x.val) : EReal))
    (hc : car (ix2 r s) = (tail z t (128 * (j + 1)) : EReal)) :
    k0_pay8 q k0_pay17 car kb (ix2 r s) = (tail z t (128 * j) : EReal) := by
  have h7 := pay7_at q kb r ⟨128 + s.val, by omega⟩ (fun x => z (128 * j + x.val)) (fun _ => 1)
    (fun x => (pay5_at q kb r x).trans (hz x)) (fun x => ones x s)
  have hs : ∀ x : Fin 128, -(sp (z (128 * j + x.val))) * 1 = stay z t (128 * j + x.val) := fun x => by
    have := x.isLt
    rw [stay, if_pos (by omega), mul_one]
  rw [Finset.sum_congr rfl fun x _ => hs x] at h7
  rw [← tail_step z t j hj, EReal.coe_add, ← h7, ← hc]
  pointwise [k0_pay8]

/-- … and the weighted sum of the values. -/
theorem pay9_at (q : FVec Ideal S128x128 .bf16) (car acc : FVec Ideal S128x128 .f32) (kb vb : Vec Ideal S1x128x128 .f32)
    (z : ℕ → ℝ) (v : ℕ → EReal) (t j : ℕ) (hj : j < 32) (ht : 128 * (j + 1) ≤ t) (r d : Fin 128)
    (hz : ∀ x : Fin 128, (∑ y : Fin 128, q (ix2 r y) * kb (ix3 0 x y)) * κ = (z (128 * j + x.val) : EReal))
    (hv : ∀ x : Fin 128, vb (ix3 0 x d) = v (128 * j + x.val))
    (hc : ∀ s : Fin 128, car (ix2 r s) = (tail z t (128 * (j + 1)) : EReal))
    (ha : acc (ix2 r d) = att z v t (128 * (j + 1))) :
    k0_pay9 q k0_pay17 car acc kb vb (ix2 r d) = att z v t (128 * j) := by
  have h5 : ∀ x, k0_pay5 q kb (ix2 r x) = (z (128 * j + x.val) : EReal) := fun x => (pay5_at q kb r x).trans (hz x)
  have h6 := fun x => pay6_at q kb r x _ (h5 x)
  have h7 := fun c : Fin 128 => pay7_at q kb r ⟨c.val, by omega⟩ (fun x => z (128 * j + x.val)) _ h5 (fun x => below x c)
  rw [← att_step z v t j hj, ← ha, ← Finset.sum_congr rfl fun c _ => by rw [← hv c, ← wt_before z t j hj ht c _ rfl]]
  pointwise [k0_pay9]
  simp only [h5, h6, h7, hc]

/-- The query's own block: its scores. -/
theorem pay22_at (qb kb : Vec Ideal S1x128x128 .f32) (r s : Fin 128) :
    k0_pay22 qb kb (ix2 r s) = (∑ x : Fin 128, qb (ix3 0 r x) * kb (ix3 0 s x)) * κ := by
  pointwise [k0_pay22, k0_pay16]

/-- … their softplus. -/
theorem pay1_at (qb kb : Vec Ideal S1x128x128 .f32) (r s : Fin 128) (z : ℝ) (h : k0_pay22 qb kb (ix2 r s) = (z : EReal)) :
    k0_pay1 (k0_pay23 qb kb) (k0_pay24 qb kb) (ix2 r s) = (sp z : EReal) := by
  rw [← softplus_coe .f32 z, ← h]
  pointwise [k0_pay1, k0_pay23, k0_pay24]

/-- … and the sums of the masked logarithms over the block, or over what follows a key in it. -/
theorem pay2_at (qb kb : Vec Ideal S1x128x128 .f32) (r : Fin 128) (c : Fin 256) (z μ : Fin 128 → ℝ)
    (h : ∀ x, k0_pay22 qb kb (ix2 r x) = (z x : EReal)) (hμ : ∀ x, k0_pay17 (F := Ideal) (ix2 x c) = (μ x : EReal)) :
    k0_pay2 k0_pay17 k0_pay19 (k0_pay23 qb kb) (k0_pay24 qb kb) (ix2 r c)
      = ((∑ x, (if x.val < r.val then -(sp (z x)) else 0) * μ x : ℝ) : EReal) := by
  have h1 := fun x => pay1_at qb kb r x (z x) (h x)
  rw [← split_dot]
  pointwise [k0_pay2, k0_pay19]
  have h0 : ∀ x : Fin 128, Scalar.select (IntOp.cmpi .slt (BitVec.ofNat 32 x.val) (BitVec.ofNat 32 r.val))
      (0 - k0_pay1 (k0_pay23 qb kb) (k0_pay24 qb kb) (ix2 r x)) 0
      = (((if x.val < r.val then -(sp (z x)) else 0 : ℝ) : ℝ) : EReal) := fun x => by
    rw [select_lt _ _ (by omega) (by omega), h1, zero_sub_coe]
    split <;> simp
  have hm : ∀ (c : BitVec 1) (a b : EReal), Scalar.select c (a * b) 0 = Scalar.select c a 0 * b := fun c a b => by
    unfold Scalar.select; split <;> simp
  simp only [hm, h0, hμ]

/-- The query's own block: the tail from its first key. -/
theorem pay3_at (qb kb : Vec Ideal S1x128x128 .f32) (z : ℕ → ℝ) (j : ℕ) (hj : j < 32) (r s : Fin 128)
    (hz : ∀ x : Fin 128, (∑ y : Fin 128, qb (ix3 0 r y) * kb (ix3 0 x y)) * κ = (z (128 * j + x.val) : EReal)) :
    k0_pay3 k0_pay17 k0_pay19 k0_pay20 (k0_pay23 qb kb) (k0_pay24 qb kb) (ix2 r s)
      = (tail z (128 * j + r.val) (128 * j) : EReal) := by
  have h2 := pay2_at qb kb r ⟨128 + s.val, by omega⟩ (fun x => z (128 * j + x.val)) (fun _ => 1)
    (fun x => (pay22_at qb kb r x).trans (hz x)) (fun x => ones x s)
  have hs : ∀ x : Fin 128, (if x.val < r.val then -(sp (z (128 * j + x.val))) else 0) * 1
      = stay z (128 * j + r.val) (128 * j + x.val) := fun x => by
    rw [stay, mul_one]; simp only [Nat.add_lt_add_iff_left]
  rw [Finset.sum_congr rfl fun x _ => hs x] at h2
  rw [← tail_step z _ j hj, tail_zero z _ _ (by omega), zero_add, ← h2]
  pointwise [k0_pay3, k0_pay20]

/-- … and the weighted sum of its values. -/
theorem pay4_at (qb kb vb : Vec Ideal S1x128x128 .f32) (z : ℕ → ℝ) (v : ℕ → EReal) (j : ℕ) (hj : j < 32) (r d : Fin 128)
    (hz : ∀ x : Fin 128, (∑ y : Fin 128, qb (ix3 0 r y) * kb (ix3 0 x y)) * κ = (z (128 * j + x.val) : EReal))
    (hv : ∀ x : Fin 128, vb (ix3 0 x d) = v (128 * j + x.val)) :
    k0_pay4 k0_pay17 (k0_pay18 vb) k0_pay19 k0_pay20 k0_pay21 (k0_pay22 qb kb) (k0_pay23 qb kb) (k0_pay24 qb kb) (ix2 r d)
      = att z v (128 * j + r.val) (128 * j) := by
  have h22 : ∀ x, k0_pay22 qb kb (ix2 r x) = (z (128 * j + x.val) : EReal) := fun x => (pay22_at qb kb r x).trans (hz x)
  have h1 := fun x => pay1_at qb kb r x _ (h22 x)
  have h2 := fun c : Fin 128 => pay2_at qb kb r ⟨c.val, by omega⟩ (fun x => z (128 * j + x.val)) _ h22 (fun x => below x c)
  rw [← att_step z v _ j hj, att_zero z v _ _ (by omega),
    ← Finset.sum_congr rfl fun c _ => by rw [← hv c, ← wt_own z j hj r c]]
  have h19 : ∀ x : Fin 128, k0_pay19 (ix2 r x) = IntOp.cmpi .slt (BitVec.ofNat 32 x.val) (BitVec.ofNat 32 r.val) := fun x => by
    pointwise [k0_pay19]
  have hm : ∀ (c : Prop) [Decidable c] (a b : EReal), (if c then a * b else 0) = (if c then a else 0) * b :=
    fun c _ a b => by split <;> simp
  pointwise [k0_pay4, k0_pay18, k0_pay20, k0_pay21]
  refine Finset.sum_congr rfl fun x _ => ?_
  rw [h19, select_lt _ _ (by omega) (by omega), h22, h1, h2, hm]

end Cert.Proof.Sb

end
-- ==== Proof.SbTrip.lean ====
/- The stick-breaking kernel's pass over the blocks of keys: from the query's own block down to the first. -/
module

public import proofs.«01_k».proof.Proof.Gen.KernelIdeal.Value
public import proofs.«01_k».proof.Proof.SbBlock

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen
open Cert.Proof.SbMath

namespace Cert.Proof.Sb

/-- The loop over the earlier blocks makes as many trips as there are earlier blocks. -/
theorem trips1 (i : grid0.Coords) : (k0_t1_loop i).trips = (i 2).val := by
  have h : ∀ I : Fin 32, Scf.trips 0#32 (Scalar.addi 0#32 (Scalar.muli (Scalar.divsi (Scalar.subi (BitVec.ofNat 32 I.val) 0#32) 1#32) 1#32)) 1#32
      = I.val := by decide +kernel
  exact h (i 2)

/-- The second loop of the printed program makes none. -/
theorem trips2 (i : grid0.Coords) : (k0_t2_loop i).trips = 0 := by
  have h : ∀ I : Fin 32, Scf.trips (Scalar.addi 0#32 (Scalar.muli (Scalar.divsi (Scalar.subi (BitVec.ofNat 32 I.val) 0#32) 1#32) 1#32))
      (Scalar.addi 0#32 (Scalar.subi (BitVec.ofNat 32 I.val) 0#32)) 1#32 = 0 := by decide +kernel
  exact h (i 2)

/-- The query's own block of keys begins at its own position. -/
theorem off1 (i : grid0.Coords) : k0_off1 i = ![0, 128 * (i 2).val, 0] := by
  have h : ∀ I : Fin 32, (Scalar.muli (BitVec.ofNat 32 I.val) 128#32).toNat = 128 * I.val := by decide +kernel
  exact congrArg (fun n => ![0, n, 0]) (h (i 2))

/-- Trip `k` reads the block `k + 1` places before it. -/
theorem off2 (i : grid0.Coords) (k : Fin (k0_t1_loop i).trips) : k0_off2 i k = ![0, 128 * ((i 2).val - 1 - k.val), 0] := by
  have h : ∀ I k : Fin 32, k.val < I.val → (Scalar.muli (Scalar.subi (Scalar.subi (BitVec.ofNat 32 I.val) 1#32) (Scf.iv 0#32 1#32 k.val)) 128#32).toNat
      = 128 * (I.val - 1 - k.val) := by decide +kernel
  have hk : k.val < (i 2).val := lt_of_lt_of_eq k.isLt (trips1 i)
  have hi : (i 2).val < 32 := (i 2).isLt
  exact congrArg (fun n => ![0, n, 0]) (h (i 2) ⟨k.val, by omega⟩ hk)

/-- A block of 128 rows of a staged array. -/
theorem load_at (arg : Memref sig .tc .vmem S1x4096x128 .f32) (harg : arg.IsWhole) (X : Vec Ideal S1x4096x128 .f32)
    (off : Fin 3 → ℕ) (inb : ∀ a, off a + S1x128x128.size a ≤ S1x4096x128.size a) (n : ℕ) (ho : off = ![0, n, 0]) (x d : Fin 128)
    (hn : n + x.val < 4096) :
    View.readAt (Elt Ideal) arg.view (Rect.unit (s := S1x4096x128) off S1x128x128.size inb).toLoadRect (harg.unread X) (ix3 0 x d)
      = X (ix3 0 ⟨n + x.val, hn⟩ d) := by
  subst ho
  have h := congrFun (congrArg (fun Y => View.ld Y (Rect.unit (s := S1x4096x128) ![0, n, 0] S1x128x128.size inb)) (harg.read_unread X)) (ix3 0 x d)
  refine h.trans (congrArg X (funext fun a => Fin.ext ?_))
  match a with
  | ⟨0, _⟩ => rfl
  | ⟨1, _⟩ => show n + 1 * x.val = n + x.val; omega
  | ⟨2, _⟩ => show 0 + 1 * d.val = d.val; omega

/-- What the loop carries before trip `k`, for one query row: the tail and the weighted sum from the block it has reached. -/
theorem state_at (c : Dev nD) (i : grid0.Coords) (arg3 : Memref sig .tc .vmem S1x128x128 .f32) (harg3 : arg3.IsWhole)
    (arg4 : Memref sig .tc .vmem S1x4096x128 .f32) (harg4 : arg4.IsWhole) (arg5 : Memref sig .tc .vmem S1x4096x128 .f32) (harg5 : arg5.IsWhole)
    (arg6 : Memref sig .tc .vmem S1x128x128 .f32) (harg6 : arg6.IsWhole)
    (q : FVec Ideal S128x128 .bf16) (X Y : Vec Ideal S1x4096x128 .f32) (init : FVec Ideal S128x128 .f32 × FVec Ideal S128x128 .f32)
    (z : ℕ → ℝ) (v : ℕ → EReal) (r d : Fin 128) (t : ℕ) (ht : 128 * (i 2).val ≤ t)
    (hz : ∀ n : Fin 4096, (∑ y : Fin 128, q (ix2 r y) * X (ix3 0 n y)) * κ = (z n.val : EReal))
    (hv : ∀ n : Fin 4096, Y (ix3 0 n d) = v n.val)
    (h1 : ∀ s : Fin 128, init.1 (ix2 r s) = (tail z t (128 * (i 2).val) : EReal))
    (h2 : init.2 (ix2 r d) = att z v t (128 * (i 2).val)) :
    ∀ k : ℕ, k ≤ (i 2).val →
      (∀ s : Fin 128, (st_k0_t1 (F := Ideal) Variants.none c none i arg3 harg3 arg4 harg4 arg5 harg5 arg6 harg6 q k0_pay17
          (harg4.unread X) (harg5.unread Y) init k).1 (ix2 r s) = (tail z t (128 * ((i 2).val - k)) : EReal))
      ∧ (st_k0_t1 (F := Ideal) Variants.none c none i arg3 harg3 arg4 harg4 arg5 harg5 arg6 harg6 q k0_pay17
          (harg4.unread X) (harg5.unread Y) init k).2 (ix2 r d) = att z v t (128 * ((i 2).val - k)) := by
  intro k
  induction k with
  | zero =>
    intro _
    rw [st_k0_t1_zero]
    exact ⟨h1, h2⟩
  | succ k ih =>
    intro hk
    obtain ⟨i1, i2⟩ := ih (by omega)
    have hi : (i 2).val < 32 := (i 2).isLt
    have hlt : k < (k0_t1_loop i).trips := by rw [trips1]; omega
    have hj : (i 2).val - k = (i 2).val - 1 - k + 1 := by omega
    have e : (i 2).val - (k + 1) = (i 2).val - 1 - k := by omega
    rw [hj] at i1 i2
    have o := off2 i ⟨k, hlt⟩
    rw [show k + 1 = (⟨k, hlt⟩ : Fin (k0_t1_loop i).trips).val + 1 from rfl, st_k0_t1_succ]
    rw [show ((⟨k, hlt⟩ : Fin (k0_t1_loop i).trips).val + 1) = k + 1 from rfl, e]
    unfold tripR_k0_t1 trip_k0_t1
    dsimp only
    have hk4 := fun (x y : Fin 128) => load_at arg4 harg4 X (k0_off2 i ⟨k, hlt⟩) (k0_off2_inb i ⟨k, hlt⟩) _ o x y (by omega)
    have hk5 := fun (x y : Fin 128) => load_at arg5 harg5 Y (k0_off2 i ⟨k, hlt⟩) (k0_off2_inb i ⟨k, hlt⟩) _ o x y (by omega)
    refine ⟨fun s => pay8_at q _ _ z t ((i 2).val - 1 - k) (by omega) (by omega) r s ?_ (i1 s),
      pay9_at q _ _ _ _ z v t ((i 2).val - 1 - k) (by omega) (by omega) r d ?_ ?_ i1 i2⟩
    · intro x
      rw [Finset.sum_congr rfl fun y _ => by rw [hk4 x y]]
      exact hz ⟨128 * ((i 2).val - 1 - k) + x.val, by omega⟩
    · intro x
      rw [Finset.sum_congr rfl fun y _ => by rw [hk4 x y]]
      exact hz ⟨128 * ((i 2).val - 1 - k) + x.val, by omega⟩
    · intro x
      rw [hk5 x d]
      exact hv ⟨128 * ((i 2).val - 1 - k) + x.val, by omega⟩

/-- The block of 128 queries a grid point reads, from its staging buffer. -/
theorem loadq (arg : Memref sig .tc .vmem S1x128x128 .f32) (harg : arg.IsWhole) (X : Vec Ideal S1x128x128 .f32)
    (inb : ∀ a, (![0, 0, 0] : Fin 3 → ℕ) a + S1x128x128.size a ≤ S1x128x128.size a) :
    View.readAt (Elt Ideal) arg.view (Rect.unit (s := S1x128x128) ![0, 0, 0] S1x128x128.size inb).toLoadRect (harg.unread X) = X := by
  have hz : (![0, 0, 0] : Fin 3 → ℕ) = fun _ => 0 := by funext a; match a with | ⟨0, _⟩ => rfl | ⟨1, _⟩ => rfl | ⟨2, _⟩ => rfl
  have h := congrArg (fun Y => View.ld Y (Rect.unit (s := S1x128x128) ![0, 0, 0] S1x128x128.size inb)) (harg.read_unread X)
  exact h.trans (View.ld_unit_zero (S := S1x128x128) hz inb X)

/-- What a grid point writes: the attention of its queries over all the keys. -/
theorem out_at (c : Dev nD) (i : grid0.Coords) (arg3 : Memref sig .tc .vmem S1x128x128 .f32) (harg3 : arg3.IsWhole)
    (arg4 : Memref sig .tc .vmem S1x4096x128 .f32) (harg4 : arg4.IsWhole) (arg5 : Memref sig .tc .vmem S1x4096x128 .f32) (harg5 : arg5.IsWhole)
    (arg6 : Memref sig .tc .vmem S1x128x128 .f32) (harg6 : arg6.IsWhole)
    (x0 : Vec Ideal S1x128x128 .f32) (x1 x2 : Vec Ideal S1x4096x128 .f32)
    (z : ℕ → ℝ) (v : ℕ → EReal) (r d : Fin 128)
    (hz : ∀ n : Fin 4096, (∑ y : Fin 128, x0 (ix3 0 r y) * x1 (ix3 0 n y)) * κ = (z n.val : EReal))
    (hv : ∀ n : Fin 4096, x2 (ix3 0 n d) = v n.val) :
    out0_A_3 c i arg3 harg3 arg4 harg4 arg5 harg5 arg6 harg6 x0 x1 x2 (ix3 0 r d) = att z v (128 * (i 2).val + r.val) 0 := by
  have hz0 : (![0, 0, 0] : Fin 3 → ℕ) = fun _ => 0 := by funext a; match a with | ⟨0, _⟩ => rfl | ⟨1, _⟩ => rfl | ⟨2, _⟩ => rfl
  have hi : (i 2).val < 32 := (i 2).isLt
  have hk4 := fun (x y : Fin 128) => load_at arg4 harg4 x1 (k0_off1 i) (k0_off1_inb i) _ (off1 i) x y (by omega)
  have hk5 := fun (x y : Fin 128) => load_at arg5 harg5 x2 (k0_off1 i) (k0_off1_inb i) _ (off1 i) x y (by omega)
  have hs : ∀ x : Fin 128, (∑ y : Fin 128, x0 (ix3 0 r y) * View.readAt (Elt Ideal) arg4.view
      (Rect.unit (s := S1x4096x128) (k0_off1 i) S1x128x128.size (k0_off1_inb i)).toLoadRect (harg4.unread x1) (ix3 0 x y)) * κ
      = (z (128 * (i 2).val + x.val) : EReal) := fun x => by
    rw [Finset.sum_congr rfl fun y _ => by rw [hk4 x y]]
    exact hz ⟨128 * (i 2).val + x.val, by omega⟩
  unfold out0_A_3
  rw [View.read_writes_eq_canon _ _ _ (cover0_A_3 c i arg3 harg3 arg4 harg4 arg5 harg5 arg6 harg6 x0 x1 x2)]
  unfold kernelRun0_A
  dsimp only
  rw [View.canon_unit_zero (S := S1x128x128) hz0]
  pointwise [k0_pay15]
  unfold kernelRun0_A.sl.r kernelRun0_A.sl.r_1 kernelRun0_A.sl.r_2 kernelRun0_A.sl.r_3 kernelRun0_A.sl.r_4
  have e1 : Scf.trips 0#32 (Scalar.addi 0#32 (Scalar.muli (Scalar.divsi (Scalar.subi (BitVec.ofNat 32 (i 2).val) 0#32) 1#32) 1#32)) 1#32
      = (i 2).val := trips1 i
  have e2 : Scf.trips (Scalar.addi 0#32 (Scalar.muli (Scalar.divsi (Scalar.subi (BitVec.ofNat 32 (i 2).val) 0#32) 1#32) 1#32))
      (Scalar.addi 0#32 (Scalar.subi (BitVec.ofNat 32 (i 2).val) 0#32)) 1#32 = 0 := trips2 i
  rw [e1, e2, st_k0_t2_zero, loadq arg3 harg3 x0]
  have h := (state_at c i arg3 harg3 arg4 harg4 arg5 harg5 arg6 harg6 (k0_pay16 x0) x1 x2
    (k0_pay3 k0_pay17 k0_pay19 k0_pay20
      (k0_pay23 x0 (View.readAt (Elt Ideal) arg4.view (Rect.unit (s := S1x4096x128) (k0_off1 i) S1x128x128.size (k0_off1_inb i)).toLoadRect (harg4.unread x1)))
      (k0_pay24 x0 (View.readAt (Elt Ideal) arg4.view (Rect.unit (s := S1x4096x128) (k0_off1 i) S1x128x128.size (k0_off1_inb i)).toLoadRect (harg4.unread x1))),
     k0_pay4 k0_pay17
      (k0_pay18 (View.readAt (Elt Ideal) arg5.view (Rect.unit (s := S1x4096x128) (k0_off1 i) S1x128x128.size (k0_off1_inb i)).toLoadRect (harg5.unread x2)))
      k0_pay19 k0_pay20 k0_pay21
      (k0_pay22 x0 (View.readAt (Elt Ideal) arg4.view (Rect.unit (s := S1x4096x128) (k0_off1 i) S1x128x128.size (k0_off1_inb i)).toLoadRect (harg4.unread x1)))
      (k0_pay23 x0 (View.readAt (Elt Ideal) arg4.view (Rect.unit (s := S1x4096x128) (k0_off1 i) S1x128x128.size (k0_off1_inb i)).toLoadRect (harg4.unread x1)))
      (k0_pay24 x0 (View.readAt (Elt Ideal) arg4.view (Rect.unit (s := S1x4096x128) (k0_off1 i) S1x128x128.size (k0_off1_inb i)).toLoadRect (harg4.unread x1))))
    z v r d (128 * (i 2).val + r.val) (by omega) ?_ hv
    (fun s => pay3_at x0 _ z (i 2).val hi r s hs)
    (pay4_at x0 _ _ z v (i 2).val hi r d hs (fun x => (hk5 x d).trans (hv ⟨128 * (i 2).val + x.val, by omega⟩)))
    (i 2).val le_rfl).2
  · rw [Nat.sub_self, Nat.mul_zero] at h
    exact h
  · intro n
    have h16 : ∀ y, k0_pay16 x0 (ix2 r y) = x0 (ix3 0 r y) := fun y => by pointwise [k0_pay16]
    rw [Finset.sum_congr rfl fun y _ => by rw [h16 y]]
    exact hz n

end Cert.Proof.Sb

end
-- ==== Proof.SbWindow.lean ====
/- The sums a reversed running sum takes along the last axis of a four-axis array: at each position the sum of what stands
   there and after it. -/
module

public import Idealize.ShloMosaic.Lib.Pointwise
public import proofs.«01_k».proof.Proof.SbMath

@[expose] public section

set_option maxRecDepth 16384

noncomputable section

open Idealize.ShloMosaic

namespace Cert.Proof.SbWindow

theorem foldl_add {ι : Type} (f : ι → EReal) (l : List ι) (r : EReal) : l.foldl (fun r n => r + f n) r = r + (l.map f).sum := by
  induction l generalizing r with
  | nil => simp
  | cons a l ih => rw [List.foldl_cons, ih, List.map_cons, List.sum_cons, add_assoc]

/-- A sum over a window that is one position wide on three axes is a sum over the fourth. -/
theorem sum_window (N : ℕ) (g : (⟨4, ![1, 1, 1, N]⟩ : Shape).Idx → EReal) :
    ∑ i, g i = ∑ n : Fin N, g (ix4 (0 : Fin 1) (0 : Fin 1) (0 : Fin 1) n) := by
  refine (Fintype.sum_bijective (fun n : Fin N => (ix4 (0 : Fin 1) (0 : Fin 1) (0 : Fin 1) n : (⟨4, ![1, 1, 1, N]⟩ : Shape).Idx)) ⟨?_, ?_⟩ _ _ fun _ => rfl).symm
  · intro n m h
    exact congrFun h 3
  · intro i
    refine ⟨i 3, ?_⟩
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- What a window position adds to the sum at `j`: the entry that far behind `j`, if the row still has it. -/
def rest {A B C N : ℕ} (x : FVec Ideal ⟨4, ![A, B, C, N]⟩ .f32) (a : Fin A) (b : Fin B) (c : Fin C) (j : Fin N)
    (w : (⟨4, ![1, 1, 1, N]⟩ : Shape).Idx) : EReal :=
  if hn : j.val + (w 3).val < N then x (ix4 a b c ⟨j.val + (w 3).val, hn⟩) else (0 : EReal)

/-- The window sum at a position: everything from it to the end of its row. -/
theorem window_sum {A B C N H : ℕ} {u : Shape} (x : FVec Ideal ⟨4, ![A, B, C, N]⟩ .f32) (init : FVec Ideal u .f32)
    (h : (⟨4, ![A, B, C, N]⟩ : Shape).ReduceWindows ![1, 1, 1, N] ![1, 1, 1, 1] ![0, 0, 0, 0] ![0, 0, 0, H] ⟨4, ![A, B, C, N]⟩)
    (hu : 0 < u.numel) (h0 : init (Shape.Idx.first hu) = (0 : EReal)) (a : Fin A) (b : Fin B) (c : Fin C) (j : Fin N) :
    Host.reduceWindowAdd ![1, 1, 1, N] ![1, 1, 1, 1] ![0, 0, 0, 0] ![0, 0, 0, H] x init h hu (ix4 a b c j)
      = ∑ n : Fin N, if hn : j.val + n.val < N then x (ix4 a b c ⟨j.val + n.val, hn⟩) else (0 : EReal) := by
  unfold Host.reduceWindowAdd
  rw [Ideal.hostReduceWindowAdd_def, h0]
  unfold Ideal.hostReduceWindowAdd Host.reduceWindow
  dsimp only
  rw [foldl_add, zero_add, ← Fin.sum_univ_def]
  refine Eq.trans (Finset.sum_congr rfl (g := fun i => rest x a b c j ((Shape.rowMajor ⟨4, ![1, 1, 1, N]⟩).symm i)) fun i _ => ?_)
    ((Equiv.sum_comp (Shape.rowMajor ⟨4, ![1, 1, 1, N]⟩).symm (rest x a b c j)).trans (sum_window N _))
  unfold rest
  have w0 : ((Shape.rowMajor ⟨4, ![1, 1, 1, N]⟩).symm i 0).val = 0 := Nat.lt_one_iff.mp ((Shape.rowMajor ⟨4, ![1, 1, 1, N]⟩).symm i 0).isLt
  have w1 : ((Shape.rowMajor ⟨4, ![1, 1, 1, N]⟩).symm i 1).val = 0 := Nat.lt_one_iff.mp ((Shape.rowMajor ⟨4, ![1, 1, 1, N]⟩).symm i 1).isLt
  have w2 : ((Shape.rowMajor ⟨4, ![1, 1, 1, N]⟩).symm i 2).val = 0 := Nat.lt_one_iff.mp ((Shape.rowMajor ⟨4, ![1, 1, 1, N]⟩).symm i 2).isLt
  by_cases hn : j.val + ((Shape.rowMajor ⟨4, ![1, 1, 1, N]⟩).symm i 3).val < N
  · rw [dif_pos hn, dif_pos]
    · congr 1
      funext k
      apply Fin.ext
      match k with
      | ⟨0, _⟩ => show a.val * 1 + ((Shape.rowMajor ⟨4, ![1, 1, 1, N]⟩).symm i 0).val - 0 = a.val; omega
      | ⟨1, _⟩ => show b.val * 1 + ((Shape.rowMajor ⟨4, ![1, 1, 1, N]⟩).symm i 1).val - 0 = b.val; omega
      | ⟨2, _⟩ => show c.val * 1 + ((Shape.rowMajor ⟨4, ![1, 1, 1, N]⟩).symm i 2).val - 0 = c.val; omega
      | ⟨3, _⟩ => show j.val * 1 + ((Shape.rowMajor ⟨4, ![1, 1, 1, N]⟩).symm i 3).val - 0 = j.val + ((Shape.rowMajor ⟨4, ![1, 1, 1, N]⟩).symm i 3).val; omega
    · intro k
      match k with
      | ⟨0, _⟩ => exact (show 0 ≤ a.val * 1 + ((Shape.rowMajor ⟨4, ![1, 1, 1, N]⟩).symm i 0).val ∧ a.val * 1 + ((Shape.rowMajor ⟨4, ![1, 1, 1, N]⟩).symm i 0).val - 0 < A from ⟨by omega, by have := a.isLt; omega⟩)
      | ⟨1, _⟩ => exact (show 0 ≤ b.val * 1 + ((Shape.rowMajor ⟨4, ![1, 1, 1, N]⟩).symm i 1).val ∧ b.val * 1 + ((Shape.rowMajor ⟨4, ![1, 1, 1, N]⟩).symm i 1).val - 0 < B from ⟨by omega, by have := b.isLt; omega⟩)
      | ⟨2, _⟩ => exact (show 0 ≤ c.val * 1 + ((Shape.rowMajor ⟨4, ![1, 1, 1, N]⟩).symm i 2).val ∧ c.val * 1 + ((Shape.rowMajor ⟨4, ![1, 1, 1, N]⟩).symm i 2).val - 0 < C from ⟨by omega, by have := c.isLt; omega⟩)
      | ⟨3, _⟩ => exact (show 0 ≤ j.val * 1 + ((Shape.rowMajor ⟨4, ![1, 1, 1, N]⟩).symm i 3).val ∧ j.val * 1 + ((Shape.rowMajor ⟨4, ![1, 1, 1, N]⟩).symm i 3).val - 0 < N from ⟨by omega, by omega⟩)
  · rw [dif_neg hn, dif_neg]
    intro hk
    have h3 : j.val * 1 + ((Shape.rowMajor ⟨4, ![1, 1, 1, N]⟩).symm i 3).val - 0 < N := (hk 3).2
    omega

/-- For a row of real numbers the window sum is the real sum from the position to the row's end. -/
theorem window_real {A B C N H : ℕ} {u : Shape} (x : FVec Ideal ⟨4, ![A, B, C, N]⟩ .f32) (init : FVec Ideal u .f32)
    (h : (⟨4, ![A, B, C, N]⟩ : Shape).ReduceWindows ![1, 1, 1, N] ![1, 1, 1, 1] ![0, 0, 0, 0] ![0, 0, 0, H] ⟨4, ![A, B, C, N]⟩)
    (hu : 0 < u.numel) (h0 : init (Shape.Idx.first hu) = (0 : EReal)) (a : Fin A) (b : Fin B) (c : Fin C) (j : Fin N)
    (f : ℕ → ℝ) (hx : ∀ n : Fin N, x (ix4 a b c n) = (f n.val : EReal)) :
    Host.reduceWindowAdd ![1, 1, 1, N] ![1, 1, 1, 1] ![0, 0, 0, 0] ![0, 0, 0, H] x init h hu (ix4 a b c j)
      = ((∑ n ∈ Finset.Ico j.val N, f n : ℝ) : EReal) := by
  rw [window_sum x init h hu h0]
  have e : ∀ n : Fin N, (if hn : j.val + n.val < N then x (ix4 a b c ⟨j.val + n.val, hn⟩) else (0 : EReal))
      = (((fun n => if j.val + n < N then f (j.val + n) else 0) n.val : ℝ) : EReal) := by
    intro n
    by_cases hn : j.val + n.val < N
    · rw [dif_pos hn, hx]
      exact congrArg _ (if_pos hn).symm
    · rw [dif_neg hn]
      exact (congrArg (fun r : ℝ => (r : EReal)) (if_neg hn)).symm
  rw [Finset.sum_congr rfl fun n _ => e n, Fin.sum_univ_eq_sum_range (fun n => (((if j.val + n < N then f (j.val + n) else 0 : ℝ)) : EReal)) N,
    SbMath.coe_sum, Finset.sum_Ico_eq_sum_range]
  refine congrArg _ ?_
  rw [← Finset.sum_subset (s₁ := Finset.range (N - j.val)) (fun n hn => by simp only [Finset.mem_range] at *; omega)
    (fun n _ hn => if_neg (by simp only [Finset.mem_range] at hn; omega))]
  exact Finset.sum_congr rfl fun n hn => if_pos (by simp only [Finset.mem_range] at hn; omega)

end Cert.Proof.SbWindow

end
-- ==== Proof.SbRef.lean ====
/- The stick-breaking attention's reference, entry by entry: with real scores each result is the weighted sum of the values
   that `SbMath` names. -/
module

public import proofs.«01_k».proof.Proof.Gen.ReferenceIdeal.Run
public import proofs.«01_k».proof.Proof.SbMath
public import proofs.«01_k».proof.Proof.SbWindow
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen
open Cert.Proof.SbMath

namespace Cert.Proof.SbRef

/-- Zero everywhere. -/
def zeroV : FVec Ideal S4x4x4096x4096 .f32 :=
  broadcastInDim S4x4x4096x4096 ![] bcast_S_S4x4x4096x4096 (constant S_ .f32 0x00000000#32)

/-- Zero everywhere, as a choice's other branch. -/
def elseV : FVec Ideal S4x4x4096x4096 .f32 :=
  broadcastInDim S4x4x4096x4096 ![] bcast_S_S4x4x4096x4096 (id (constant S_ .f32 0x00000000#32))

/-- Which keys stand before the query. -/
def maskV : IVec S4x4x4096x4096 1 :=
  broadcastInDim S4x4x4096x4096 ![2, 3] bcast_S4096x4096_S4x4x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scores of every query with every key. -/
def scoreV (A : FVec Ideal S4x4096x5632 .f32) : FVec Ideal S4x4x4096x4096 .f32 :=
  mulf (Host.dotGeneral dot_S4x4096x4x128_S4x4096x4x128_S4x4x4096x4096_3_3_1_1_02_02 none (shapeCast _ (extractStridedSlice S4x4096x512 ![0, 0, 2048] A slices_S4x4096x5632_S4x4096x512_0_0_2048) shapeCasts_S4x4096x512_S4x4096x4x128) (shapeCast _ (extractStridedSlice S4x4096x512 ![0, 0, 2560] A slices_S4x4096x5632_S4x4096x512_0_0_2560) shapeCasts_S4x4096x512_S4x4096x4x128)) (broadcastInDim S4x4x4096x4096 ![] bcast_S_S4x4x4096x4096 (constant S_ .f32 0x3DB504F3#32))

/-- The softplus of every entry. -/
def softV (Y : FVec Ideal S4x4x4096x4096 .f32) : FVec Ideal S4x4x4096x4096 .f32 :=
  select (cmpf .une (subf Y zeroV) (subf Y zeroV)) (addf Y zeroV) (addf (maximumf Y zeroV) (Host.log1p (Host.exp (Host.negf (Host.absf (subf Y zeroV))))))

/-- What each key before the query leaves of the stick, as a logarithm. -/
def stayV (A : FVec Ideal S4x4096x5632 .f32) : FVec Ideal S4x4x4096x4096 .f32 :=
  select maskV (Host.negf (softV (Host.negf (Host.negf (scoreV A))))) elseV

/-- What the keys behind each key leave of the stick together, as a logarithm. -/
def afterV (A : FVec Ideal S4x4096x5632 .f32) : FVec Ideal S4x4x4096x4096 .f32 :=
  subf (Host.reduceWindowAdd ![1, 1, 1, 4096] ![1, 1, 1, 1] ![0, 0, 0, 0] ![0, 0, 0, 4095] (stayV A) (broadcastInDim S_ ![] bcast_S_S_ (constant S_ .f32 0x00000000#32)) reduceWindows_S4x4x4096x4096_S4x4x4096x4096_w1s1p0_0_w1s1p0_0_w1s1p0_0_w4096s1p0_4095 h_S_) (stayV A)

/-- The weights. -/
def weightV (A : FVec Ideal S4x4096x5632 .f32) : FVec Ideal S4x4x4096x4096 .f32 :=
  select maskV (Host.exp (addf (Host.negf (softV (Host.negf (scoreV A)))) (afterV A))) elseV

/-- The results. -/
def outV (A : FVec Ideal S4x4096x5632 .f32) : FVec Ideal S4x4096x512 .f32 :=
  shapeCast _ (transpose S4x4096x4x128 [0, 3, 1, 2] (Host.dotGeneral dot_S4x4096x4x128_S4x4x4096x4096_S4x4x128x4096_1_3_3_2_02_01 none (shapeCast _ (extractStridedSlice S4x4096x512 ![0, 0, 3072] A slices_S4x4096x5632_S4x4096x512_0_0_3072) shapeCasts_S4x4096x512_S4x4096x4x128) (weightV A)) transposes_S4x4x128x4096_S4x4096x4x128_0_3_1_2) shapeCasts_S4x4096x4x128_S4x4096x512

theorem res_eq (m : (ℓ : Loc nD τ sig) → Buf (Elt Ideal) ℓ) (c : Dev nD) :
    Value.res_main_v27 (F := Ideal) m c = outV (m ((c.tc : Thread nD τ).loc main_arg0)) := rfl

theorem score_at (A : FVec Ideal S4x4096x5632 .f32) (b h : Fin 4) (t s : Fin 4096) :
    scoreV A (ix4 b h t s) = (∑ x : Fin 128, A (ix3 b t ⟨2048 + (h.val * 128 + x.val), by omega⟩) * A (ix3 b s ⟨2560 + (h.val * 128 + x.val), by omega⟩))
      * Ideal.ofBits FTy.f32 1035273459#32 := by
  pointwise [scoreV]

theorem else_at (i : S4x4x4096x4096.Idx) : elseV i = 0 :=
  Ideal.ofBits_zero_f32

theorem mask_at (b h : Fin 4) (t s : Fin 4096) (x y : EReal) :
    Scalar.select (maskV (ix4 b h t s)) x y = if s.val < t.val then x else y := by
  pointwise [maskV]
  rw [WordCmp.cmpi_slt_ofNat (by omega) (by omega)]
  by_cases h : s.val < t.val <;> simp [Scalar.select, h]

theorem soft_at (Y : FVec Ideal S4x4x4096x4096 .f32) (b h : Fin 4) (t s : Fin 4096) (y : ℝ) (hy : Y (ix4 b h t s) = (y : EReal)) :
    softV Y (ix4 b h t s) = ((sp y : ℝ) : EReal) := by
  pointwise [softV, zeroV]
  rw [hy, if_neg (not_not.mpr rfl), ← zero_sub]
  exact softplus_coe _ y

theorem stay_at (A : FVec Ideal S4x4096x5632 .f32) (z : ℕ → ℝ) (b h : Fin 4) (t s : Fin 4096)
    (hz : scoreV A (ix4 b h t s) = (z s.val : EReal)) : stayV A (ix4 b h t s) = ((stay z t.val s.val : ℝ) : EReal) := by
  have hs := soft_at (Host.negf (Host.negf (scoreV A))) b h t s (z s.val) (by pointwise; rw [hz]; simp)
  pointwise [stayV]
  rw [mask_at, else_at, hs, stay]
  split
  · rw [EReal.coe_neg]
  · rw [EReal.coe_zero]

theorem after_at (A : FVec Ideal S4x4096x5632 .f32) (z : ℕ → ℝ) (b h : Fin 4) (t s : Fin 4096)
    (hz : ∀ n : Fin 4096, scoreV A (ix4 b h t n) = (z n.val : EReal)) : afterV A (ix4 b h t s) = ((tail z t.val (s.val + 1) : ℝ) : EReal) := by
  unfold afterV
  refine Eq.trans (congrArg₂ (fun x y : EReal => x - y) (SbWindow.window_real (stayV A) _ _ _ (by pointwise) b h t s (stay z t.val)
    fun n => stay_at A z b h t n (hz n)) (stay_at A z b h t s (hz s))) ?_
  rw [← EReal.coe_sub, tail, Finset.sum_eq_sum_Ico_succ_bot s.isLt, add_sub_cancel_left]

theorem weight_at (A : FVec Ideal S4x4096x5632 .f32) (z : ℕ → ℝ) (b h : Fin 4) (t s : Fin 4096)
    (hz : ∀ n : Fin 4096, scoreV A (ix4 b h t n) = (z n.val : EReal)) : weightV A (ix4 b h t s) = ((wt z t.val s.val : ℝ) : EReal) := by
  have hs := soft_at (Host.negf (scoreV A)) b h t s (-(z s.val)) (by pointwise; rw [hz]; simp)
  have ha := after_at A z b h t s hz
  pointwise [weightV]
  rw [mask_at, else_at, hs, ha, wt]
  split
  · rw [← EReal.coe_neg, sp_neg, ← EReal.coe_add, Ideal.exp_coe]
  · rw [EReal.coe_zero]

theorem out_at (A : FVec Ideal S4x4096x5632 .f32) (z : ℕ → ℝ) (v : ℕ → EReal) (b h : Fin 4) (t : Fin 4096) (d : Fin 128)
    (hz : ∀ n : Fin 4096, scoreV A (ix4 b h t n) = (z n.val : EReal))
    (hv : ∀ n : Fin 4096, A (ix3 b n ⟨3072 + (h.val * 128 + d.val), by omega⟩) = v n.val) :
    outV A (ix3 b t ⟨h.val * 128 + d.val, by omega⟩) = att z v t.val 0 := by
  have hw := fun s => weight_at A z b h t s hz
  pointwise [outV]
  rw [att, ← Finset.range_eq_Ico, ← Fin.sum_univ_eq_sum_range (fun n => (wt z t.val n : EReal) * v n) 4096]
  exact Finset.sum_congr rfl fun s _ => by rw [hw, hv, mul_comm]

end Cert.Proof.SbRef

end
-- ==== Proof.SbClaim.lean ====
/- The stick-breaking attention: the kernel's result array, the reference's, and the claims about them. -/
module

public import proofs.«01_k».proof.Proof.Gen.KernelIdeal.Value
public import proofs.«01_k».proof.Proof.Gen.ReferenceIdeal.Run
public import proofs.«01_k».proof.Defs
public import proofs.«01_k».proof.Proof.Gen.Kernel.Frame
public import proofs.«01_k».proof.Proof.SbTrip
public import proofs.«01_k».proof.Proof.SbRef
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Sb

open Cert.KernelIdeal Cert.KernelIdeal.Gen Cert.Proof.SbMath

/-! ## What is computed -/

/-- The projected input. -/
abbrev Arr : Type := FVec Ideal S4x4096x5632 .f32

/-- The score of query `t` with key `s`, in head `h` of batch row `b`. -/
def score (A : Arr) (b h : Fin 4) (t s : Fin 4096) : EReal :=
  (∑ x : Fin 128, A (ix3 b t ⟨2048 + (h.val * 128 + x.val), by omega⟩) * A (ix3 b s ⟨2560 + (h.val * 128 + x.val), by omega⟩)) * κ

/-- The scores of one query, as real numbers. -/
def zs (A : Arr) (b h : Fin 4) (t : Fin 4096) (n : ℕ) : ℝ := if hn : n < 4096 then (score A b h t ⟨n, hn⟩).toReal else 0

/-- One column of the values. -/
def vs (A : Arr) (b : Fin 4) (e : Fin 512) (n : ℕ) : EReal := if hn : n < 4096 then A (ix3 b ⟨n, hn⟩ ⟨3072 + e.val, by omega⟩) else 0

/-- The head a result column belongs to. -/
abbrev hd (e : Fin 512) : Fin 4 := ⟨e.val / 128, by omega⟩

/-- The attention's result: for every query the weighted sum of the values before it. -/
def G (A : Arr) : FVec Ideal S4x4096x512 .f32 :=
  fun i => att (zs A (i 0) (hd (i 2)) (i 1)) (vs A (i 0) (i 2)) (i 1).val 0

/-! ## The scores are real numbers -/

/-- The queries and the keys are finite. -/
def Fin_qk (A : Arr) : Prop := ∀ (b : Fin 4) (t : Fin 4096) (k : Fin 1024), ∃ r : ℝ, A (ix3 b t ⟨2048 + k.val, by omega⟩) = (r : EReal)

theorem scale_real : ∃ r : ℝ, κ = (r : EReal) := by
  simp only [κ, Ideal.ofBits, Ideal.ieee]
  rw [if_neg (by decide), if_neg (by decide)]
  exact ⟨_, rfl⟩

theorem score_real (A : Arr) (hA : Fin_qk A) (b h : Fin 4) (t s : Fin 4096) : score A b h t s = ((zs A b h t s.val : ℝ) : EReal) := by
  have hr : ∃ r : ℝ, score A b h t s = (r : EReal) := by
    obtain ⟨k, hk⟩ := scale_real
    choose q hq using fun x : Fin 128 => hA b t ⟨h.val * 128 + x.val, by omega⟩
    choose p hp using fun x : Fin 128 => hA b s ⟨512 + (h.val * 128 + x.val), by omega⟩
    refine ⟨(∑ x, q x * p x) * k, ?_⟩
    rw [EReal.coe_mul, ← coe_sum, ← hk]
    refine congrArg (· * κ) (Finset.sum_congr rfl fun x _ => ?_)
    rw [EReal.coe_mul, ← hq, ← hp]
    refine congrArg (A (ix3 b t ⟨2048 + (h.val * 128 + x.val), by omega⟩) * ·) (congrArg A ?_)
    exact congrArg (ix3 b s) (Fin.ext (by show 2560 + (h.val * 128 + x.val) = 2048 + (512 + (h.val * 128 + x.val)); omega))
  obtain ⟨r, hr⟩ := hr
  rw [zs, dif_pos s.isLt]
  show score A b h t s = _
  rw [show (⟨s.val, s.isLt⟩ : Fin 4096) = s from rfl, hr, EReal.toReal_coe]

/-- The side conditions of the precondition. -/
theorem preFacts : Cert.Pre_finite_qk.Facts := ⟨by decide, by decide⟩

/-- The precondition says that the queries and the keys are finite. -/
theorem fin_of_pre (A : Arr) (h : (haveI := preFacts; Cert.Pre_finite_qk.fn (F := Ideal) A) = fun _ => 1#1) : Fin_qk A := by
  intro b t k
  have e := congrFun h (ix3 b t k)
  haveI := preFacts
  pointwise [Cert.Pre_finite_qk.fn] at e
  have hlt : FloatOps.absf (F := Ideal) (φ := .f32) (A (ix3 b t ⟨2048 + k.val, by omega⟩)) < Ideal.ofBits FTy.f32 2139095040#32 := by
    by_contra hn
    rw [decide_eq_false hn] at e
    exact absurd e (by decide)
  rw [Ideal.absf_def] at hlt
  have hmax : max (A (ix3 b t ⟨2048 + k.val, by omega⟩)) (-A (ix3 b t ⟨2048 + k.val, by omega⟩)) < (⊤ : EReal) := lt_top_of_lt hlt
  obtain ⟨h1, h2⟩ := max_lt_iff.mp hmax
  exact ⟨_, (EReal.coe_toReal h1.ne fun hb => by rw [hb, EReal.neg_bot] at h2; exact lt_irrefl _ h2).symm⟩

/-! ## The reference -/

theorem ref_eq (A : Arr) (hA : Fin_qk A) : SbRef.outV A = G A := by
  funext i
  obtain ⟨b, t, e, rfl⟩ : ∃ (b : Fin 4) (t : Fin 4096) (e : Fin 512), i = ix3 b t e := ⟨i 0, i 1, i 2, by
    funext a; match a with | ⟨0, _⟩ => rfl | ⟨1, _⟩ => rfl | ⟨2, _⟩ => rfl⟩
  have he : (⟨(hd e).val * 128 + (⟨e.val % 128, by omega⟩ : Fin 128).val, by show e.val / 128 * 128 + e.val % 128 < 512; omega⟩ : Fin 512) = e :=
    Fin.ext (by show e.val / 128 * 128 + e.val % 128 = e.val; omega)
  have h := SbRef.out_at A (zs A b (hd e) t) (vs A b e) b (hd e) t ⟨e.val % 128, by omega⟩
    (fun n => (SbRef.score_at A b (hd e) t n).trans (score_real A hA b (hd e) t n))
    (fun n => by
      rw [vs, dif_pos n.isLt]
      exact congrArg A (congrArg (ix3 b n) (Fin.ext (by show 3072 + (e.val / 128 * 128 + e.val % 128) = 3072 + e.val; omega))))
  rw [he] at h
  exact h

/-! ## Which part of its array each window's block is -/

/-- The block index of each window at point `t`. -/
theorem idx : ∀ t : Fin cfg0.N,
    (win0_0.index t (0 : Fin 3) = t.val / 128 ∧ win0_0.index t (1 : Fin 3) = t.val % 32 ∧ win0_0.index t (2 : Fin 3) = 16 + t.val / 32 % 4)
    ∧ (win0_1.index t (0 : Fin 3) = t.val / 128 ∧ win0_1.index t (1 : Fin 3) = 0 ∧ win0_1.index t (2 : Fin 3) = 20 + t.val / 32 % 4)
    ∧ (win0_2.index t (0 : Fin 3) = t.val / 128 ∧ win0_2.index t (1 : Fin 3) = 0 ∧ win0_2.index t (2 : Fin 3) = 24 + t.val / 32 % 4)
    ∧ (win0_3.index t (0 : Fin 3) = t.val / 128 ∧ win0_3.index t (1 : Fin 3) = t.val % 32 ∧ win0_3.index t (2 : Fin 3) = t.val / 32 % 4)
    ∧ ((grid0.coords t) 2).val = t.val % 32 :=
  (by decide +kernel : ∀ t : Fin grid0.N, _)

theorem lt_N (t : Fin cfg0.N) : t.val < 512 := N_0 ▸ t.isLt

/-- The batch row, the head, the query and the column of point `t`. -/
abbrev bat (t : Fin cfg0.N) : Fin 4 := ⟨t.val / 128, by have := lt_N t; omega⟩
abbrev head (t : Fin cfg0.N) : Fin 4 := ⟨t.val / 32 % 4, by omega⟩
abbrev qry (t : Fin cfg0.N) (r : Fin 128) : Fin 4096 := ⟨128 * (t.val % 32) + r.val, by omega⟩
abbrev col (t : Fin cfg0.N) (d : Fin 128) : Fin 512 := ⟨t.val / 32 % 4 * 128 + d.val, by omega⟩

theorem emb0 (t : Fin cfg0.N) (r d : Fin 128) : ((cfg0.win 0).blk t).view.emb (ix3 0 r d)
    = ix3 (bat t) (qry t r) ⟨2048 + ((head t).val * 128 + d.val), by have := (head t).isLt; omega⟩ := by
  obtain ⟨⟨e0, e1, e2⟩, -⟩ := idx t
  funext a; apply Fin.ext
  match a with
  | ⟨0, _⟩ => show win0_0.index t (0 : Fin 3) * 1 + 1 * 0 = t.val / 128; omega
  | ⟨1, _⟩ => show win0_0.index t (1 : Fin 3) * 128 + 1 * r.val = 128 * (t.val % 32) + r.val; omega
  | ⟨2, _⟩ => show win0_0.index t (2 : Fin 3) * 128 + 1 * d.val = 2048 + (t.val / 32 % 4 * 128 + d.val); omega

theorem emb1 (t : Fin cfg0.N) (n : Fin 4096) (d : Fin 128) : ((cfg0.win 1).blk t).view.emb (ix3 0 n d)
    = ix3 (bat t) n ⟨2560 + ((head t).val * 128 + d.val), by have := (head t).isLt; omega⟩ := by
  obtain ⟨-, ⟨e0, e1, e2⟩, -⟩ := idx t
  funext a; apply Fin.ext
  match a with
  | ⟨0, _⟩ => show win0_1.index t (0 : Fin 3) * 1 + 1 * 0 = t.val / 128; omega
  | ⟨1, _⟩ => show win0_1.index t (1 : Fin 3) * 4096 + 1 * n.val = n.val; omega
  | ⟨2, _⟩ => show win0_1.index t (2 : Fin 3) * 128 + 1 * d.val = 2560 + (t.val / 32 % 4 * 128 + d.val); omega

theorem emb2 (t : Fin cfg0.N) (n : Fin 4096) (d : Fin 128) : ((cfg0.win 2).blk t).view.emb (ix3 0 n d)
    = ix3 (bat t) n ⟨3072 + (col t d).val, by have := (col t d).isLt; omega⟩ := by
  obtain ⟨-, -, ⟨e0, e1, e2⟩, -⟩ := idx t
  funext a; apply Fin.ext
  match a with
  | ⟨0, _⟩ => show win0_2.index t (0 : Fin 3) * 1 + 1 * 0 = t.val / 128; omega
  | ⟨1, _⟩ => show win0_2.index t (1 : Fin 3) * 4096 + 1 * n.val = n.val; omega
  | ⟨2, _⟩ => show win0_2.index t (2 : Fin 3) * 128 + 1 * d.val = 3072 + (t.val / 32 % 4 * 128 + d.val); omega

theorem emb3 (t : Fin cfg0.N) (r d : Fin 128) : ((cfg0.win 3).blk t).view.emb (ix3 0 r d) = ix3 (bat t) (qry t r) (col t d) := by
  obtain ⟨-, -, -, ⟨e0, e1, e2⟩, -⟩ := idx t
  funext a; apply Fin.ext
  match a with
  | ⟨0, _⟩ => show win0_3.index t (0 : Fin 3) * 1 + 1 * 0 = t.val / 128; omega
  | ⟨1, _⟩ => show win0_3.index t (1 : Fin 3) * 128 + 1 * r.val = 128 * (t.val % 32) + r.val; omega
  | ⟨2, _⟩ => show win0_3.index t (2 : Fin 3) * 128 + 1 * d.val = t.val / 32 % 4 * 128 + d.val; omega

variable (m : (ℓ : Loc nD τ sig) → Buf (Elt Ideal) ℓ)

/-- The kernel's argument on core `c`. -/
abbrev arg (c : Dev nD) : Arr := m ((c : Thread nD τ).loc main_arg0)

/-! ## What the input blocks hold, in the argument as launched -/

theorem blk0 (c : Dev nD) (t : Fin cfg0.N) (r d : Fin 128) : iblk m c 0 t (ix3 0 r d)
    = arg m c (ix3 (bat t) (qry t r) ⟨2048 + ((head t).val * 128 + d.val), by have := (head t).isLt; omega⟩) := by
  show V m c main_arg0 (((cfg0.win 0).blk t).view.emb (ix3 0 r d)) = _
  rw [emb0]

theorem blk1 (c : Dev nD) (t : Fin cfg0.N) (n : Fin 4096) (d : Fin 128) : iblk m c 1 t (ix3 0 n d)
    = arg m c (ix3 (bat t) n ⟨2560 + ((head t).val * 128 + d.val), by have := (head t).isLt; omega⟩) := by
  show V m c main_arg0 (((cfg0.win 1).blk t).view.emb (ix3 0 n d)) = _
  rw [emb1]

theorem blk2 (c : Dev nD) (t : Fin cfg0.N) (n : Fin 4096) (d : Fin 128) : iblk m c 2 t (ix3 0 n d)
    = arg m c (ix3 (bat t) n ⟨3072 + (col t d).val, by have := (col t d).isLt; omega⟩) := by
  show V m c main_arg0 (((cfg0.win 2).blk t).view.emb (ix3 0 n d)) = _
  rw [emb2]

/-! ## The result array -/

/-- What point `t` writes back is its block of the computed array. -/
theorem flushed_eq (hA : ∀ c, Fin_qk (arg m c)) (c : Dev nD) (t : Fin cfg0.N) : (dats m 0 c).flushed 3 t
    = ((cfg0.win 3).blk t).view.read (Elt Ideal) (G (arg m c)) := by
  rw [Value.flushed3_A]
  funext j
  obtain ⟨r, d, rfl⟩ : ∃ (r d : Fin 128), j = ix3 (0 : Fin 1) r d := ⟨j 1, j 2, by
    funext a; match a with | ⟨0, _⟩ => exact Subsingleton.elim (α := Fin 1) _ _ | ⟨1, _⟩ => rfl | ⟨2, _⟩ => rfl⟩
  show out0_A_3 c (grid0.coords t) (ms0_0 t) (hs0_0 t) (ms0_1 t) (hs0_1 t) (ms0_2 t) (hs0_2 t) (ms0_3 t) (hs0_3 t)
    (iblk m c 0 t) (iblk m c 1 t) (iblk m c 2 t) (ix3 0 r d) = G (arg m c) (((cfg0.win 3).blk t).view.emb (ix3 0 r d))
  have hh : hd (col t d) = head t := Fin.ext (by show (t.val / 32 % 4 * 128 + d.val) / 128 = t.val / 32 % 4; omega)
  have hc : ((grid0.coords t) 2).val = t.val % 32 := (idx t).2.2.2.2
  rw [emb3, out_at c (grid0.coords t) _ _ _ _ _ _ _ _ _ _ _ (zs (arg m c) (bat t) (head t) (qry t r)) (vs (arg m c) (bat t) (col t d)) r d ?_ ?_, hc]
  · show _ = att (zs (arg m c) (bat t) (hd (col t d)) (qry t r)) (vs (arg m c) (bat t) (col t d)) (qry t r).val 0
    rw [hh]
  · intro n
    rw [Finset.sum_congr rfl fun y _ => by rw [blk0, blk1]]
    exact score_real _ (hA c) (bat t) (head t) (qry t r) n
  · intro n
    rw [blk2, vs, dif_pos n.isLt]

/-- Every index of the result is in the block of some point. -/
theorem cover (i : S4x4096x512.Idx) :
    ∃ t : Fin cfg0.N, (cfg0.win 3).flush t = true ∧ i ∈ ((cfg0.win 3).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have he := e.isLt
  have ht : b.val * 128 + e.val / 128 * 32 + q.val / 128 < cfg0.N := by rw [show cfg0.N = 512 from N_0]; omega
  refine ⟨⟨_, ht⟩, flush0_3 _, ?_⟩
  have h := ((cfg0.win 3).blk ⟨_, ht⟩).view.emb_mem_set (ix3 (0 : Fin 1) (⟨q.val % 128, by omega⟩ : Fin 128) (⟨e.val % 128, by omega⟩ : Fin 128))
  rw [emb3] at h
  have e0 : bat ⟨_, ht⟩ = b := Fin.ext (by show (b.val * 128 + e.val / 128 * 32 + q.val / 128) / 128 = b.val; omega)
  have e1 : qry ⟨_, ht⟩ (⟨q.val % 128, by omega⟩ : Fin 128) = q :=
    Fin.ext (by show 128 * ((b.val * 128 + e.val / 128 * 32 + q.val / 128) % 32) + q.val % 128 = q.val; omega)
  have e2 : col ⟨_, ht⟩ (⟨e.val % 128, by omega⟩ : Fin 128) = e :=
    Fin.ext (by show (b.val * 128 + e.val / 128 * 32 + q.val / 128) / 32 % 4 * 128 + e.val % 128 = e.val; omega)
  rwa [e0, e1, e2] at h

/-- The result array after the run is the computed array of the argument. -/
theorem final (hA : ∀ c, Fin_qk (arg m c)) (c : Dev nD) : (dats m 0 c).arrAt 3 cfg0.N = G (arg m c) :=
  (dats m 0 c).arrAt_eq_of_cover 3 _ (fun t _ => flushed_eq m hA c t) cover

/-! ## The claims -/

/-- The kernel and its idealization leave every semaphore at zero and the argument as it was, with or without the precondition. -/
theorem frame : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_qk (hPre_finite_qk := preFacts) := fun m ρ _ => Cert.KernelIdeal.Gen.frame m ρ

/-- The reference leaves the argument as it was and has no semaphore, with or without the precondition. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref_pre : Cert.quiescent_ReferenceIdeal_pre_finite_qk (hPre_finite_qk := preFacts) := fun m ρ _ => frame_ref m ρ trivial

/-- The idealization rewrote nothing. -/
theorem preserves : Cert.preserves_Kernel_KernelIdeal := trivial

/-- Over the extended reals, with finite queries and keys, the kernel and the reference end with the same result array. -/
theorem algebraic : Cert.algebraic_KernelIdeal_ReferenceIdeal_pre_finite_qk (hPre_finite_qk := preFacts) := by
  intro m ρ m' ρ' hpre hag
  have hA : ∀ c, Fin_qk (arg m c) := fun c => fin_of_pre _ (hpre c)
  refine ⟨fun c => G (arg m c), (θ_run _ _ _).mono (fun r h c => ⟨(h c).1.trans (final m hA c), (h c).2⟩)
    (Value.run_blocks m ρ), (θ_run _ _ _).mono (fun r h c => ⟨(h c).1.trans ?_, (h c).2⟩)
    (Cert.ReferenceIdeal.Value.run (F := Ideal) m' ρ')⟩
  rw [SbRef.res_eq, hag c]
  exact ref_eq _ (hA c)

end Cert.Proof.Sb

end
-- ==== Proof.RowMath.lean ====
/- The layer norm of one row of extended reals, as the layer's dense calls and their references both compute it. -/
module

public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.RowMath

/-- The mean of a row of 1024 values (the divisor is the printed constant 1024). -/
def mean (row : Fin 1024 → EReal) : EReal := Ideal.div (∑ x, row x) (Ideal.ofBits FTy.f32 0x44800000#32)

/-- The layer norm of a row at column `s`, with weight `w` and bias `b` there: the centred value times the reciprocal
    root of the variance plus epsilon, times the weight, plus the bias. -/
def layerNorm (row : Fin 1024 → EReal) (w b : EReal) (s : Fin 1024) : EReal :=
  (row s - mean row)
    * Ideal.rsqrt (Ideal.div (∑ x, (row x - mean row) * (row x - mean row)) (Ideal.ofBits FTy.f32 0x44800000#32)
        + Ideal.ofBits FTy.f32 0x3727C5AC#32) * w + b

/-- The residual weight of the layer (the printed constant, the root of two as a 32-bit float). -/
def alpha : EReal := Ideal.ofBits FTy.f32 0x3FB504F3#32

theorem hz : (![0, 0] : Fin 2 → Nat) = fun _ => 0 := funext fun a => by fin_cases a <;> rfl

end Cert.Proof.RowMath

end
-- ==== Proof.MatmulValue.lean ====
/- The tiled matrix product (the mixing projections, and the feed-forward's first matrix): the kernel's result array, the reference's, and the claims about them. -/
module

public import proofs.«01_k».proof.Proof.Gen.MatmulIdeal.Value
public import proofs.«01_k».proof.Proof.Gen.MatmulRefIdeal.Run
public import proofs.«01_k».proof.Defs
public import proofs.«01_k».proof.Proof.Gen.Matmul.Frame
public import proofs.«01_k».proof.Proof.RowMath
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Matmul

open Cert.MatmulIdeal Cert.MatmulIdeal.Gen Cert.Proof.RowMath

variable (m : (ℓ : Loc nD τ sig) → Buf (Elt Ideal) ℓ) (ρ : Dev nD → PrngReg)

/-! ## What is computed -/

/-- The matrix product of the two arrays. -/
def G (x : FVec Ideal S16384x1024 .f32) (w : FVec Ideal S1024x5632 .f32) : FVec Ideal S16384x5632 .f32 :=
  fun i => ∑ k : Fin 1024, x (ix2 (i 0) k) * w (ix2 k (i 1))

/-! ## The body's block -/

/-- The body's payload at an index of the block, over the blocks it loads. -/
theorem pay (x0 : Vec Ideal S512x1024 .f32) (x1 : Vec Ideal S1024x512 .bf16) (r s : Fin 512) :
    k0_pay1 x0 x1 (ix2 r s) = ∑ k : Fin 1024, x0 (ix2 r k) * x1 (ix2 k s) := by
  pointwise [k0_pay1]

/-! ## Which part of its array each window's block is -/

/-- The block index of each window at point `t`. -/
theorem idx : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = t.val / 11 ∧ win0_2.index t (1 : Fin 2) = t.val % 11 :=
  (by decide +kernel : ∀ t : Fin grid0.N, _)

/-- The row of the arrays under row `r` of a row block. -/
theorem row_lt (t : Fin cfg0.N) (r : Fin 512) : t.val / 11 * 512 + r.val < 16384 := by
  have h : t.val < 352 := N_0 ▸ t.isLt
  have := r.isLt; omega
abbrev row (t : Fin cfg0.N) (r : Fin 512) : Fin 16384 := ⟨t.val / 11 * 512 + r.val, row_lt t r⟩

/-- The column of the arrays under column `s` of a column block. -/
theorem col_lt (t : Fin cfg0.N) (s : Fin 512) : t.val % 11 * 512 + s.val < 5632 := by
  have := s.isLt; omega
abbrev col (t : Fin cfg0.N) (s : Fin 512) : Fin 5632 := ⟨t.val % 11 * 512 + s.val, col_lt t s⟩

theorem emb0 (t : Fin cfg0.N) (r : Fin 512) (k : Fin 1024) : ((cfg0.win 0).blk t).view.emb (ix2 r k) = ix2 (row t r) k := by
  obtain ⟨e0, e1, -⟩ := idx t
  funext a; apply Fin.ext
  match a with
  | ⟨0, _⟩ => show win0_0.index t (0 : Fin 2) * 512 + 1 * r.val = t.val / 11 * 512 + r.val; omega
  | ⟨1, _⟩ => show win0_0.index t (1 : Fin 2) * 1024 + 1 * k.val = k.val; omega

theorem emb1 (t : Fin cfg0.N) (r : Fin 1024) (k : Fin 512) : ((cfg0.win 1).blk t).view.emb (ix2 r k) = ix2 r (col t k) := by
  obtain ⟨-, -, e0, e1, -⟩ := idx t
  funext a; apply Fin.ext
  match a with
  | ⟨0, _⟩ => show win0_1.index t (0 : Fin 2) * 1024 + 1 * r.val = r.val; omega
  | ⟨1, _⟩ => show win0_1.index t (1 : Fin 2) * 512 + 1 * k.val = t.val % 11 * 512 + k.val; omega

theorem emb2 (t : Fin cfg0.N) (r : Fin 512) (k : Fin 512) : ((cfg0.win 2).blk t).view.emb (ix2 r k) = ix2 (row t r) (col t k) := by
  obtain ⟨-, -, -, -, e0, e1⟩ := idx t
  funext a; apply Fin.ext
  match a with
  | ⟨0, _⟩ => show win0_2.index t (0 : Fin 2) * 512 + 1 * r.val = t.val / 11 * 512 + r.val; omega
  | ⟨1, _⟩ => show win0_2.index t (1 : Fin 2) * 512 + 1 * k.val = t.val % 11 * 512 + k.val; omega

/-! ## What the input blocks hold, in the arguments as launched -/

theorem blk0 (c : Dev nD) (t : Fin cfg0.N) (r : Fin 512) (k : Fin 1024) : iblk m c 0 t (ix2 r k)
    = m ((c : Thread nD τ).loc main_arg0) (ix2 (row t r) k) := by
  show V m c main_arg0 (((cfg0.win 0).blk t).view.emb (ix2 r k)) = _
  rw [emb0]
  entry_read
  rfl

theorem blk1 (c : Dev nD) (t : Fin cfg0.N) (r : Fin 1024) (k : Fin 512) : iblk m c 1 t (ix2 r k)
    = m ((c : Thread nD τ).loc main_arg1) (ix2 r (col t k)) := by
  show V m c main_v0 (((cfg0.win 1).blk t).view.emb (ix2 r k)) = _
  rw [emb1]
  entry_read
  rfl

/-! ## The result array -/

/-- The computed array of core `c`'s arguments as launched. -/
abbrev res (c : Dev nD) : FVec Ideal S16384x5632 .f32 := G (m ((c : Thread nD τ).loc main_arg0)) (m ((c : Thread nD τ).loc main_arg1))

/-- What point `t` writes back is its block of the computed array. -/
theorem flushed_eq (c : Dev nD) (t : Fin cfg0.N) : (dats m 0 c).flushed 2 t
    = ((cfg0.win 2).blk t).view.read (Elt Ideal) (res m c) := by
  rw [Value.flushed2]
  funext j
  obtain ⟨r, s, rfl⟩ : ∃ (r : Fin 512) (s : Fin 512), j = ix2 r s := ⟨j 0, j 1, Shape.idx_ext₂ rfl rfl⟩
  show out0_2 (iblk m c 0 t) (iblk m c 1 t) (ix2 r s) = res m c (((cfg0.win 2).blk t).view.emb (ix2 r s))
  unfold out0_2
  rw [View.canon_unit_zero hz, emb2]
  rw [View.ld_unit_zero hz, View.ld_unit_zero hz, pay]
  simp only [blk0, blk1]
  rfl

/-- Every index of the result is in the block of some point. -/
theorem cover (i : S16384x5632.Idx) :
    ∃ t : Fin cfg0.N, (cfg0.win 2).flush t = true ∧ i ∈ ((cfg0.win 2).blk t).view.set := by
  obtain ⟨a, b, rfl⟩ : ∃ (a : Fin 16384) (b : Fin 5632), i = ix2 a b := ⟨i 0, i 1, Shape.idx_ext₂ rfl rfl⟩
  have ha := a.isLt
  have hb := b.isLt
  have ht : a.val / 512 * 11 + b.val / 512 < cfg0.N := by rw [show cfg0.N = 352 from N_0]; omega
  refine ⟨⟨_, ht⟩, flush0_2 _, ?_⟩
  have h := ((cfg0.win 2).blk ⟨_, ht⟩).view.emb_mem_set (ix2 (⟨a.val % 512, by omega⟩ : Fin 512) (⟨b.val % 512, by omega⟩ : Fin 512))
  rw [emb2] at h
  have e0 : row ⟨_, ht⟩ (⟨a.val % 512, by omega⟩ : Fin 512) = a := Fin.ext (by show (a.val / 512 * 11 + b.val / 512) / 11 * 512 + a.val % 512 = a.val; omega)
  have e1 : col ⟨_, ht⟩ (⟨b.val % 512, by omega⟩ : Fin 512) = b := Fin.ext (by show (a.val / 512 * 11 + b.val / 512) % 11 * 512 + b.val % 512 = b.val; omega)
  rwa [e0, e1] at h

/-- The result array after the run is the computed array of the arguments. -/
theorem final (c : Dev nD) : (dats m 0 c).arrAt 2 cfg0.N = res m c :=
  (dats m 0 c).arrAt_eq_of_cover 2 _ (fun t _ => flushed_eq m c t) cover

/-! ## The claims -/

/-- The kernel and its idealization leave every semaphore at zero and the arguments as they were. -/
theorem frame : Cert.quiescent_Matmul := fun m ρ _ => Cert.Matmul.Gen.frame m ρ
theorem frame_ideal : Cert.quiescent_MatmulIdeal := fun m ρ _ => Cert.MatmulIdeal.Gen.frame m ρ

/-- The reference leaves the arguments as they were and has no semaphore. -/
theorem frame_ref : Cert.quiescent_MatmulRefIdeal := fun m ρ _ =>
  (θ_run Cert.MatmulRefIdeal.defs _ _).mono (fun r h => ⟨fun c => (h c).2, sem_eq_zero_of_no_sems (by decide) r.2⟩)
    (Cert.MatmulRefIdeal.Value.run (F := Ideal) m ρ)

/-- The idealization rewrote nothing. -/
theorem preserves : Cert.preserves_Matmul_MatmulIdeal := trivial

/-- Over the extended reals the kernel and the reference end with the same result array, whatever the arguments. -/
theorem algebraic : Cert.algebraic_MatmulIdeal_MatmulRefIdeal := by
  intro m ρ m' ρ' _ hag
  refine ⟨fun c => res m c, (θ_run _ _ _).mono (fun r h c => ⟨(h c).1.trans (final m c), (h c).2⟩)
    (Value.run_blocks m ρ), (θ_run _ _ _).mono (fun r h c => ⟨(h c).1.trans ?_, (h c).2⟩)
    (Cert.MatmulRefIdeal.Value.run (F := Ideal) m' ρ')⟩
  refine Eq.trans (b := G (m' (((c : Dev nD).tc : Thread nD τ).loc Cert.MatmulRefIdeal.main_arg0)) (m' (((c : Dev nD).tc : Thread nD τ).loc Cert.MatmulRefIdeal.main_arg1))) ?_ ?_
  · funext i
    obtain ⟨r, s, rfl⟩ : ∃ (r : Fin 16384) (s : Fin 5632), i = ix2 r s := ⟨i 0, i 1, Shape.idx_ext₂ rfl rfl⟩
    pointwise [G]
  show G (m' (((c : Dev nD).tc : Thread nD τ).loc Cert.MatmulRefIdeal.main_arg0)) (m' (((c : Dev nD).tc : Thread nD τ).loc Cert.MatmulRefIdeal.main_arg1)) = _
  obtain ⟨h0, h1⟩ := hag c
  rw [h0, h1]

end Cert.Proof.Matmul

end
-- ==== Proof.GateValue.lean ====
/- The gates: the kernel's result array, the reference's, and the claims about them. -/
module

public import proofs.«01_k».proof.Proof.Gen.GateIdeal.Value
public import proofs.«01_k».proof.Proof.Gen.GateRefIdeal.Run
public import proofs.«01_k».proof.Defs
public import proofs.«01_k».proof.Proof.Gen.Gate.Frame
public import proofs.«01_k».proof.Proof.RowMath
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Gate

open Cert.GateIdeal Cert.GateIdeal.Gen Cert.Proof.RowMath

variable (m : (ℓ : Loc nD τ sig) → Buf (Elt Ideal) ℓ) (ρ : Dev nD → PrngReg)

/-! ## What is computed -/

/-- The matrix product of the two arrays, the logistic function of each entry. -/
def G (x : FVec Ideal S16384x1024 .f32) (w : FVec Ideal S1024x3072 .f32) : FVec Ideal S16384x3072 .f32 :=
  fun i => Ideal.logistic (∑ k : Fin 1024, x (ix2 (i 0) k) * w (ix2 k (i 1)))

/-! ## The body's block -/

/-- The body's payload at an index of the block, over the blocks it loads. -/
theorem pay (x0 : Vec Ideal S512x1024 .f32) (x1 : Vec Ideal S1024x512 .bf16) (r s : Fin 512) :
    k0_pay1 x0 x1 (ix2 r s) = Ideal.logistic (∑ k : Fin 1024, x0 (ix2 r k) * x1 (ix2 k s)) := by
  pointwise [k0_pay1]

/-! ## Which part of its array each window's block is -/

/-- The block index of each window at point `t`. -/
theorem idx : ∀ t : Fin cfg0.N, win0_0.index t (0 : Fin 2) = t.val / 6 ∧ win0_0.index t (1 : Fin 2) = 0
    ∧ win0_1.index t (0 : Fin 2) = 0 ∧ win0_1.index t (1 : Fin 2) = t.val % 6
    ∧ win0_2.index t (0 : Fin 2) = t.val / 6 ∧ win0_2.index t (1 : Fin 2) = t.val % 6 :=
  (by decide +kernel : ∀ t : Fin grid0.N, _)

/-- The row of the arrays under row `r` of a row block. -/
theorem row_lt (t : Fin cfg0.N) (r : Fin 512) : t.val / 6 * 512 + r.val < 16384 := by
  have h : t.val < 192 := N_0 ▸ t.isLt
  have := r.isLt; omega
abbrev row (t : Fin cfg0.N) (r : Fin 512) : Fin 16384 := ⟨t.val / 6 * 512 + r.val, row_lt t r⟩

/-- The column of the arrays under column `s` of a column block. -/
theorem col_lt (t : Fin cfg0.N) (s : Fin 512) : t.val % 6 * 512 + s.val < 3072 := by
  have := s.isLt; omega
abbrev col (t : Fin cfg0.N) (s : Fin 512) : Fin 3072 := ⟨t.val % 6 * 512 + s.val, col_lt t s⟩

theorem emb0 (t : Fin cfg0.N) (r : Fin 512) (k : Fin 1024) : ((cfg0.win 0).blk t).view.emb (ix2 r k) = ix2 (row t r) k := by
  obtain ⟨e0, e1, -⟩ := idx t
  funext a; apply Fin.ext
  match a with
  | ⟨0, _⟩ => show win0_0.index t (0 : Fin 2) * 512 + 1 * r.val = t.val / 6 * 512 + r.val; omega
  | ⟨1, _⟩ => show win0_0.index t (1 : Fin 2) * 1024 + 1 * k.val = k.val; omega

theorem emb1 (t : Fin cfg0.N) (r : Fin 1024) (k : Fin 512) : ((cfg0.win 1).blk t).view.emb (ix2 r k) = ix2 r (col t k) := by
  obtain ⟨-, -, e0, e1, -⟩ := idx t
  funext a; apply Fin.ext
  match a with
  | ⟨0, _⟩ => show win0_1.index t (0 : Fin 2) * 1024 + 1 * r.val = r.val; omega
  | ⟨1, _⟩ => show win0_1.index t (1 : Fin 2) * 512 + 1 * k.val = t.val % 6 * 512 + k.val; omega

theorem emb2 (t : Fin cfg0.N) (r : Fin 512) (k : Fin 512) : ((cfg0.win 2).blk t).view.emb (ix2 r k) = ix2 (row t r) (col t k) := by
  obtain ⟨-, -, -, -, e0, e1⟩ := idx t
  funext a; apply Fin.ext
  match a with
  | ⟨0, _⟩ => show win0_2.index t (0 : Fin 2) * 512 + 1 * r.val = t.val / 6 * 512 + r.val; omega
  | ⟨1, _⟩ => show win0_2.index t (1 : Fin 2) * 512 + 1 * k.val = t.val % 6 * 512 + k.val; omega

/-! ## What the input blocks hold, in the arguments as launched -/

theorem blk0 (c : Dev nD) (t : Fin cfg0.N) (r : Fin 512) (k : Fin 1024) : iblk m c 0 t (ix2 r k)
    = m ((c : Thread nD τ).loc main_arg0) (ix2 (row t r) k) := by
  show V m c main_arg0 (((cfg0.win 0).blk t).view.emb (ix2 r k)) = _
  rw [emb0]
  entry_read
  rfl

theorem blk1 (c : Dev nD) (t : Fin cfg0.N) (r : Fin 1024) (k : Fin 512) : iblk m c 1 t (ix2 r k)
    = m ((c : Thread nD τ).loc main_arg1) (ix2 r (col t k)) := by
  show V m c main_v0 (((cfg0.win 1).blk t).view.emb (ix2 r k)) = _
  rw [emb1]
  entry_read
  rfl

/-! ## The result array -/

/-- The computed array of core `c`'s arguments as launched. -/
abbrev res (c : Dev nD) : FVec Ideal S16384x3072 .f32 := G (m ((c : Thread nD τ).loc main_arg0)) (m ((c : Thread nD τ).loc main_arg1))

/-- What point `t` writes back is its block of the computed array. -/
theorem flushed_eq (c : Dev nD) (t : Fin cfg0.N) : (dats m 0 c).flushed 2 t
    = ((cfg0.win 2).blk t).view.read (Elt Ideal) (res m c) := by
  rw [Value.flushed2]
  funext j
  obtain ⟨r, s, rfl⟩ : ∃ (r : Fin 512) (s : Fin 512), j = ix2 r s := ⟨j 0, j 1, Shape.idx_ext₂ rfl rfl⟩
  show out0_2 (iblk m c 0 t) (iblk m c 1 t) (ix2 r s) = res m c (((cfg0.win 2).blk t).view.emb (ix2 r s))
  unfold out0_2
  rw [View.canon_unit_zero hz, emb2]
  rw [View.ld_unit_zero hz, View.ld_unit_zero hz, pay]
  simp only [blk0, blk1]
  rfl

/-- Every index of the result is in the block of some point. -/
theorem cover (i : S16384x3072.Idx) :
    ∃ t : Fin cfg0.N, (cfg0.win 2).flush t = true ∧ i ∈ ((cfg0.win 2).blk t).view.set := by
  obtain ⟨a, b, rfl⟩ : ∃ (a : Fin 16384) (b : Fin 3072), i = ix2 a b := ⟨i 0, i 1, Shape.idx_ext₂ rfl rfl⟩
  have ha := a.isLt
  have hb := b.isLt
  have ht : a.val / 512 * 6 + b.val / 512 < cfg0.N := by rw [show cfg0.N = 192 from N_0]; omega
  refine ⟨⟨_, ht⟩, flush0_2 _, ?_⟩
  have h := ((cfg0.win 2).blk ⟨_, ht⟩).view.emb_mem_set (ix2 (⟨a.val % 512, by omega⟩ : Fin 512) (⟨b.val % 512, by omega⟩ : Fin 512))
  rw [emb2] at h
  have e0 : row ⟨_, ht⟩ (⟨a.val % 512, by omega⟩ : Fin 512) = a := Fin.ext (by show (a.val / 512 * 6 + b.val / 512) / 6 * 512 + a.val % 512 = a.val; omega)
  have e1 : col ⟨_, ht⟩ (⟨b.val % 512, by omega⟩ : Fin 512) = b := Fin.ext (by show (a.val / 512 * 6 + b.val / 512) % 6 * 512 + b.val % 512 = b.val; omega)
  rwa [e0, e1] at h

/-- The result array after the run is the computed array of the arguments. -/
theorem final (c : Dev nD) : (dats m 0 c).arrAt 2 cfg0.N = res m c :=
  (dats m 0 c).arrAt_eq_of_cover 2 _ (fun t _ => flushed_eq m c t) cover

/-! ## The claims -/

/-- The kernel and its idealization leave every semaphore at zero and the arguments as they were. -/
theorem frame : Cert.quiescent_Gate := fun m ρ _ => Cert.Gate.Gen.frame m ρ
theorem frame_ideal : Cert.quiescent_GateIdeal := fun m ρ _ => Cert.GateIdeal.Gen.frame m ρ

/-- The reference leaves the arguments as they were and has no semaphore. -/
theorem frame_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The idealization rewrote nothing. -/
theorem preserves : Cert.preserves_Gate_GateIdeal := trivial

/-- Over the extended reals the kernel and the reference end with the same result array, whatever the arguments. -/
theorem algebraic : Cert.algebraic_GateIdeal_GateRefIdeal := by
  intro m ρ m' ρ' _ hag
  refine ⟨fun c => res m c, (θ_run _ _ _).mono (fun r h c => ⟨(h c).1.trans (final m c), (h c).2⟩)
    (Value.run_blocks m ρ), (θ_run _ _ _).mono (fun r h c => ⟨(h c).1.trans ?_, (h c).2⟩)
    (Cert.GateRefIdeal.Value.run (F := Ideal) m' ρ')⟩
  refine Eq.trans (b := G (m' (((c : Dev nD).tc : Thread nD τ).loc Cert.GateRefIdeal.main_arg0)) (m' (((c : Dev nD).tc : Thread nD τ).loc Cert.GateRefIdeal.main_arg1))) ?_ ?_
  · funext i
    obtain ⟨r, s, rfl⟩ : ∃ (r : Fin 16384) (s : Fin 3072), i = ix2 r s := ⟨i 0, i 1, Shape.idx_ext₂ rfl rfl⟩
    pointwise [G]
    simp only [Ideal.logistic, Ideal.ofBits_one_f32]
  show G (m' (((c : Dev nD).tc : Thread nD τ).loc Cert.GateRefIdeal.main_arg0)) (m' (((c : Dev nD).tc : Thread nD τ).loc Cert.GateRefIdeal.main_arg1)) = _
  obtain ⟨h0, h1⟩ := hag c
  rw [h0, h1]

end Cert.Proof.Gate

end
-- ==== Proof.MergeValue.lean ====
/- The merge of the three branches with the residual and the layer norm: the kernel's result array, the reference's, and the claims about them. -/
module

public import proofs.«01_k».proof.Proof.Gen.MergeIdeal.Value
public import proofs.«01_k».proof.Proof.Gen.MergeRefIdeal.Run
public import proofs.«01_k».proof.Defs
public import proofs.«01_k».proof.Proof.Gen.Merge.Frame
public import proofs.«01_k».proof.Proof.RowMath
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Merge

open Cert.MergeIdeal Cert.MergeIdeal.Gen Cert.Proof.RowMath

variable (m : (ℓ : Loc nD τ sig) → Buf (Elt Ideal) ℓ) (ρ : Dev nD → PrngReg)

/-! ## What is computed -/

/-- Row by row, the layer norm of `alpha` times the residual plus the gated sum of the three branches' projections times the
    output matrix. -/
def G (x : FVec Ideal S16384x1024 .f32) (oa ob oc : FVec Ideal S16384x512 .f32) (g : FVec Ideal S16384x3072 .f32)
    (wa wb wc : FVec Ideal S512x1024 .f32) (wo : FVec Ideal S1024x1024 .f32) (lw lb : FVec Ideal S1024 .f32) :
    FVec Ideal S16384x1024 .f32 :=
  fun i => layerNorm (fun s => alpha * x (ix2 (i 0) s) + ∑ n : Fin 1024,
      (g (ix2 (i 0) ⟨n.val, by omega⟩) * (∑ k : Fin 512, oa (ix2 (i 0) k) * wa (ix2 k n))
        + g (ix2 (i 0) ⟨1024 + n.val, by omega⟩) * (∑ k : Fin 512, ob (ix2 (i 0) k) * wb (ix2 k n))
        + g (ix2 (i 0) ⟨2048 + n.val, by omega⟩) * (∑ k : Fin 512, oc (ix2 (i 0) k) * wc (ix2 k n))) * wo (ix2 n s))
    (lw (ix1 (i 1))) (lb (ix1 (i 1))) (i 1)

/-! ## The body's block -/

/-- The body's payload at an index of the block, over the blocks it loads. -/
theorem pay (g0 : Vec Ideal S512x1024 .f32) (x1 : Vec Ideal S512x512 .f32) (x5 : Vec Ideal S512x1024 .bf16)
    (g1 : Vec Ideal S512x1024 .f32) (x2 : Vec Ideal S512x512 .f32) (x6 : Vec Ideal S512x1024 .bf16)
    (g2 : Vec Ideal S512x1024 .f32) (x3 : Vec Ideal S512x512 .f32) (x7 : Vec Ideal S512x1024 .bf16)
    (x8 : Vec Ideal S1024x1024 .bf16) (x0 : Vec Ideal S512x1024 .f32)
    (x9 x10 : Vec Ideal S1x1024 .f32) (r : Fin 512) (s : Fin 1024) :
    k0_pay1 (k0_pay2 g0 x1 x5 g1 x2 x6 g2 x3 x7 x8 x0) x9 x10 (ix2 r s)
      = layerNorm (fun y => alpha * x0 (ix2 r y) + ∑ n : Fin 1024,
          (g0 (ix2 r n) * (∑ k : Fin 512, x1 (ix2 r k) * x5 (ix2 k n))
            + g1 (ix2 r n) * (∑ k : Fin 512, x2 (ix2 r k) * x6 (ix2 k n))
            + g2 (ix2 r n) * (∑ k : Fin 512, x3 (ix2 r k) * x7 (ix2 k n))) * x8 (ix2 n y))
        (x9 (ix2 0 s)) (x10 (ix2 0 s)) s := by
  pointwise [k0_pay1, k0_pay2, layerNorm, mean, alpha]

/-! ## Which part of its array each window's block is -/

/-- The block index of each window at point `t`. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- The row of the arrays under row `r` of a row block. -/
theorem row_lt (t : Fin cfg0.N) (r : Fin 512) : t.val * 512 + r.val < 16384 := by
  have h : t.val < 32 := N_0 ▸ t.isLt
  have := r.isLt; omega
abbrev row (t : Fin cfg0.N) (r : Fin 512) : Fin 16384 := ⟨t.val * 512 + r.val, row_lt t r⟩

theorem emb0 (t : Fin cfg0.N) (r : Fin 512) (k : Fin 1024) : ((cfg0.win 0).blk t).view.emb (ix2 r k) = ix2 (row t r) k := by
  obtain ⟨e0, e1, -⟩ := idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 512) : ((cfg0.win 1).blk t).view.emb (ix2 r k) = ix2 (row t r) k := by
  obtain ⟨-, -, e0, e1, -⟩ := idx t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega

theorem emb2 (t : Fin cfg0.N) (r : Fin 512) (k : Fin 512) : ((cfg0.win 2).blk t).view.emb (ix2 r k) = ix2 (row t r) k := by
  obtain ⟨-, -, -, -, e0, e1, -⟩ := idx t
  funext a; apply Fin.ext
  match a with
  | ⟨0, _⟩ => show win0_2.index t (0 : Fin 2) * 512 + 1 * r.val = t.val * 512 + r.val; omega
  | ⟨1, _⟩ => show win0_2.index t (1 : Fin 2) * 512 + 1 * k.val = k.val; omega

theorem emb3 (t : Fin cfg0.N) (r : Fin 512) (k : Fin 512) : ((cfg0.win 3).blk t).view.emb (ix2 r k) = ix2 (row t r) k := by
  obtain ⟨-, -, -, -, -, -, e0, e1, -⟩ := idx t
  funext a; apply Fin.ext
  match a with
  | ⟨0, _⟩ => show win0_3.index t (0 : Fin 2) * 512 + 1 * r.val = t.val * 512 + r.val; omega
  | ⟨1, _⟩ => show win0_3.index t (1 : Fin 2) * 512 + 1 * k.val = k.val; omega

theorem emb4 (t : Fin cfg0.N) (r : Fin 512) (k : Fin 3072) : ((cfg0.win 4).blk t).view.emb (ix2 r k) = ix2 (row t r) k := by
  obtain ⟨-, -, -, -, -, -, -, -, e0, e1, -⟩ := idx t
  funext a; apply Fin.ext
  match a with
  | ⟨0, _⟩ => show win0_4.index t (0 : Fin 2) * 512 + 1 * r.val = t.val * 512 + r.val; omega
  | ⟨1, _⟩ => show win0_4.index t (1 : Fin 2) * 3072 + 1 * k.val = k.val; omega

theorem emb5 (t : Fin cfg0.N) (r : Fin 512) (k : Fin 1024) : ((cfg0.win 5).blk t).view.emb (ix2 r k) = ix2 r k := by
  obtain ⟨-, -, -, -, -, -, -, -, -, -, e0, e1, -⟩ := idx t
  funext a; apply Fin.ext
  match a with
  | ⟨0, _⟩ => show win0_5.index t (0 : Fin 2) * 512 + 1 * r.val = r.val; omega
  | ⟨1, _⟩ => show win0_5.index t (1 : Fin 2) * 1024 + 1 * k.val = k.val; omega

theorem emb6 (t : Fin cfg0.N) (r : Fin 512) (k : Fin 1024) : ((cfg0.win 6).blk t).view.emb (ix2 r k) = ix2 r k := by
  obtain ⟨-, -, -, -, -, -, -, -, -, -, -, -, e0, e1, -⟩ := idx t
  funext a; apply Fin.ext
  match a with
  | ⟨0, _⟩ => show win0_6.index t (0 : Fin 2) * 512 + 1 * r.val = r.val; omega
  | ⟨1, _⟩ => show win0_6.index t (1 : Fin 2) * 1024 + 1 * k.val = k.val; omega

theorem emb7 (t : Fin cfg0.N) (r : Fin 512) (k : Fin 1024) : ((cfg0.win 7).blk t).view.emb (ix2 r k) = ix2 r k := by
  obtain ⟨-, -, -, -, -, -, -, -, -, -, -, -, -, -, e0, e1, -⟩ := idx t
  funext a; apply Fin.ext
  match a with
  | ⟨0, _⟩ => show win0_7.index t (0 : Fin 2) * 512 + 1 * r.val = r.val; omega
  | ⟨1, _⟩ => show win0_7.index t (1 : Fin 2) * 1024 + 1 * k.val = k.val; omega

theorem emb8 (t : Fin cfg0.N) (r : Fin 1024) (k : Fin 1024) : ((cfg0.win 8).blk t).view.emb (ix2 r k) = ix2 r k := by
  obtain ⟨-, -, -, -, -, -, -, -, -, -, -, -, -, -, -, -, e0, e1, -⟩ := idx t
  funext a; apply Fin.ext
  match a with
  | ⟨0, _⟩ => show win0_8.index t (0 : Fin 2) * 1024 + 1 * r.val = r.val; omega
  | ⟨1, _⟩ => show win0_8.index t (1 : Fin 2) * 1024 + 1 * k.val = k.val; omega

theorem emb9 (t : Fin cfg0.N) (r : Fin 1) (k : Fin 1024) : ((cfg0.win 9).blk t).view.emb (ix2 r k) = ix2 r k := by
  obtain ⟨-, -, -, -, -, -, -, -, -, -, -, -, -, -, -, -, -, -, e0, e1, -⟩ := idx t
  funext a; apply Fin.ext
  match a with
  | ⟨0, _⟩ => show win0_9.index t (0 : Fin 2) * 1 + 1 * r.val = r.val; omega
  | ⟨1, _⟩ => show win0_9.index t (1 : Fin 2) * 1024 + 1 * k.val = k.val; omega

theorem emb10 (t : Fin cfg0.N) (r : Fin 1) (k : Fin 1024) : ((cfg0.win 10).blk t).view.emb (ix2 r k) = ix2 r k := by
  obtain ⟨-, -, -, -, -, -, -, -, -, -, -, -, -, -, -, -, -, -, -, -, e0, e1, -⟩ := idx t
  funext a; apply Fin.ext
  match a with
  | ⟨0, _⟩ => show win0_10.index t (0 : Fin 2) * 1 + 1 * r.val = r.val; omega
  | ⟨1, _⟩ => show win0_10.index t (1 : Fin 2) * 1024 + 1 * k.val = k.val; omega

theorem emb11 (t : Fin cfg0.N) (r : Fin 512) (k : Fin 1024) : ((cfg0.win 11).blk t).view.emb (ix2 r k) = ix2 (row t r) k := by
  obtain ⟨-, -, -, -, -, -, -, -, -, -, -, -, -, -, -, -, -, -, -, -, -, -, e0, e1⟩ := idx t
  funext a; apply Fin.ext
  match a with
  | ⟨0, _⟩ => show win0_11.index t (0 : Fin 2) * 512 + 1 * r.val = t.val * 512 + r.val; omega
  | ⟨1, _⟩ => show win0_11.index t (1 : Fin 2) * 1024 + 1 * k.val = k.val; omega

/-! ## What the input blocks hold, in the arguments as launched -/

theorem blk0 (c : Dev nD) (t : Fin cfg0.N) (r : Fin 512) (k : Fin 1024) : iblk m c 0 t (ix2 r k)
    = m ((c : Thread nD τ).loc main_arg0) (ix2 (row t r) k) := by
  show V m c main_arg0 (((cfg0.win 0).blk t).view.emb (ix2 r k)) = _
  rw [emb0]
  entry_read
  rfl

theorem blk1 (c : Dev nD) (t : Fin cfg0.N) (r : Fin 512) (k : Fin 512) : iblk m c 1 t (ix2 r k)
    = m ((c : Thread nD τ).loc main_arg1) (ix2 (row t r) k) := by
  show V m c main_arg1 (((cfg0.win 1).blk t).view.emb (ix2 r k)) = _
  rw [emb1]
  entry_read
  rfl

theorem blk2 (c : Dev nD) (t : Fin cfg0.N) (r : Fin 512) (k : Fin 512) : iblk m c 2 t (ix2 r k)
    = m ((c : Thread nD τ).loc main_arg2) (ix2 (row t r) k) := by
  show V m c main_arg2 (((cfg0.win 2).blk t).view.emb (ix2 r k)) = _
  rw [emb2]
  entry_read
  rfl

theorem blk3 (c : Dev nD) (t : Fin cfg0.N) (r : Fin 512) (k : Fin 512) : iblk m c 3 t (ix2 r k)
    = m ((c : Thread nD τ).loc main_arg3) (ix2 (row t r) k) := by
  show V m c main_arg3 (((cfg0.win 3).blk t).view.emb (ix2 r k)) = _
  rw [emb3]
  entry_read
  rfl

theorem blk4 (c : Dev nD) (t : Fin cfg0.N) (r : Fin 512) (k : Fin 3072) : iblk m c 4 t (ix2 r k)
    = m ((c : Thread nD τ).loc main_arg4) (ix2 (row t r) k) := by
  show V m c main_arg4 (((cfg0.win 4).blk t).view.emb (ix2 r k)) = _
  rw [emb4]
  entry_read
  rfl

theorem blk5 (c : Dev nD) (t : Fin cfg0.N) (r : Fin 512) (k : Fin 1024) : iblk m c 5 t (ix2 r k)
    = m ((c : Thread nD τ).loc main_arg5) (ix2 r k) := by
  show V m c main_v0 (((cfg0.win 5).blk t).view.emb (ix2 r k)) = _
  rw [emb5]
  entry_read
  rfl

theorem blk6 (c : Dev nD) (t : Fin cfg0.N) (r : Fin 512) (k : Fin 1024) : iblk m c 6 t (ix2 r k)
    = m ((c : Thread nD τ).loc main_arg6) (ix2 r k) := by
  show V m c main_v1 (((cfg0.win 6).blk t).view.emb (ix2 r k)) = _
  rw [emb6]
  entry_read
  rfl

theorem blk7 (c : Dev nD) (t : Fin cfg0.N) (r : Fin 512) (k : Fin 1024) : iblk m c 7 t (ix2 r k)
    = m ((c : Thread nD τ).loc main_arg7) (ix2 r k) := by
  show V m c main_v2 (((cfg0.win 7).blk t).view.emb (ix2 r k)) = _
  rw [emb7]
  entry_read
  rfl

theorem blk8 (c : Dev nD) (t : Fin cfg0.N) (r : Fin 1024) (k : Fin 1024) : iblk m c 8 t (ix2 r k)
    = m ((c : Thread nD τ).loc main_arg8) (ix2 r k) := by
  show V m c main_v3 (((cfg0.win 8).blk t).view.emb (ix2 r k)) = _
  rw [emb8]
  entry_read
  rfl

theorem blk9 (c : Dev nD) (t : Fin cfg0.N) (k : Fin 1024) : iblk m c 9 t (ix2 (0 : Fin 1) k)
    = m ((c : Thread nD τ).loc main_arg9) (ix1 k) := by
  show V m c main_v4 (((cfg0.win 9).blk t).view.emb (ix2 (0 : Fin 1) k)) = _
  rw [emb9]
  entry_read
  pointwise

theorem blk10 (c : Dev nD) (t : Fin cfg0.N) (k : Fin 1024) : iblk m c 10 t (ix2 (0 : Fin 1) k)
    = m ((c : Thread nD τ).loc main_arg10) (ix1 k) := by
  show V m c main_v5 (((cfg0.win 10).blk t).view.emb (ix2 (0 : Fin 1) k)) = _
  rw [emb10]
  entry_read
  pointwise

/-- The first third of the gates' columns, loaded. -/
theorem ld0 (X : Vec Ideal S512x3072 .f32) (r : Fin 512) (n : Fin 1024) :
    View.ld X r0_0 (ix2 r n) = X (ix2 r ⟨n.val, by omega⟩) :=
  congrArg X (Shape.idx_ext₂ (by show 0 + 1 * r.val = r.val; omega) (by show 0 + 1 * n.val = n.val; omega))

/-- The second third of the gates' columns, loaded. -/
theorem ld1 (X : Vec Ideal S512x3072 .f32) (r : Fin 512) (n : Fin 1024) :
    View.ld X r0_3 (ix2 r n) = X (ix2 r ⟨1024 + n.val, by omega⟩) :=
  congrArg X (Shape.idx_ext₂ (by show 0 + 1 * r.val = r.val; omega) (by show 1024 + 1 * n.val = 1024 + n.val; omega))

/-- The third third of the gates' columns, loaded. -/
theorem ld2 (X : Vec Ideal S512x3072 .f32) (r : Fin 512) (n : Fin 1024) :
    View.ld X r0_4 (ix2 r n) = X (ix2 r ⟨2048 + n.val, by omega⟩) :=
  congrArg X (Shape.idx_ext₂ (by show 0 + 1 * r.val = r.val; omega) (by show 2048 + 1 * n.val = 2048 + n.val; omega))

/-! ## The result array -/

/-- The computed array of core `c`'s arguments as launched. -/
abbrev res (c : Dev nD) : FVec Ideal S16384x1024 .f32 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back is its block of the computed array. -/
theorem flushed_eq (c : Dev nD) (t : Fin cfg0.N) : (dats m 0 c).flushed 11 t
    = ((cfg0.win 11).blk t).view.read (Elt Ideal) (res m c) := by
  rw [Value.flushed11]
  funext j
  obtain ⟨r, s, rfl⟩ : ∃ (r : Fin 512) (s : Fin 1024), j = ix2 r s := ⟨j 0, j 1, Shape.idx_ext₂ rfl rfl⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r s) = res m c (((cfg0.win 11).blk t).view.emb (ix2 r s))
  unfold out0_11
  rw [View.canon_unit_zero hz, emb11]
  rw [View.ld_unit_zero (S := S512x512) hz,
    View.ld_unit_zero (S := S512x512) hz,
    View.ld_unit_zero (S := S512x512) hz,
    View.ld_unit_zero (S := S512x1024) hz,
    View.ld_unit_zero (S := S512x1024) hz,
    View.ld_unit_zero (S := S512x1024) hz,
    View.ld_unit_zero (S := S512x1024) hz,
    View.ld_unit_zero (S := S1024x1024) hz,
    View.ld_unit_zero (S := S1x1024) hz,
    View.ld_unit_zero (S := S1x1024) hz]
  rw [pay]
  have l0 (n : Fin 1024) : View.ld (iblk m c 4 t) r0_0 (ix2 r n)
      = m ((c : Thread nD τ).loc main_arg4) (ix2 (row t r) ⟨n.val, by omega⟩) :=
    (ld0 (iblk m c 4 t) r n).trans (blk4 m c t r _)
  have l1 (n : Fin 1024) : View.ld (iblk m c 4 t) r0_3 (ix2 r n)
      = m ((c : Thread nD τ).loc main_arg4) (ix2 (row t r) ⟨1024 + n.val, by omega⟩) :=
    (ld1 (iblk m c 4 t) r n).trans (blk4 m c t r _)
  have l2 (n : Fin 1024) : View.ld (iblk m c 4 t) r0_4 (ix2 r n)
      = m ((c : Thread nD τ).loc main_arg4) (ix2 (row t r) ⟨2048 + n.val, by omega⟩) :=
    (ld2 (iblk m c 4 t) r n).trans (blk4 m c t r _)
  simp only [l0, l1, l2, blk0, blk1, blk2, blk3, blk5, blk6, blk7, blk8, blk9, blk10]
  rfl

/-- Every index of the result is in the block of some point. -/
theorem cover (i : S16384x1024.Idx) :
    ∃ t : Fin cfg0.N, (cfg0.win 11).flush t = true ∧ i ∈ ((cfg0.win 11).blk t).view.set := by
  obtain ⟨a, b, rfl⟩ : ∃ (a : Fin 16384) (b : Fin 1024), i = ix2 a b := ⟨i 0, i 1, Shape.idx_ext₂ rfl rfl⟩
  have ha := a.isLt
  have hb := b.isLt
  have ht : a.val / 512 < cfg0.N := by rw [show cfg0.N = 32 from N_0]; omega
  refine ⟨⟨_, ht⟩, flush0_11 _, ?_⟩
  have h := ((cfg0.win 11).blk ⟨_, ht⟩).view.emb_mem_set (ix2 (⟨a.val % 512, by omega⟩ : Fin 512) b)
  rw [emb11] at h
  have e0 : row ⟨_, ht⟩ (⟨a.val % 512, by omega⟩ : Fin 512) = a := Fin.ext (by show a.val / 512 * 512 + a.val % 512 = a.val; omega)
  rwa [e0] at h

/-- The result array after the run is the computed array of the arguments. -/
theorem final (c : Dev nD) : (dats m 0 c).arrAt 11 cfg0.N = res m c :=
  (dats m 0 c).arrAt_eq_of_cover 11 _ (fun t _ => flushed_eq m c t) cover

/-! ## The reference -/

set_option maxHeartbeats 2000000 in
/-- The reference's result at an index is the computed array there. -/
theorem ref_eq (m' : (ℓ : Loc Cert.MergeRefIdeal.nD Cert.MergeRefIdeal.τ Cert.MergeRefIdeal.sig) → Buf (Elt Ideal) ℓ)
    (c : Dev Cert.MergeRefIdeal.nD) : (Cert.MergeRefIdeal.Value.res_main_v42 m' c : FVec Ideal S16384x1024 .f32)
    = G (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) := by
  funext i
  obtain ⟨r, s, rfl⟩ : ∃ (r : Fin 16384) (s : Fin 1024), i = ix2 r s := ⟨i 0, i 1, Shape.idx_ext₂ rfl rfl⟩
  pointwise [Cert.MergeRefIdeal.Value.res_main_v42, G, layerNorm, mean, alpha]

/-! ## The claims -/

/-- The kernel and its idealization leave every semaphore at zero and the arguments as they were. -/
theorem frame : Cert.quiescent_Merge := fun m ρ _ => Cert.Merge.Gen.frame m ρ
theorem frame_ideal : Cert.quiescent_MergeIdeal := fun m ρ _ => Cert.MergeIdeal.Gen.frame m ρ

/-- The reference leaves the arguments as they were and has no semaphore. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The idealization rewrote nothing. -/
theorem preserves : Cert.preserves_Merge_MergeIdeal := trivial

/-- Over the extended reals the kernel and the reference end with the same result array, whatever the arguments. -/
theorem algebraic : Cert.algebraic_MergeIdeal_MergeRefIdeal := by
  intro m ρ m' ρ' _ hag
  refine ⟨fun c => res m c, (θ_run _ _ _).mono (fun r h c => ⟨(h c).1.trans (final m c), (h c).2⟩)
    (Value.run_blocks m ρ), (θ_run _ _ _).mono (fun r h c => ⟨(h c).1.trans ?_, (h c).2⟩)
    (Cert.MergeRefIdeal.Value.run (F := Ideal) m' ρ')⟩
  refine (ref_eq m' c).trans ?_
  show G (m' (((c : Dev nD).tc : Thread nD τ).loc Cert.MergeRefIdeal.main_arg0)) (m' (((c : Dev nD).tc : Thread nD τ).loc Cert.MergeRefIdeal.main_arg1)) (m' (((c : Dev nD).tc : Thread nD τ).loc Cert.MergeRefIdeal.main_arg2)) (m' (((c : Dev nD).tc : Thread nD τ).loc Cert.MergeRefIdeal.main_arg3)) (m' (((c : Dev nD).tc : Thread nD τ).loc Cert.MergeRefIdeal.main_arg4)) (m' (((c : Dev nD).tc : Thread nD τ).loc Cert.MergeRefIdeal.main_arg5)) (m' (((c : Dev nD).tc : Thread nD τ).loc Cert.MergeRefIdeal.main_arg6)) (m' (((c : Dev nD).tc : Thread nD τ).loc Cert.MergeRefIdeal.main_arg7)) (m' (((c : Dev nD).tc : Thread nD τ).loc Cert.MergeRefIdeal.main_arg8)) (m' (((c : Dev nD).tc : Thread nD τ).loc Cert.MergeRefIdeal.main_arg9)) (m' (((c : Dev nD).tc : Thread nD τ).loc Cert.MergeRefIdeal.main_arg10)) = _
  obtain ⟨h0, h1, h2, h3, h4, h5, h6, h7, h8, h9, h10⟩ := hag c
  rw [h0, h1, h2, h3, h4, h5, h6, h7, h8, h9, h10]

end Cert.Proof.Merge

end
-- ==== Proof.DownValue.lean ====
/- The feed-forward's second matrix with the residual and the layer norm: the kernel's result array, the reference's, and the claims about them. -/
module

public import proofs.«01_k».proof.Proof.Gen.DownIdeal.Value
public import proofs.«01_k».proof.Proof.Gen.DownRefIdeal.Run
public import proofs.«01_k».proof.Defs
public import proofs.«01_k».proof.Proof.Gen.Down.Frame
public import proofs.«01_k».proof.Proof.RowMath
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Down

open Cert.DownIdeal Cert.DownIdeal.Gen Cert.Proof.RowMath

variable (m : (ℓ : Loc nD τ sig) → Buf (Elt Ideal) ℓ) (ρ : Dev nD → PrngReg)

/-! ## What is computed -/

/-- Row by row, the layer norm of `alpha` times the residual plus the hidden activations times the matrix. -/
def G (h : FVec Ideal S16384x2816 .bf16) (w : FVec Ideal S2816x1024 .f32) (x : FVec Ideal S16384x1024 .f32)
    (lw lb : FVec Ideal S1024 .f32) : FVec Ideal S16384x1024 .f32 :=
  fun i => layerNorm (fun s => alpha * x (ix2 (i 0) s) + ∑ k : Fin 2816, h (ix2 (i 0) k) * w (ix2 k s))
    (lw (ix1 (i 1))) (lb (ix1 (i 1))) (i 1)

/-! ## The body's block -/

/-- The body's payload at an index of the block, over the blocks it loads. -/
theorem pay (x0 : Vec Ideal S512x2816 .bf16) (x1 : Vec Ideal S2816x1024 .bf16) (x2 : Vec Ideal S512x1024 .f32)
    (x3 x4 : Vec Ideal S1x1024 .f32) (r : Fin 512) (s : Fin 1024) :
    k0_pay1 x0 x1 x2 x3 x4 (ix2 r s)
      = layerNorm (fun y => alpha * x2 (ix2 r y) + ∑ k : Fin 2816, x0 (ix2 r k) * x1 (ix2 k y)) (x3 (ix2 0 s)) (x4 (ix2 0 s)) s := by
  pointwise [k0_pay1, layerNorm, mean, alpha]

/-! ## Which part of its array each window's block is -/

/-- The block index of each window at point `t`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the arrays under row `r` of a row block. -/
theorem row_lt (t : Fin cfg0.N) (r : Fin 512) : t.val * 512 + r.val < 16384 := by
  have h : t.val < 32 := N_0 ▸ t.isLt
  have := r.isLt; omega
abbrev row (t : Fin cfg0.N) (r : Fin 512) : Fin 16384 := ⟨t.val * 512 + r.val, row_lt t r⟩

theorem emb0 (t : Fin cfg0.N) (r : Fin 512) (k : Fin 2816) : ((cfg0.win 0).blk t).view.emb (ix2 r k) = ix2 (row t r) k := by
  obtain ⟨e0, e1, -⟩ := idx t
  funext a; apply Fin.ext
  match a with
  | ⟨0, _⟩ => show win0_0.index t (0 : Fin 2) * 512 + 1 * r.val = t.val * 512 + r.val; omega
  | ⟨1, _⟩ => show win0_0.index t (1 : Fin 2) * 2816 + 1 * k.val = k.val; omega

theorem emb1 (t : Fin cfg0.N) (r : Fin 2816) (k : Fin 1024) : ((cfg0.win 1).blk t).view.emb (ix2 r k) = ix2 r k := by
  obtain ⟨-, -, e0, e1, -⟩ := idx t
  funext a; apply Fin.ext
  match a with
  | ⟨0, _⟩ => show win0_1.index t (0 : Fin 2) * 2816 + 1 * r.val = r.val; omega
  | ⟨1, _⟩ => show win0_1.index t (1 : Fin 2) * 1024 + 1 * k.val = k.val; omega

theorem emb2 (t : Fin cfg0.N) (r : Fin 512) (k : Fin 1024) : ((cfg0.win 2).blk t).view.emb (ix2 r k) = ix2 (row t r) k := by
  obtain ⟨-, -, -, -, e0, e1, -⟩ := idx t
  funext a; apply Fin.ext
  match a with
  | ⟨0, _⟩ => show win0_2.index t (0 : Fin 2) * 512 + 1 * r.val = t.val * 512 + r.val; omega
  | ⟨1, _⟩ => show win0_2.index t (1 : Fin 2) * 1024 + 1 * k.val = k.val; omega

theorem emb3 (t : Fin cfg0.N) (r : Fin 1) (k : Fin 1024) : ((cfg0.win 3).blk t).view.emb (ix2 r k) = ix2 r k := by
  obtain ⟨-, -, -, -, -, -, e0, e1, -⟩ := idx t
  funext a; apply Fin.ext
  match a with
  | ⟨0, _⟩ => show win0_3.index t (0 : Fin 2) * 1 + 1 * r.val = r.val; omega
  | ⟨1, _⟩ => show win0_3.index t (1 : Fin 2) * 1024 + 1 * k.val = k.val; omega

theorem emb4 (t : Fin cfg0.N) (r : Fin 1) (k : Fin 1024) : ((cfg0.win 4).blk t).view.emb (ix2 r k) = ix2 r k := by
  obtain ⟨-, -, -, -, -, -, -, -, e0, e1, -⟩ := idx t
  funext a; apply Fin.ext
  match a with
  | ⟨0, _⟩ => show win0_4.index t (0 : Fin 2) * 1 + 1 * r.val = r.val; omega
  | ⟨1, _⟩ => show win0_4.index t (1 : Fin 2) * 1024 + 1 * k.val = k.val; omega

theorem emb5 (t : Fin cfg0.N) (r : Fin 512) (k : Fin 1024) : ((cfg0.win 5).blk t).view.emb (ix2 r k) = ix2 (row t r) k := by
  obtain ⟨-, -, -, -, -, -, -, -, -, -, e0, e1⟩ := idx t
  funext a; apply Fin.ext
  match a with
  | ⟨0, _⟩ => show win0_5.index t (0 : Fin 2) * 512 + 1 * r.val = t.val * 512 + r.val; omega
  | ⟨1, _⟩ => show win0_5.index t (1 : Fin 2) * 1024 + 1 * k.val = k.val; omega

/-! ## What the input blocks hold, in the arguments as launched -/

theorem blk0 (c : Dev nD) (t : Fin cfg0.N) (r : Fin 512) (k : Fin 2816) : iblk m c 0 t (ix2 r k)
    = m ((c : Thread nD τ).loc main_arg0) (ix2 (row t r) k) := by
  show V m c main_arg0 (((cfg0.win 0).blk t).view.emb (ix2 r k)) = _
  rw [emb0]
  entry_read
  rfl

theorem blk1 (c : Dev nD) (t : Fin cfg0.N) (r : Fin 2816) (k : Fin 1024) : iblk m c 1 t (ix2 r k)
    = m ((c : Thread nD τ).loc main_arg1) (ix2 r k) := by
  show V m c main_v0 (((cfg0.win 1).blk t).view.emb (ix2 r k)) = _
  rw [emb1]
  entry_read
  rfl

theorem blk2 (c : Dev nD) (t : Fin cfg0.N) (r : Fin 512) (k : Fin 1024) : iblk m c 2 t (ix2 r k)
    = m ((c : Thread nD τ).loc main_arg2) (ix2 (row t r) k) := by
  show V m c main_arg2 (((cfg0.win 2).blk t).view.emb (ix2 r k)) = _
  rw [emb2]
  entry_read
  rfl

theorem blk3 (c : Dev nD) (t : Fin cfg0.N) (k : Fin 1024) : iblk m c 3 t (ix2 (0 : Fin 1) k)
    = m ((c : Thread nD τ).loc main_arg3) (ix1 k) := by
  show V m c main_v1 (((cfg0.win 3).blk t).view.emb (ix2 (0 : Fin 1) k)) = _
  rw [emb3]
  entry_read
  pointwise

theorem blk4 (c : Dev nD) (t : Fin cfg0.N) (k : Fin 1024) : iblk m c 4 t (ix2 (0 : Fin 1) k)
    = m ((c : Thread nD τ).loc main_arg4) (ix1 k) := by
  show V m c main_v2 (((cfg0.win 4).blk t).view.emb (ix2 (0 : Fin 1) k)) = _
  rw [emb4]
  entry_read
  pointwise

/-! ## The result array -/

/-- The computed array of core `c`'s arguments as launched. -/
abbrev res (c : Dev nD) : FVec Ideal S16384x1024 .f32 := G (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is its block of the computed array. -/
theorem flushed_eq (c : Dev nD) (t : Fin cfg0.N) : (dats m 0 c).flushed 5 t
    = ((cfg0.win 5).blk t).view.read (Elt Ideal) (res m c) := by
  rw [Value.flushed5]
  funext j
  obtain ⟨r, s, rfl⟩ : ∃ (r : Fin 512) (s : Fin 1024), j = ix2 r s := ⟨j 0, j 1, Shape.idx_ext₂ rfl rfl⟩
  show out0_5 (iblk m c 0 t) (iblk m c 1 t) (iblk m c 2 t) (iblk m c 3 t) (iblk m c 4 t) (ix2 r s) = res m c (((cfg0.win 5).blk t).view.emb (ix2 r s))
  unfold out0_5
  rw [View.canon_unit_zero hz, emb5]
  rw [View.ld_unit_zero hz, View.ld_unit_zero hz, View.ld_unit_zero hz, View.ld_unit_zero hz, View.ld_unit_zero hz, pay]
  simp only [blk0, blk1, blk2, blk3, blk4]
  rfl

/-- Every index of the result is in the block of some point. -/
theorem cover (i : S16384x1024.Idx) :
    ∃ t : Fin cfg0.N, (cfg0.win 5).flush t = true ∧ i ∈ ((cfg0.win 5).blk t).view.set := by
  obtain ⟨a, b, rfl⟩ : ∃ (a : Fin 16384) (b : Fin 1024), i = ix2 a b := ⟨i 0, i 1, Shape.idx_ext₂ rfl rfl⟩
  have ha := a.isLt
  have hb := b.isLt
  have ht : a.val / 512 < cfg0.N := by rw [show cfg0.N = 32 from N_0]; omega
  refine ⟨⟨_, ht⟩, flush0_5 _, ?_⟩
  have h := ((cfg0.win 5).blk ⟨_, ht⟩).view.emb_mem_set (ix2 (⟨a.val % 512, by omega⟩ : Fin 512) b)
  rw [emb5] at h
  have e0 : row ⟨_, ht⟩ (⟨a.val % 512, by omega⟩ : Fin 512) = a := Fin.ext (by show a.val / 512 * 512 + a.val % 512 = a.val; omega)
  rwa [e0] at h

/-- The result array after the run is the computed array of the arguments. -/
theorem final (c : Dev nD) : (dats m 0 c).arrAt 5 cfg0.N = res m c :=
  (dats m 0 c).arrAt_eq_of_cover 5 _ (fun t _ => flushed_eq m c t) cover

/-! ## The claims -/

/-- The kernel and its idealization leave every semaphore at zero and the arguments as they were. -/
theorem frame : Cert.quiescent_Down := fun m ρ _ => Cert.Down.Gen.frame m ρ
theorem frame_ideal : Cert.quiescent_DownIdeal := fun m ρ _ => Cert.DownIdeal.Gen.frame m ρ

/-- The reference leaves the arguments as they were and has no semaphore. -/
theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The idealization rewrote nothing. -/
theorem preserves : Cert.preserves_Down_DownIdeal := trivial

/-- Over the extended reals the kernel and the reference end with the same result array, whatever the arguments. -/
theorem algebraic : Cert.algebraic_DownIdeal_DownRefIdeal := by
  intro m ρ m' ρ' _ hag
  refine ⟨fun c => res m c, (θ_run _ _ _).mono (fun r h c => ⟨(h c).1.trans (final m c), (h c).2⟩)
    (Value.run_blocks m ρ), (θ_run _ _ _).mono (fun r h c => ⟨(h c).1.trans ?_, (h c).2⟩)
    (Cert.DownRefIdeal.Value.run (F := Ideal) m' ρ')⟩
  refine Eq.trans (b := G (m' (((c : Dev nD).tc : Thread nD τ).loc Cert.DownRefIdeal.main_arg0)) (m' (((c : Dev nD).tc : Thread nD τ).loc Cert.DownRefIdeal.main_arg1)) (m' (((c : Dev nD).tc : Thread nD τ).loc Cert.DownRefIdeal.main_arg2)) (m' (((c : Dev nD).tc : Thread nD τ).loc Cert.DownRefIdeal.main_arg3)) (m' (((c : Dev nD).tc : Thread nD τ).loc Cert.DownRefIdeal.main_arg4))) ?_ ?_
  · funext i
    obtain ⟨r, s, rfl⟩ : ∃ (r : Fin 16384) (s : Fin 1024), i = ix2 r s := ⟨i 0, i 1, Shape.idx_ext₂ rfl rfl⟩
    pointwise [G, layerNorm, mean, alpha]
  show G (m' (((c : Dev nD).tc : Thread nD τ).loc Cert.DownRefIdeal.main_arg0)) (m' (((c : Dev nD).tc : Thread nD τ).loc Cert.DownRefIdeal.main_arg1)) (m' (((c : Dev nD).tc : Thread nD τ).loc Cert.DownRefIdeal.main_arg2)) (m' (((c : Dev nD).tc : Thread nD τ).loc Cert.DownRefIdeal.main_arg3)) (m' (((c : Dev nD).tc : Thread nD τ).loc Cert.DownRefIdeal.main_arg4)) = _
  obtain ⟨h0, h1, h2, h3, h4⟩ := hag c
  rw [h0, h1, h2, h3, h4]

end Cert.Proof.Down

end
-- ==== Proof.PleValue.lean ====
/- The per-token embedding's gated projection with the residual and the layer norm: the kernel's result array, the reference's, and the claims about them. -/
module

public import proofs.«01_k».proof.Proof.Gen.PleIdeal.Value
public import proofs.«01_k».proof.Proof.Gen.PleRefIdeal.Run
public import proofs.«01_k».proof.Defs
public import proofs.«01_k».proof.Proof.Gen.Ple.Frame
public import proofs.«01_k».proof.Proof.RowMath
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ple

open Cert.PleIdeal Cert.PleIdeal.Gen Cert.Proof.RowMath

variable (m : (ℓ : Loc nD τ sig) → Buf (Elt Ideal) ℓ) (ρ : Dev nD → PrngReg)

/-! ## What is computed -/

/-- Row by row, the layer norm of `alpha` times the residual plus the gate (the logistic function of the row times the gate
    matrix) times the projected embedding. -/
def G (x : FVec Ideal S16384x1024 .f32) (p : FVec Ideal S16384x256 .f32) (wg : FVec Ideal S1024x1024 .f32)
    (wp : FVec Ideal S256x1024 .f32) (lw lb : FVec Ideal S1024 .f32) : FVec Ideal S16384x1024 .f32 :=
  fun i => layerNorm (fun s => alpha * x (ix2 (i 0) s)
      + Ideal.logistic (∑ k : Fin 1024, x (ix2 (i 0) k) * wg (ix2 k s)) * ∑ k : Fin 256, p (ix2 (i 0) k) * wp (ix2 k s))
    (lw (ix1 (i 1))) (lb (ix1 (i 1))) (i 1)

/-! ## The body's block -/

/-- The body's payload at an index of the block, over the blocks it loads. -/
theorem pay (x0 : Vec Ideal S512x1024 .f32) (x1 : Vec Ideal S512x256 .f32) (x2 : Vec Ideal S1024x1024 .bf16)
    (x3 : Vec Ideal S256x1024 .bf16) (x4 x5 : Vec Ideal S1x1024 .f32) (r : Fin 512) (s : Fin 1024) :
    k0_pay1 x0 x2 x1 x3 x4 x5 (ix2 r s)
      = layerNorm (fun y => alpha * x0 (ix2 r y)
          + Ideal.logistic (∑ k : Fin 1024, x0 (ix2 r k) * x2 (ix2 k y)) * ∑ k : Fin 256, x1 (ix2 r k) * x3 (ix2 k y))
        (x4 (ix2 0 s)) (x5 (ix2 0 s)) s := by
  pointwise [k0_pay1, layerNorm, mean, alpha]

/-! ## Which part of its array each window's block is -/

/-- The block index of each window at point `t`. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the arrays under row `r` of a row block. -/
theorem row_lt (t : Fin cfg0.N) (r : Fin 512) : t.val * 512 + r.val < 16384 := by
  have h : t.val < 32 := N_0 ▸ t.isLt
  have := r.isLt; omega
abbrev row (t : Fin cfg0.N) (r : Fin 512) : Fin 16384 := ⟨t.val * 512 + r.val, row_lt t r⟩

theorem emb0 (t : Fin cfg0.N) (r : Fin 512) (k : Fin 1024) : ((cfg0.win 0).blk t).view.emb (ix2 r k) = ix2 (row t r) k := by
  obtain ⟨e0, e1, -⟩ := idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 256) : ((cfg0.win 1).blk t).view.emb (ix2 r k) = ix2 (row t r) k := by
  obtain ⟨-, -, e0, e1, -⟩ := idx t
  funext a; apply Fin.ext
  match a with
  | ⟨0, _⟩ => show win0_1.index t (0 : Fin 2) * 512 + 1 * r.val = t.val * 512 + r.val; omega
  | ⟨1, _⟩ => show win0_1.index t (1 : Fin 2) * 256 + 1 * k.val = k.val; omega

theorem emb2 (t : Fin cfg0.N) (r : Fin 1024) (k : Fin 1024) : ((cfg0.win 2).blk t).view.emb (ix2 r k) = ix2 r k := by
  obtain ⟨-, -, -, -, e0, e1, -⟩ := idx t
  funext a; apply Fin.ext
  match a with
  | ⟨0, _⟩ => show win0_2.index t (0 : Fin 2) * 1024 + 1 * r.val = r.val; omega
  | ⟨1, _⟩ => show win0_2.index t (1 : Fin 2) * 1024 + 1 * k.val = k.val; omega

theorem emb3 (t : Fin cfg0.N) (r : Fin 256) (k : Fin 1024) : ((cfg0.win 3).blk t).view.emb (ix2 r k) = ix2 r k := by
  obtain ⟨-, -, -, -, -, -, e0, e1, -⟩ := idx t
  funext a; apply Fin.ext
  match a with
  | ⟨0, _⟩ => show win0_3.index t (0 : Fin 2) * 256 + 1 * r.val = r.val; omega
  | ⟨1, _⟩ => show win0_3.index t (1 : Fin 2) * 1024 + 1 * k.val = k.val; omega

theorem emb4 (t : Fin cfg0.N) (r : Fin 1) (k : Fin 1024) : ((cfg0.win 4).blk t).view.emb (ix2 r k) = ix2 r k := by
  obtain ⟨-, -, -, -, -, -, -, -, e0, e1, -⟩ := idx t
  funext a; apply Fin.ext
  match a with
  | ⟨0, _⟩ => show win0_4.index t (0 : Fin 2) * 1 + 1 * r.val = r.val; omega
  | ⟨1, _⟩ => show win0_4.index t (1 : Fin 2) * 1024 + 1 * k.val = k.val; omega

theorem emb5 (t : Fin cfg0.N) (r : Fin 1) (k : Fin 1024) : ((cfg0.win 5).blk t).view.emb (ix2 r k) = ix2 r k := by
  obtain ⟨-, -, -, -, -, -, -, -, -, -, e0, e1, -⟩ := idx t
  funext a; apply Fin.ext
  match a with
  | ⟨0, _⟩ => show win0_5.index t (0 : Fin 2) * 1 + 1 * r.val = r.val; omega
  | ⟨1, _⟩ => show win0_5.index t (1 : Fin 2) * 1024 + 1 * k.val = k.val; omega

theorem emb6 (t : Fin cfg0.N) (r : Fin 512) (k : Fin 1024) : ((cfg0.win 6).blk t).view.emb (ix2 r k) = ix2 (row t r) k := by
  obtain ⟨-, -, -, -, -, -, -, -, -, -, -, -, e0, e1⟩ := idx t
  funext a; apply Fin.ext
  match a with
  | ⟨0, _⟩ => show win0_6.index t (0 : Fin 2) * 512 + 1 * r.val = t.val * 512 + r.val; omega
  | ⟨1, _⟩ => show win0_6.index t (1 : Fin 2) * 1024 + 1 * k.val = k.val; omega

/-! ## What the input blocks hold, in the arguments as launched -/

theorem blk0 (c : Dev nD) (t : Fin cfg0.N) (r : Fin 512) (k : Fin 1024) : iblk m c 0 t (ix2 r k)
    = m ((c : Thread nD τ).loc main_arg0) (ix2 (row t r) k) := by
  show V m c main_arg0 (((cfg0.win 0).blk t).view.emb (ix2 r k)) = _
  rw [emb0]
  entry_read
  rfl

theorem blk1 (c : Dev nD) (t : Fin cfg0.N) (r : Fin 512) (k : Fin 256) : iblk m c 1 t (ix2 r k)
    = m ((c : Thread nD τ).loc main_arg1) (ix2 (row t r) k) := by
  show V m c main_arg1 (((cfg0.win 1).blk t).view.emb (ix2 r k)) = _
  rw [emb1]
  entry_read
  rfl

theorem blk2 (c : Dev nD) (t : Fin cfg0.N) (r : Fin 1024) (k : Fin 1024) : iblk m c 2 t (ix2 r k)
    = m ((c : Thread nD τ).loc main_arg2) (ix2 r k) := by
  show V m c main_v0 (((cfg0.win 2).blk t).view.emb (ix2 r k)) = _
  rw [emb2]
  entry_read
  rfl

theorem blk3 (c : Dev nD) (t : Fin cfg0.N) (r : Fin 256) (k : Fin 1024) : iblk m c 3 t (ix2 r k)
    = m ((c : Thread nD τ).loc main_arg3) (ix2 r k) := by
  show V m c main_v1 (((cfg0.win 3).blk t).view.emb (ix2 r k)) = _
  rw [emb3]
  entry_read
  rfl

theorem blk4 (c : Dev nD) (t : Fin cfg0.N) (k : Fin 1024) : iblk m c 4 t (ix2 (0 : Fin 1) k)
    = m ((c : Thread nD τ).loc main_arg4) (ix1 k) := by
  show V m c main_v2 (((cfg0.win 4).blk t).view.emb (ix2 (0 : Fin 1) k)) = _
  rw [emb4]
  entry_read
  pointwise

theorem blk5 (c : Dev nD) (t : Fin cfg0.N) (k : Fin 1024) : iblk m c 5 t (ix2 (0 : Fin 1) k)
    = m ((c : Thread nD τ).loc main_arg5) (ix1 k) := by
  show V m c main_v3 (((cfg0.win 5).blk t).view.emb (ix2 (0 : Fin 1) k)) = _
  rw [emb5]
  entry_read
  pointwise

/-! ## The result array -/

/-- The computed array of core `c`'s arguments as launched. -/
abbrev res (c : Dev nD) : FVec Ideal S16384x1024 .f32 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point `t` writes back is its block of the computed array. -/
theorem flushed_eq (c : Dev nD) (t : Fin cfg0.N) : (dats m 0 c).flushed 6 t
    = ((cfg0.win 6).blk t).view.read (Elt Ideal) (res m c) := by
  rw [Value.flushed6]
  funext j
  obtain ⟨r, s, rfl⟩ : ∃ (r : Fin 512) (s : Fin 1024), j = ix2 r s := ⟨j 0, j 1, Shape.idx_ext₂ rfl rfl⟩
  show out0_6 (iblk m c 0 t) (iblk m c 1 t) (iblk m c 2 t) (iblk m c 3 t) (iblk m c 4 t) (iblk m c 5 t) (ix2 r s) = res m c (((cfg0.win 6).blk t).view.emb (ix2 r s))
  unfold out0_6
  rw [View.canon_unit_zero hz, emb6]
  rw [View.ld_unit_zero hz, View.ld_unit_zero hz, View.ld_unit_zero hz, View.ld_unit_zero hz, View.ld_unit_zero hz,
    View.ld_unit_zero hz, pay]
  simp only [blk0, blk1, blk2, blk3, blk4, blk5]
  rfl

/-- Every index of the result is in the block of some point. -/
theorem cover (i : S16384x1024.Idx) :
    ∃ t : Fin cfg0.N, (cfg0.win 6).flush t = true ∧ i ∈ ((cfg0.win 6).blk t).view.set := by
  obtain ⟨a, b, rfl⟩ : ∃ (a : Fin 16384) (b : Fin 1024), i = ix2 a b := ⟨i 0, i 1, Shape.idx_ext₂ rfl rfl⟩
  have ha := a.isLt
  have hb := b.isLt
  have ht : a.val / 512 < cfg0.N := by rw [show cfg0.N = 32 from N_0]; omega
  refine ⟨⟨_, ht⟩, flush0_6 _, ?_⟩
  have h := ((cfg0.win 6).blk ⟨_, ht⟩).view.emb_mem_set (ix2 (⟨a.val % 512, by omega⟩ : Fin 512) b)
  rw [emb6] at h
  have e0 : row ⟨_, ht⟩ (⟨a.val % 512, by omega⟩ : Fin 512) = a := Fin.ext (by show a.val / 512 * 512 + a.val % 512 = a.val; omega)
  rwa [e0] at h

/-- The result array after the run is the computed array of the arguments. -/
theorem final (c : Dev nD) : (dats m 0 c).arrAt 6 cfg0.N = res m c :=
  (dats m 0 c).arrAt_eq_of_cover 6 _ (fun t _ => flushed_eq m c t) cover

/-! ## The reference -/

/-- The reference's result at an index is the computed array there. -/
theorem ref_eq (m' : (ℓ : Loc Cert.PleRefIdeal.nD Cert.PleRefIdeal.τ Cert.PleRefIdeal.sig) → Buf (Elt Ideal) ℓ)
    (c : Dev Cert.PleRefIdeal.nD) : (Cert.PleRefIdeal.Value.res_main_v35 m' c : FVec Ideal S16384x1024 .f32)
    = G (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) (m' ((c.tc : Thread Cert.PleRefIdeal.nD Cert.PleRefIdeal.τ).loc Cert.PleRefIdeal.main_arg2)) (m' ((c.tc : Thread Cert.PleRefIdeal.nD Cert.PleRefIdeal.τ).loc Cert.PleRefIdeal.main_arg3)) (m' ((c.tc : Thread Cert.PleRefIdeal.nD Cert.PleRefIdeal.τ).loc Cert.PleRefIdeal.main_arg4)) (m' ((c.tc : Thread Cert.PleRefIdeal.nD Cert.PleRefIdeal.τ).loc Cert.PleRefIdeal.main_arg5)) := by
  funext i
  obtain ⟨r, s, rfl⟩ : ∃ (r : Fin 16384) (s : Fin 1024), i = ix2 r s := ⟨i 0, i 1, Shape.idx_ext₂ rfl rfl⟩
  pointwise [Cert.PleRefIdeal.Value.res_main_v35, G, layerNorm, mean, alpha, Ideal.logistic]

/-! ## The claims -/

/-- The kernel and its idealization leave every semaphore at zero and the arguments as they were. -/
theorem frame : Cert.quiescent_Ple := fun m ρ _ => Cert.Ple.Gen.frame m ρ
theorem frame_ideal : Cert.quiescent_PleIdeal := fun m ρ _ => Cert.PleIdeal.Gen.frame m ρ

/-- The reference leaves the arguments as they were and has no semaphore. -/
theorem frame_ref : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The idealization rewrote nothing. -/
theorem preserves : Cert.preserves_Ple_PleIdeal := trivial

/-- Over the extended reals the kernel and the reference end with the same result array, whatever the arguments. -/
theorem algebraic : Cert.algebraic_PleIdeal_PleRefIdeal := by
  intro m ρ m' ρ' _ hag
  refine ⟨fun c => res m c, (θ_run _ _ _).mono (fun r h c => ⟨(h c).1.trans (final m c), (h c).2⟩)
    (Value.run_blocks m ρ), (θ_run _ _ _).mono (fun r h c => ⟨(h c).1.trans ?_, (h c).2⟩)
    (Cert.PleRefIdeal.Value.run (F := Ideal) m' ρ')⟩
  refine (ref_eq m' c).trans ?_
  show G (m' (((c : Dev nD).tc : Thread nD τ).loc Cert.PleRefIdeal.main_arg0)) (m' (((c : Dev nD).tc : Thread nD τ).loc Cert.PleRefIdeal.main_arg1)) (m' (((c : Dev nD).tc : Thread nD τ).loc Cert.PleRefIdeal.main_arg2)) (m' (((c : Dev nD).tc : Thread nD τ).loc Cert.PleRefIdeal.main_arg3)) (m' (((c : Dev nD).tc : Thread nD τ).loc Cert.PleRefIdeal.main_arg4)) (m' (((c : Dev nD).tc : Thread nD τ).loc Cert.PleRefIdeal.main_arg5)) = _
  obtain ⟨h0, h1, h2, h3, h4, h5⟩ := hag c
  rw [h0, h1, h2, h3, h4, h5]

end Cert.Proof.Ple

end
-- ==== Proof.HgrnBody.lean ====
/- What one grid point of the gated recurrence computes, written once for a block of sixteen tokens, and that the printed program
   is eight of these blocks after one another. -/
module

public import proofs.«01_k».proof.Proof.Gen.HgrnIdeal.Value
public import Idealize.ShloMosaic.Lib.Pointwise

@[expose] public section

set_option maxRecDepth 65536

noncomputable section

open Idealize.ShloMosaic Idealize.ShloMosaic.TcCoe Idealize.SL.Sem
open Cert.HgrnIdeal Cert.HgrnIdeal.Gen

namespace Cert.Proof.Hgrn

/-- Sixteen rows, and a chunk of 128 rows, of 128 channels. -/
abbrev V16 : Type := FVec Ideal S16x128 .f32
abbrev V128 : Type := FVec Ideal S128x128 .f32

/-! ## A block of sixteen tokens -/

/-- Row `s` of a block, in every row. -/
def row (s : ℕ) (h : S16x128.Slices ![s, 0] S1x128) (x : V16) : V16 :=
  broadcastTo S16x128 (extractStridedSlice S1x128 ![s, 0] x h) broadcasts_S1x128_S16x128

/-- The summands of the weights which token `s` of the block has for each token of it. -/
def piece (s : ℕ) (h : S16x128.Slices ![s, 0] S1x128) (bl q k : V16) : V16 :=
  select (cmpi .sge (iota .tc S16x128 32 [0] iota_S16x128_d0_w32) (broadcast S16x128 (BitVec.ofNat 32 s)))
    (mulf (mulf q (row s h k)) (exp (minimumf (subf bl (row s h bl)) (broadcast S16x128 (Scalar.ofBits .f32 0x00000000#32)))))
    (broadcast S16x128 (Scalar.ofBits .f32 0x00000000#32))

/-- The weights of the block's tokens for each other, one token's sixteen rows after another's. -/
def weights (bl q k : V16) : FVec Ideal S256x128 .f32 :=
  matmul dot_S256x128_S128x128_S256x128_1_0_0_1_n_n none
    (truncf .bf16 (concatenate S256x128 0 [⟨S16x128, piece 0 slices_S16x128_o0_0_S1x128 bl q k⟩, ⟨S16x128, piece 1 slices_S16x128_o1_0_S1x128 bl q k⟩, ⟨S16x128, piece 2 slices_S16x128_o2_0_S1x128 bl q k⟩, ⟨S16x128, piece 3 slices_S16x128_o3_0_S1x128 bl q k⟩, ⟨S16x128, piece 4 slices_S16x128_o4_0_S1x128 bl q k⟩, ⟨S16x128, piece 5 slices_S16x128_o5_0_S1x128 bl q k⟩, ⟨S16x128, piece 6 slices_S16x128_o6_0_S1x128 bl q k⟩, ⟨S16x128, piece 7 slices_S16x128_o7_0_S1x128 bl q k⟩, ⟨S16x128, piece 8 slices_S16x128_o8_0_S1x128 bl q k⟩, ⟨S16x128, piece 9 slices_S16x128_o9_0_S1x128 bl q k⟩, ⟨S16x128, piece 10 slices_S16x128_o10_0_S1x128 bl q k⟩, ⟨S16x128, piece 11 slices_S16x128_o11_0_S1x128 bl q k⟩, ⟨S16x128, piece 12 slices_S16x128_o12_0_S1x128 bl q k⟩, ⟨S16x128, piece 13 slices_S16x128_o13_0_S1x128 bl q k⟩, ⟨S16x128, piece 14 slices_S16x128_o14_0_S1x128 bl q k⟩, ⟨S16x128, piece 15 slices_S16x128_o15_0_S1x128 bl q k⟩]
      concatenates_S16x128_S16x128_S16x128_S16x128_S16x128_S16x128_S16x128_S16x128_S16x128_S16x128_S16x128_S16x128_S16x128_S16x128_S16x128_S16x128_S256x128_d0) bitsLt_bf16_f32)
    k0_pay14 (constant S256x128 .f32 0x00000000#32)

/-- One token's share of the block's own result. -/
def share (s : ℕ) (h : S256x128.Slices ![16 * s, 0] S16x128) (h' : S16x128.Slices ![s, 0] S1x128) (a : FVec Ideal S256x128 .f32) (v : V16) : V16 :=
  mulf (extractStridedSlice S16x128 ![16 * s, 0] a h) (row s h' v)

/-- What the block's tokens take from the block. -/
def within (a : FVec Ideal S256x128 .f32) (v : V16) : V16 :=
  addf (addf (addf (addf (addf (addf (addf (addf (addf (addf (addf (addf (addf (addf (addf (share 0 slices_S256x128_o0_0_S16x128 slices_S16x128_o0_0_S1x128 a v)
    (share 1 slices_S256x128_o16_0_S16x128 slices_S16x128_o1_0_S1x128 a v))
    (share 2 slices_S256x128_o32_0_S16x128 slices_S16x128_o2_0_S1x128 a v))
    (share 3 slices_S256x128_o48_0_S16x128 slices_S16x128_o3_0_S1x128 a v))
    (share 4 slices_S256x128_o64_0_S16x128 slices_S16x128_o4_0_S1x128 a v))
    (share 5 slices_S256x128_o80_0_S16x128 slices_S16x128_o5_0_S1x128 a v))
    (share 6 slices_S256x128_o96_0_S16x128 slices_S16x128_o6_0_S1x128 a v))
    (share 7 slices_S256x128_o112_0_S16x128 slices_S16x128_o7_0_S1x128 a v))
    (share 8 slices_S256x128_o128_0_S16x128 slices_S16x128_o8_0_S1x128 a v))
    (share 9 slices_S256x128_o144_0_S16x128 slices_S16x128_o9_0_S1x128 a v))
    (share 10 slices_S256x128_o160_0_S16x128 slices_S16x128_o10_0_S1x128 a v))
    (share 11 slices_S256x128_o176_0_S16x128 slices_S16x128_o11_0_S1x128 a v))
    (share 12 slices_S256x128_o192_0_S16x128 slices_S16x128_o12_0_S1x128 a v))
    (share 13 slices_S256x128_o208_0_S16x128 slices_S16x128_o13_0_S1x128 a v))
    (share 14 slices_S256x128_o224_0_S16x128 slices_S16x128_o14_0_S1x128 a v))
    (share 15 slices_S256x128_o240_0_S16x128 slices_S16x128_o15_0_S1x128 a v)

/-- The block's last row. -/
def last (bl : V16) : FVec Ideal S1x128 .f32 := extractStridedSlice S1x128 ![15, 0] bl slices_S16x128_o15_0_S1x128

/-- What the block's tokens take from the state before it. -/
def before (st : V128) (bl q : V16) : V16 :=
  matmul dot_S16x128_S128x128_S16x128_1_1_0_0_n_n none (truncf .bf16 (mulf q (exp bl)) bitsLt_bf16_f32) (truncf .bf16 st bitsLt_bf16_f32)
    (constant S16x128 .f32 0x00000000#32)

/-- The block's result. -/
def result (st : V128) (bl q k v : V16) : V16 := addf (before st bl q) (within (weights bl q k) v)

/-- The state after the block. -/
def next (st : V128) (bl k v : V16) : V128 :=
  addf (mulf st (broadcastTo S128x128 (exp (last bl)) broadcasts_S1x128_S128x128))
    (matmul dot_S128x16_S16x128_S128x128_1_0_0_1_n_n none
      (truncf .bf16 (matmul dot_S128x128_S16x128_S128x16_1_1_0_0_n_n none k0_pay13 (truncf .bf16 v bitsLt_bf16_f32)
        (constant S128x16 .f32 0x00000000#32)) bitsLt_bf16_f32)
      (truncf .bf16 (mulf k (exp (subf (broadcastTo S16x128 (last bl) broadcasts_S1x128_S16x128) bl))) bitsLt_bf16_f32)
      (constant S128x128 .f32 0x00000000#32))

/-! ## A chunk of eight blocks -/

/-- The sixteen rows from row `n`. -/
def cut (n : ℕ) (h : S128x128.Slices ![n, 0] S16x128) (x : V128) : V16 := extractStridedSlice S16x128 ![n, 0] x h

/-- The state after 1 block. -/
def state1 (st bl k v : V128) : V128 := next st (cut 0 slices_S128x128_o0_0_S16x128 bl) (cut 0 slices_S128x128_o0_0_S16x128 k) (cut 0 slices_S128x128_o0_0_S16x128 v)

/-- The state after 2 blocks. -/
def state2 (st bl k v : V128) : V128 := next (state1 st bl k v) (cut 16 slices_S128x128_o16_0_S16x128 bl) (cut 16 slices_S128x128_o16_0_S16x128 k) (cut 16 slices_S128x128_o16_0_S16x128 v)

/-- The state after 3 blocks. -/
def state3 (st bl k v : V128) : V128 := next (state2 st bl k v) (cut 32 slices_S128x128_o32_0_S16x128 bl) (cut 32 slices_S128x128_o32_0_S16x128 k) (cut 32 slices_S128x128_o32_0_S16x128 v)

/-- The state after 4 blocks. -/
def state4 (st bl k v : V128) : V128 := next (state3 st bl k v) (cut 48 slices_S128x128_o48_0_S16x128 bl) (cut 48 slices_S128x128_o48_0_S16x128 k) (cut 48 slices_S128x128_o48_0_S16x128 v)

/-- The state after 5 blocks. -/
def state5 (st bl k v : V128) : V128 := next (state4 st bl k v) (cut 64 slices_S128x128_o64_0_S16x128 bl) (cut 64 slices_S128x128_o64_0_S16x128 k) (cut 64 slices_S128x128_o64_0_S16x128 v)

/-- The state after 6 blocks. -/
def state6 (st bl k v : V128) : V128 := next (state5 st bl k v) (cut 80 slices_S128x128_o80_0_S16x128 bl) (cut 80 slices_S128x128_o80_0_S16x128 k) (cut 80 slices_S128x128_o80_0_S16x128 v)

/-- The state after 7 blocks. -/
def state7 (st bl k v : V128) : V128 := next (state6 st bl k v) (cut 96 slices_S128x128_o96_0_S16x128 bl) (cut 96 slices_S128x128_o96_0_S16x128 k) (cut 96 slices_S128x128_o96_0_S16x128 v)

/-- The state after 8 blocks. -/
def state8 (st bl k v : V128) : V128 := next (state7 st bl k v) (cut 112 slices_S128x128_o112_0_S16x128 bl) (cut 112 slices_S128x128_o112_0_S16x128 k) (cut 112 slices_S128x128_o112_0_S16x128 v)

/-- The chunk's result before its norm. -/
def chunk (st bl q k v : V128) : V128 :=
  concatenate S128x128 0 [
    ⟨S16x128, result st (cut 0 slices_S128x128_o0_0_S16x128 bl) (cut 0 slices_S128x128_o0_0_S16x128 q) (cut 0 slices_S128x128_o0_0_S16x128 k) (cut 0 slices_S128x128_o0_0_S16x128 v)⟩,
    ⟨S16x128, result (state1 st bl k v) (cut 16 slices_S128x128_o16_0_S16x128 bl) (cut 16 slices_S128x128_o16_0_S16x128 q) (cut 16 slices_S128x128_o16_0_S16x128 k) (cut 16 slices_S128x128_o16_0_S16x128 v)⟩,
    ⟨S16x128, result (state2 st bl k v) (cut 32 slices_S128x128_o32_0_S16x128 bl) (cut 32 slices_S128x128_o32_0_S16x128 q) (cut 32 slices_S128x128_o32_0_S16x128 k) (cut 32 slices_S128x128_o32_0_S16x128 v)⟩,
    ⟨S16x128, result (state3 st bl k v) (cut 48 slices_S128x128_o48_0_S16x128 bl) (cut 48 slices_S128x128_o48_0_S16x128 q) (cut 48 slices_S128x128_o48_0_S16x128 k) (cut 48 slices_S128x128_o48_0_S16x128 v)⟩,
    ⟨S16x128, result (state4 st bl k v) (cut 64 slices_S128x128_o64_0_S16x128 bl) (cut 64 slices_S128x128_o64_0_S16x128 q) (cut 64 slices_S128x128_o64_0_S16x128 k) (cut 64 slices_S128x128_o64_0_S16x128 v)⟩,
    ⟨S16x128, result (state5 st bl k v) (cut 80 slices_S128x128_o80_0_S16x128 bl) (cut 80 slices_S128x128_o80_0_S16x128 q) (cut 80 slices_S128x128_o80_0_S16x128 k) (cut 80 slices_S128x128_o80_0_S16x128 v)⟩,
    ⟨S16x128, result (state6 st bl k v) (cut 96 slices_S128x128_o96_0_S16x128 bl) (cut 96 slices_S128x128_o96_0_S16x128 q) (cut 96 slices_S128x128_o96_0_S16x128 k) (cut 96 slices_S128x128_o96_0_S16x128 v)⟩,
    ⟨S16x128, result (state7 st bl k v) (cut 112 slices_S128x128_o112_0_S16x128 bl) (cut 112 slices_S128x128_o112_0_S16x128 q) (cut 112 slices_S128x128_o112_0_S16x128 k) (cut 112 slices_S128x128_o112_0_S16x128 v)⟩]
    concatenates_S16x128_S16x128_S16x128_S16x128_S16x128_S16x128_S16x128_S16x128_S128x128_d0

/-- The chunk's result: normed, scaled and gated. -/
def gated (o : V128) (w : FVec Ideal S1x128 .f32) (g : FVec Ideal S1x128x128 .f32) : FVec Ideal S1x128x128 .f32 :=
  k0_pay1 o (k0_pay298 (shapeCast S128x1 (multiReduction .add [1] S128 (mulf o o) 0x00000000#32 reduces_S128x128_S128 (.inl rfl) rfl)
    shapeCasts_S128_S128x1)) w g

/-- The gates' logarithms summed within each block, the keys. -/
def bls (x1 : FVec Ideal S1x128x128 .f32) (x4 : FVec Ideal S2x128 .f32) : V128 := k0_pay12 (k0_pay8 x4 x1)
def keys (x1 : FVec Ideal S1x128x128 .f32) (x4 : FVec Ideal S2x128 .f32) : V128 := k0_pay11 (k0_pay6 x1) (k0_pay9 x4) k0_pay10

/-! ## The printed program -/

theorem shapeCast_same (x : V128) (h : S128x128.ShapeCasts S128x128) : shapeCast S128x128 x h = x := by
  funext j
  exact shapeCast_apply x h j j rfl

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl
theorem zeros4 : (![0, 0, 0, 0] : Fin 4 → ℕ) = fun _ => 0 := by funext a; match a with | ⟨0, _⟩ => rfl | ⟨1, _⟩ => rfl | ⟨2, _⟩ => rfl | ⟨3, _⟩ => rfl

/-- What a load of the whole of a buffer reads. -/
abbrev whole {s : Shape} {off : Fin s.rank → ℕ} (inb : ∀ a, off a + s.size a ≤ s.size a) (arg : Memref sig .tc .vmem s .f32)
    (harg : arg.IsWhole) (X : Vec Ideal s .f32) : Vec Ideal s .f32 :=
  View.readAt (Elt Ideal) arg.view (Rect.unit (s := s) off s.size inb).toLoadRect (harg.unread X)

theorem whole_eq {s : Shape} {off : Fin s.rank → ℕ} (hz : off = fun _ => 0) (inb : ∀ a, off a + s.size a ≤ s.size a)
    (arg : Memref sig .tc .vmem s .f32) (harg : arg.IsWhole) (X : Vec Ideal s .f32) : whole inb arg harg X = X := by
  have h := congrArg (fun Y => View.ld Y (Rect.unit (s := s) off s.size inb)) (harg.read_unread X)
  exact h.trans (View.ld_unit_zero (S := s) hz inb X)

/-- The scratch after a row's first chunk has filled it: the transposed initial state. -/
theorem startA (c : Dev nD) (arg8 : Memref sig .tc .vmem S1x1x128x128 .f32) (harg8 : arg8.IsWhole) (arg12 : Memref sig .tc .vmem S128x128 .f32)
    (x5 : Vec Ideal S1x1x128x128 .f32) : kernelRun0_A.sl.v76 c arg8 harg8 arg12 x5 = k0_pay3 x5 := by
  unfold kernelRun0_A.sl.v76 kernelRun0_A.sl.HS0_1
  rw [View.readCov_unit_zero (S := S128x128) _ zeros2]
  exact congrArg k0_pay3 (whole_eq zeros4 _ arg8 harg8 x5)

/-- What a row's first chunk leaves in the scratch: the state after the chunk. -/
theorem soutA (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : cond0_0 i) (hc1 : ¬cond0_1 i)
    (x0 x1 x2 x3 : Vec Ideal S1x128x128 .f32) (x4 : Vec Ideal S2x128 .f32) (x5 : Vec Ideal S1x1x128x128 .f32) (x6 : Vec Ideal S1x128 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = state8 (k0_pay3 x5) (bls x1 x4) (keys x1 x4) (k0_pay7 x2) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  rw [View.canon_cons_unit_zero (S := S128x128) zeros2]
  refine Eq.trans (b := shapeCast S128x128 (state8 (kernelRun0_A.sl.v76 c arg8 harg8 arg12 x5) (bls (whole inb_S1x128x128_S1x128x128_0_0_0 arg4 harg4 x1) (whole inb_S2x128_S2x128_0_0 arg7 harg7 x4)) (keys (whole inb_S1x128x128_S1x128x128_0_0_0 arg4 harg4 x1) (whole inb_S2x128_S2x128_0_0 arg7 harg7 x4)) (k0_pay7 (whole inb_S1x128x128_S1x128x128_0_0_0 arg5 harg5 x2))) shapeCasts_S128x128_S128x128) rfl ?_
  rw [whole_eq zeros3 _ arg4 harg4 x1, whole_eq zeros3 _ arg5 harg5 x2, whole_eq zeros2 _ arg7 harg7 x4, startA, shapeCast_same]

/-- What a row's first chunk writes of the first result. -/
theorem outA (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : cond0_0 i) (hc1 : ¬cond0_1 i)
    (x0 x1 x2 x3 : Vec Ideal S1x128x128 .f32) (x4 : Vec Ideal S2x128 .f32) (x5 : Vec Ideal S1x1x128x128 .f32) (x6 : Vec Ideal S1x128 .f32) :
    out0_A_7 c i arg3 harg3 arg4 harg4 arg5 harg5 arg6 harg6 arg7 harg7 arg8 harg8 arg9 harg9 arg10 harg10 arg11 harg11 arg12 harg12 hc0 hc1 x0 x1 x2 x3 x4 x5 x6
      = gated (chunk (k0_pay3 x5) (bls x1 x4) (k0_pay5 x0) (keys x1 x4) (k0_pay7 x2)) x6 x3 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  rw [View.canon_unit_zero (S := S1x128x128) zeros3]
  refine Eq.trans (b := gated (chunk (kernelRun0_A.sl.v76 c arg8 harg8 arg12 x5) (bls (whole inb_S1x128x128_S1x128x128_0_0_0 arg4 harg4 x1) (whole inb_S2x128_S2x128_0_0 arg7 harg7 x4)) (k0_pay5 (whole inb_S1x128x128_S1x128x128_0_0_0 arg3 harg3 x0)) (keys (whole inb_S1x128x128_S1x128x128_0_0_0 arg4 harg4 x1) (whole inb_S2x128_S2x128_0_0 arg7 harg7 x4)) (k0_pay7 (whole inb_S1x128x128_S1x128x128_0_0_0 arg5 harg5 x2))) (whole inb_S1x128_S1x128_0_0 arg9 harg9 x6) (whole inb_S1x128x128_S1x128x128_0_0_0 arg6 harg6 x3)) rfl ?_
  rw [whole_eq zeros3 _ arg3 harg3 x0, whole_eq zeros3 _ arg4 harg4 x1, whole_eq zeros3 _ arg5 harg5 x2, whole_eq zeros3 _ arg6 harg6 x3, whole_eq zeros2 _ arg7 harg7 x4, startA, whole_eq zeros2 _ arg9 harg9 x6]

/-- What a row's middle chunk leaves in the scratch: the state after the chunk. -/
theorem soutB (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : ¬cond0_0 i) (hc1 : ¬cond0_1 i)
    (x0 x1 x2 x3 : Vec Ideal S1x128x128 .f32) (x4 : Vec Ideal S2x128 .f32) (x5 : Vec Ideal S1x1x128x128 .f32) (x6 : Vec Ideal S1x128 .f32) (xs0 : Vec Ideal S128x128 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0
      = state8 xs0 (bls x1 x4) (keys x1 x4) (k0_pay7 x2) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  rw [View.canon_unit_zero (S := S128x128) zeros2]
  refine Eq.trans (b := shapeCast S128x128 (state8 (whole inb_S128x128_S128x128_0_0 arg12 harg12 xs0) (bls (whole inb_S1x128x128_S1x128x128_0_0_0 arg4 harg4 x1) (whole inb_S2x128_S2x128_0_0 arg7 harg7 x4)) (keys (whole inb_S1x128x128_S1x128x128_0_0_0 arg4 harg4 x1) (whole inb_S2x128_S2x128_0_0 arg7 harg7 x4)) (k0_pay7 (whole inb_S1x128x128_S1x128x128_0_0_0 arg5 harg5 x2))) shapeCasts_S128x128_S128x128) rfl ?_
  rw [whole_eq zeros3 _ arg4 harg4 x1, whole_eq zeros3 _ arg5 harg5 x2, whole_eq zeros2 _ arg7 harg7 x4, whole_eq zeros2 _ arg12 harg12 xs0, shapeCast_same]

/-- What a row's middle chunk writes of the first result. -/
theorem outB (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : ¬cond0_0 i) (hc1 : ¬cond0_1 i)
    (x0 x1 x2 x3 : Vec Ideal S1x128x128 .f32) (x4 : Vec Ideal S2x128 .f32) (x5 : Vec Ideal S1x1x128x128 .f32) (x6 : Vec Ideal S1x128 .f32) (xs0 : Vec Ideal S128x128 .f32) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0
      = gated (chunk xs0 (bls x1 x4) (k0_pay5 x0) (keys x1 x4) (k0_pay7 x2)) x6 x3 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  rw [View.canon_unit_zero (S := S1x128x128) zeros3]
  refine Eq.trans (b := gated (chunk (whole inb_S128x128_S128x128_0_0 arg12 harg12 xs0) (bls (whole inb_S1x128x128_S1x128x128_0_0_0 arg4 harg4 x1) (whole inb_S2x128_S2x128_0_0 arg7 harg7 x4)) (k0_pay5 (whole inb_S1x128x128_S1x128x128_0_0_0 arg3 harg3 x0)) (keys (whole inb_S1x128x128_S1x128x128_0_0_0 arg4 harg4 x1) (whole inb_S2x128_S2x128_0_0 arg7 harg7 x4)) (k0_pay7 (whole inb_S1x128x128_S1x128x128_0_0_0 arg5 harg5 x2))) (whole inb_S1x128_S1x128_0_0 arg9 harg9 x6) (whole inb_S1x128x128_S1x128x128_0_0_0 arg6 harg6 x3)) rfl ?_
  rw [whole_eq zeros3 _ arg3 harg3 x0, whole_eq zeros3 _ arg4 harg4 x1, whole_eq zeros3 _ arg5 harg5 x2, whole_eq zeros3 _ arg6 harg6 x3, whole_eq zeros2 _ arg7 harg7 x4, whole_eq zeros2 _ arg12 harg12 xs0, whole_eq zeros2 _ arg9 harg9 x6]

/-- What a row's last chunk leaves in the scratch: the state after the chunk. -/
theorem soutC (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : ¬cond0_0 i) (hc1 : cond0_1 i)
    (x0 x1 x2 x3 : Vec Ideal S1x128x128 .f32) (x4 : Vec Ideal S2x128 .f32) (x5 : Vec Ideal S1x1x128x128 .f32) (x6 : Vec Ideal S1x128 .f32) (xs0 : Vec Ideal S128x128 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0
      = state8 xs0 (bls x1 x4) (keys x1 x4) (k0_pay7 x2) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  rw [View.canon_unit_zero (S := S128x128) zeros2]
  refine Eq.trans (b := shapeCast S128x128 (state8 (whole inb_S128x128_S128x128_0_0 arg12 harg12 xs0) (bls (whole inb_S1x128x128_S1x128x128_0_0_0 arg4 harg4 x1) (whole inb_S2x128_S2x128_0_0 arg7 harg7 x4)) (keys (whole inb_S1x128x128_S1x128x128_0_0_0 arg4 harg4 x1) (whole inb_S2x128_S2x128_0_0 arg7 harg7 x4)) (k0_pay7 (whole inb_S1x128x128_S1x128x128_0_0_0 arg5 harg5 x2))) shapeCasts_S128x128_S128x128) rfl ?_
  rw [whole_eq zeros3 _ arg4 harg4 x1, whole_eq zeros3 _ arg5 harg5 x2, whole_eq zeros2 _ arg7 harg7 x4, whole_eq zeros2 _ arg12 harg12 xs0, shapeCast_same]

/-- What a row's last chunk writes of the first result. -/
theorem outC (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : ¬cond0_0 i) (hc1 : cond0_1 i)
    (x0 x1 x2 x3 : Vec Ideal S1x128x128 .f32) (x4 : Vec Ideal S2x128 .f32) (x5 : Vec Ideal S1x1x128x128 .f32) (x6 : Vec Ideal S1x128 .f32) (xs0 : Vec Ideal S128x128 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0
      = gated (chunk xs0 (bls x1 x4) (k0_pay5 x0) (keys x1 x4) (k0_pay7 x2)) x6 x3 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  rw [View.canon_unit_zero (S := S1x128x128) zeros3]
  refine Eq.trans (b := gated (chunk (whole inb_S128x128_S128x128_0_0 arg12 harg12 xs0) (bls (whole inb_S1x128x128_S1x128x128_0_0_0 arg4 harg4 x1) (whole inb_S2x128_S2x128_0_0 arg7 harg7 x4)) (k0_pay5 (whole inb_S1x128x128_S1x128x128_0_0_0 arg3 harg3 x0)) (keys (whole inb_S1x128x128_S1x128x128_0_0_0 arg4 harg4 x1) (whole inb_S2x128_S2x128_0_0 arg7 harg7 x4)) (k0_pay7 (whole inb_S1x128x128_S1x128x128_0_0_0 arg5 harg5 x2))) (whole inb_S1x128_S1x128_0_0 arg9 harg9 x6) (whole inb_S1x128x128_S1x128x128_0_0_0 arg6 harg6 x3)) rfl ?_
  rw [whole_eq zeros3 _ arg3 harg3 x0, whole_eq zeros3 _ arg4 harg4 x1, whole_eq zeros3 _ arg5 harg5 x2, whole_eq zeros3 _ arg6 harg6 x3, whole_eq zeros2 _ arg7 harg7 x4, whole_eq zeros2 _ arg12 harg12 xs0, whole_eq zeros2 _ arg9 harg9 x6]

/-- What a row's last chunk writes of the second result. -/
theorem finC (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S2x128 .f32) (harg7 : arg7.IsWhole) (arg8 : Memref sig .tc .vmem S1x1x128x128 .f32) (harg8 : arg8.IsWhole) (arg9 : Memref sig .tc .vmem S1x128 .f32) (harg9 : arg9.IsWhole) (arg10 : Memref sig .tc .vmem S1x128x128 .f32) (harg10 : arg10.IsWhole) (arg11 : Memref sig .tc .vmem S1x1x128x128 .f32) (harg11 : arg11.IsWhole) (arg12 : Memref sig .tc .vmem S128x128 .f32) (harg12 : arg12.IsWhole) (hc0 : ¬cond0_0 i) (hc1 : cond0_1 i)
    (x0 x1 x2 x3 : Vec Ideal S1x128x128 .f32) (x4 : Vec Ideal S2x128 .f32) (x5 : Vec Ideal S1x1x128x128 .f32) (x6 : Vec Ideal S1x128 .f32) (xs0 : Vec Ideal S128x128 .f32) :
    out0_C_8 c i arg3 harg3 arg4 harg4 arg5 harg5 arg6 harg6 arg7 harg7 arg8 harg8 arg9 harg9 arg10 harg10 arg11 harg11 arg12 harg12 hc0 hc1 x0 x1 x2 x3 x4 x5 x6 xs0
      = k0_pay2 (state8 xs0 (bls x1 x4) (keys x1 x4) (k0_pay7 x2)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  rw [View.canon_unit_zero (S := S1x1x128x128) zeros4]
  refine Eq.trans (b := k0_pay2 (state8 (whole inb_S128x128_S128x128_0_0 arg12 harg12 xs0) (bls (whole inb_S1x128x128_S1x128x128_0_0_0 arg4 harg4 x1) (whole inb_S2x128_S2x128_0_0 arg7 harg7 x4)) (keys (whole inb_S1x128x128_S1x128x128_0_0_0 arg4 harg4 x1) (whole inb_S2x128_S2x128_0_0 arg7 harg7 x4)) (k0_pay7 (whole inb_S1x128x128_S1x128x128_0_0_0 arg5 harg5 x2)))) rfl ?_
  rw [whole_eq zeros3 _ arg4 harg4 x1, whole_eq zeros3 _ arg5 harg5 x2, whole_eq zeros2 _ arg7 harg7 x4, whole_eq zeros2 _ arg12 harg12 xs0]

end Cert.Proof.Hgrn

end
-- ==== Proof.HgrnMath.lean ====
/- The arithmetic of the gated recurrence for one head of one batch row: the state after `n` tokens, the result of one token,
   and how a block of sixteen tokens carries the one on and gives the other. -/
module

public import Idealize.ShloMosaic.Lib.Pointwise
public import proofs.«01_k».proof.Proof.SbMath

@[expose] public section

set_option maxRecDepth 16384

noncomputable section

open Idealize.ShloMosaic

namespace Cert.Proof.HgrnMath

/-- What the recurrence reads of one head: the gates' logarithms, the keys, the queries and the values of every token, all real,
    and the state it starts from. -/
structure Head where
  lf : ℕ → Fin 128 → ℝ
  kk : ℕ → Fin 128 → ℝ
  q : ℕ → Fin 128 → ℝ
  v : ℕ → Fin 128 → ℝ
  s0 : Fin 128 → Fin 128 → EReal
  neg : ∀ n k, lf n k ≤ 0

variable (H : Head)

/-- The logarithm of the decay over the first `n` tokens, in channel `k`. -/
def Head.M (n : ℕ) (k : Fin 128) : ℝ := ∑ u ∈ Finset.range n, H.lf u k

/-- What the first `n` tokens have put into the state. -/
def Head.C (n : ℕ) (k j : Fin 128) : ℝ := ∑ s ∈ Finset.range n, H.kk s k * Real.exp (H.M n k - H.M (s + 1) k) * H.v s j

/-- The state after `n` tokens. -/
def Head.st (n : ℕ) (k j : Fin 128) : EReal := (Real.exp (H.M n k) : EReal) * H.s0 k j + (H.C n k j : EReal)

/-- The weight token `s` has for token `t`. -/
def Head.w (t s : ℕ) : ℝ := ∑ k, H.q t k * H.kk s k * Real.exp (min (H.M (t + 1) k - H.M (s + 1) k) 0)

/-- The result of token `t`, before its norm. -/
def Head.out (t : ℕ) (j : Fin 128) : EReal :=
  ∑ k, ((H.q t k * Real.exp (H.M (t + 1) k) : ℝ) : EReal) * H.s0 k j + ((∑ s ∈ Finset.range (t + 1), H.w t s * H.v s j : ℝ) : EReal)

/-- A real number times a sum with a real number. -/
theorem coe_mul_add (a c : ℝ) (x : EReal) : (a : EReal) * (x + (c : EReal)) = (a : EReal) * x + ((a * c : ℝ) : EReal) := by
  induction x with
  | coe x => rw [← EReal.coe_add, ← EReal.coe_mul, ← EReal.coe_mul, ← EReal.coe_add, mul_add]
  | bot =>
    rw [EReal.bot_add]
    rcases lt_trichotomy a 0 with h | h | h
    · rw [EReal.coe_mul_bot_of_neg h, EReal.top_add_coe]
    · subst h; simp
    · rw [EReal.coe_mul_bot_of_pos h, EReal.bot_add]
  | top =>
    rw [EReal.top_add_coe]
    rcases lt_trichotomy a 0 with h | h | h
    · rw [EReal.coe_mul_top_of_neg h, EReal.bot_add]
    · subst h; simp
    · rw [EReal.coe_mul_top_of_pos h, EReal.top_add_coe]

theorem M_succ (n : ℕ) (k : Fin 128) : H.M (n + 1) k = H.M n k + H.lf n k := Finset.sum_range_succ _ _

theorem M_anti (k : Fin 128) : Antitone fun n => H.M n k :=
  antitone_nat_of_succ_le fun n => by rw [M_succ]; linarith [H.neg n k]

/-- The decay within a block: what the block's first tokens add to the logarithm. -/
theorem M_block (n r : ℕ) (k : Fin 128) : H.M (n + r) k - H.M n k = ∑ u ∈ Finset.range r, H.lf (n + u) k := by
  rw [Head.M, Head.M, Finset.sum_range_add, add_sub_cancel_left]

/-- What the tokens before a block have put in, decayed by the block, and what the block puts in. -/
theorem C_step (n L : ℕ) (k j : Fin 128) :
    H.C n k j * Real.exp (H.M (n + L) k - H.M n k)
        + ∑ s ∈ Finset.range L, H.v (n + s) j * (H.kk (n + s) k * Real.exp (H.M (n + L) k - H.M n k - (H.M (n + s + 1) k - H.M n k)))
      = H.C (n + L) k j := by
  rw [Head.C, Head.C, Finset.sum_range_add, Finset.sum_mul]
  refine congrArg₂ (· + ·) (Finset.sum_congr rfl fun s _ => ?_) (Finset.sum_congr rfl fun s _ => ?_)
  · rw [show H.M (n + L) k - H.M (s + 1) k = (H.M n k - H.M (s + 1) k) + (H.M (n + L) k - H.M n k) by ring, Real.exp_add]; ring
  · rw [show H.M (n + L) k - H.M n k - (H.M (n + s + 1) k - H.M n k) = H.M (n + L) k - H.M (n + s + 1) k by ring]; ring

/-- A block of `L` tokens carries the state on. -/
theorem st_step (n L : ℕ) (k j : Fin 128) :
    H.st n k j * ((Real.exp (H.M (n + L) k - H.M n k) : ℝ) : EReal)
        + ((∑ s ∈ Finset.range L, H.v (n + s) j * (H.kk (n + s) k * Real.exp (H.M (n + L) k - H.M n k - (H.M (n + s + 1) k - H.M n k))) : ℝ) : EReal)
      = H.st (n + L) k j := by
  rw [Head.st, mul_comm, coe_mul_add, add_assoc, ← EReal.coe_add, mul_comm (Real.exp _) (H.C n k j), C_step, ← mul_assoc, ← EReal.coe_mul,
    ← Real.exp_add, sub_add_cancel, Head.st]

theorem sum_add_coe (f : Fin 128 → EReal) (g : Fin 128 → ℝ) : ∑ k, (f k + (g k : EReal)) = ∑ k, f k + ((∑ k, g k : ℝ) : EReal) := by
  rw [Finset.sum_add_distrib, SbMath.coe_sum]

/-- The weight of an earlier token, where nothing is cut off. -/
theorem w_before (t s : ℕ) (h : s ≤ t) : H.w t s = ∑ k, H.q t k * H.kk s k * Real.exp (H.M (t + 1) k - H.M (s + 1) k) :=
  Finset.sum_congr rfl fun k _ => by
    have : H.M (t + 1) k ≤ H.M (s + 1) k := M_anti H k (by omega)
    rw [min_eq_left (by linarith)]

/-- What token `r` of a block of `L` takes from the state before the block and from the block's tokens up to it is its result. -/
theorem out_block (n L r : ℕ) (hr : r < L) (j : Fin 128) :
    ∑ k, ((H.q (n + r) k * Real.exp (H.M (n + r + 1) k - H.M n k) : ℝ) : EReal) * H.st n k j
        + ((∑ s ∈ Finset.range L, (if s ≤ r then H.w (n + r) (n + s) else 0) * H.v (n + s) j : ℝ) : EReal)
      = H.out (n + r) j := by
  have h1 : ∀ k, ((H.q (n + r) k * Real.exp (H.M (n + r + 1) k - H.M n k) : ℝ) : EReal) * H.st n k j
      = ((H.q (n + r) k * Real.exp (H.M (n + r + 1) k) : ℝ) : EReal) * H.s0 k j
        + ((H.q (n + r) k * Real.exp (H.M (n + r + 1) k - H.M n k) * H.C n k j : ℝ) : EReal) := fun k => by
    rw [Head.st, coe_mul_add, ← mul_assoc, ← EReal.coe_mul, mul_assoc (H.q (n + r) k), ← Real.exp_add, sub_add_cancel]
  have h2 : ∑ k, H.q (n + r) k * Real.exp (H.M (n + r + 1) k - H.M n k) * H.C n k j
      = ∑ s ∈ Finset.range n, H.w (n + r) s * H.v s j := by
    have e : ∀ s ∈ Finset.range n, H.w (n + r) s * H.v s j
        = ∑ k, H.q (n + r) k * Real.exp (H.M (n + r + 1) k - H.M n k) * (H.kk s k * Real.exp (H.M n k - H.M (s + 1) k) * H.v s j) := fun s hs => by
      have := Finset.mem_range.mp hs
      rw [w_before H _ _ (by omega), Finset.sum_mul]
      refine Finset.sum_congr rfl fun k _ => ?_
      rw [show H.M (n + r + 1) k - H.M (s + 1) k = (H.M (n + r + 1) k - H.M n k) + (H.M n k - H.M (s + 1) k) by ring, Real.exp_add]; ring
    rw [Finset.sum_congr rfl e, Finset.sum_comm]
    exact Finset.sum_congr rfl fun k _ => by rw [Head.C, Finset.mul_sum]
  have h3 : ∑ s ∈ Finset.range L, (if s ≤ r then H.w (n + r) (n + s) else 0) * H.v (n + s) j
      = ∑ s ∈ Finset.range (r + 1), H.w (n + r) (n + s) * H.v (n + s) j := by
    rw [← Finset.sum_subset (s₁ := Finset.range (r + 1)) (fun s hs => by simp only [Finset.mem_range] at *; omega)
      (fun s _ hs => by rw [if_neg (by simp only [Finset.mem_range] at hs; omega), zero_mul])]
    exact Finset.sum_congr rfl fun s hs => by rw [if_pos (by simp only [Finset.mem_range] at hs; omega)]
  rw [Finset.sum_congr rfl fun k _ => h1 k, sum_add_coe, h2, h3, add_assoc, ← EReal.coe_add, Head.out, add_assoc n r 1, Finset.sum_range_add _ n (r + 1)]

/-! ## The lower bounds of the gates, and the gates -/

/-- The second of two softmax weights. -/
def lb (x y : ℝ) : ℝ := Real.exp (y - max x y) / (Real.exp (x - max x y) + Real.exp (y - max x y))

theorem lb_nonneg (x y : ℝ) : 0 ≤ lb x y := by unfold lb; positivity
theorem lb_le_one (x y : ℝ) : lb x y ≤ 1 := by
  unfold lb
  rw [div_le_one (by positivity)]
  linarith [Real.exp_pos (x - max x y)]

/-- The logistic function of any extended real is a real number between zero and one. -/
theorem logistic_real (x : EReal) : ∃ r : ℝ, Ideal.logistic x = (r : EReal) ∧ 0 ≤ r ∧ r ≤ 1 := by
  induction x with
  | coe x =>
    refine ⟨(1 + Real.exp (-x))⁻¹, Ideal.logistic_coe x, by positivity, inv_le_one_of_one_le₀ (by linarith [Real.exp_pos (-x)])⟩
  | bot => exact ⟨0, by rw [Ideal.logistic, EReal.neg_bot, show Ideal.exp ⊤ = ⊤ from rfl, EReal.coe_zero, show (1 : EReal) + ⊤ = ⊤ from EReal.coe_add_top 1]; simp [Ideal.div], le_refl _, zero_le_one⟩
  | top => exact ⟨1, by rw [Ideal.logistic, EReal.neg_top, show Ideal.exp ⊥ = 0 from rfl, EReal.coe_one]; simp [Ideal.div], zero_le_one, le_refl _⟩

/-- The least gate the programs take the logarithm of. -/
abbrev least : EReal := Ideal.ofBits FTy.f32 0x0DA24260#32

theorem least_real : ∃ r : ℝ, least = (r : EReal) ∧ 0 < r ∧ r ≤ 1 := by
  simp only [least, Ideal.ofBits, Ideal.ieee]
  rw [if_neg (by decide), if_neg (by decide)]
  refine ⟨_, rfl, ?_, ?_⟩
  · rw [if_neg (by decide)]
    norm_num [Nat.shiftRight_eq_div_pow]
  · rw [if_neg (by decide)]
    norm_num [Nat.shiftRight_eq_div_pow]

/-- The logarithm of a gate is a real number that is not positive. -/
theorem gate_real (b : ℝ) (h0 : 0 ≤ b) (h1 : b ≤ 1) (x : EReal) :
    ∃ r : ℝ, Ideal.log (max ((b : EReal) + (1 - (b : EReal)) * Ideal.logistic x) least) = (r : EReal) ∧ r ≤ 0 := by
  obtain ⟨σ, e, s0, s1⟩ := logistic_real x
  obtain ⟨μ, em, m0, m1⟩ := least_real
  have h : max ((b : EReal) + (1 - (b : EReal)) * Ideal.logistic x) least = ((max (b + (1 - b) * σ) μ : ℝ) : EReal) := by
    rw [e, em, ← EReal.coe_one, ← EReal.coe_sub, ← EReal.coe_mul, ← EReal.coe_add]
    exact (EReal.coe_strictMono.monotone.map_max).symm
  have hp : 0 < max (b + (1 - b) * σ) μ := lt_max_of_lt_right m0
  rw [h, Ideal.log_coe, if_neg (not_le.mpr hp)]
  exact ⟨_, rfl, Real.log_nonpos hp.le (max_le (by nlinarith) m1)⟩

/-- A key is a real number. -/
theorem key_real (b : ℝ) (x : EReal) : ∃ r : ℝ, (1 - (b : EReal)) * Ideal.logistic x = (r : EReal) := by
  obtain ⟨σ, e, -⟩ := logistic_real x
  exact ⟨(1 - b) * σ, by rw [e, ← EReal.coe_one, ← EReal.coe_sub, ← EReal.coe_mul]⟩

/-- The lower bound as the programs compute it: two softmax weights summed, less the first. -/
theorem lb_coe (x y : ℝ) (μ : EReal) (hμ : μ = max (x : EReal) (y : EReal)) :
    Ideal.div (Ideal.exp ((x : EReal) - μ)) (Ideal.exp ((x : EReal) - μ) + Ideal.exp ((y : EReal) - μ))
        + Ideal.div (Ideal.exp ((y : EReal) - μ)) (Ideal.exp ((x : EReal) - μ) + Ideal.exp ((y : EReal) - μ))
      - Ideal.div (Ideal.exp ((x : EReal) - μ)) (Ideal.exp ((x : EReal) - μ) + Ideal.exp ((y : EReal) - μ))
      = ((lb x y : ℝ) : EReal) := by
  have hm : μ = ((max x y : ℝ) : EReal) := hμ.trans (EReal.coe_strictMono.monotone.map_max).symm
  have hp : Real.exp (x - max x y) + Real.exp (y - max x y) ≠ 0 := by positivity
  rw [hm, ← EReal.coe_sub, ← EReal.coe_sub, Ideal.exp_coe, Ideal.exp_coe, ← EReal.coe_add, Ideal.div_coe hp, Ideal.div_coe hp]
  rw [← EReal.coe_mul, ← EReal.coe_mul, ← EReal.coe_add, ← EReal.coe_sub, add_sub_cancel_left, lb, mul_one_div]

end Cert.Proof.HgrnMath

end
-- ==== Proof.HgrnBlock.lean ====
/- The blocks of sixteen tokens of the gated recurrence, read at an index: when a block's rows hold a head's tokens and the state is the
   head's before them, the block's result is those tokens' and the state after it is the head's after them. -/
module

public import proofs.«01_k».proof.Proof.HgrnBody
public import proofs.«01_k».proof.Proof.HgrnMath
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.HgrnIdeal Cert.HgrnIdeal.Gen
open Cert.Proof.HgrnMath

namespace Cert.Proof.Hgrn

theorem select_ge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [Scalar.select, h]

theorem row_at (s : Fin 16) (h : S16x128.Slices ![s.val, 0] S1x128) (x : V16) (r : Fin 16) (k : Fin 128) :
    row s.val h x (ix2 r k) = x (ix2 s k) := by
  pointwise [row]

theorem piece_at (s : Fin 16) (h : S16x128.Slices ![s.val, 0] S1x128) (bl q k : V16) (r : Fin 16) (x : Fin 128) :
    piece s.val h bl q k (ix2 r x)
      = if s.val ≤ r.val then q (ix2 r x) * k (ix2 s x) * Ideal.exp (min (bl (ix2 r x) - bl (ix2 s x)) 0) else 0 := by
  have h1 := row_at s h k r x
  have h2 := row_at s h bl r x
  pointwise [piece]
  rw [h1, h2, select_ge _ _ (by omega) (by omega)]

/-- A block's rows begin anywhere in it. -/
theorem slice_row (s : Fin 16) : S16x128.Slices ![s.val, 0] S1x128 := by
  revert s; decide

/-- The pieces of the weights, one token's rows after another's. -/
def pieces (bl q k : V16) (s : Fin 16) : V16 := piece s.val (slice_row s) bl q k

/-- All of them, one below the other. -/
def stacked (bl q k : V16) : FVec Ideal S256x128 .f32 :=
  concatenate S256x128 0 (List.ofFn fun n : Fin 16 => (⟨S16x128, pieces bl q k n⟩ : (s : Shape) × (s.Idx → EReal)))
    concatenates_S16x128_S16x128_S16x128_S16x128_S16x128_S16x128_S16x128_S16x128_S16x128_S16x128_S16x128_S16x128_S16x128_S16x128_S16x128_S16x128_S256x128_d0

theorem weights_eq (bl q k : V16) : weights bl q k
    = matmul dot_S256x128_S128x128_S256x128_1_0_0_1_n_n none (truncf .bf16 (stacked bl q k) bitsLt_bf16_f32) k0_pay14
        (constant S256x128 .f32 0x00000000#32) := rfl

theorem weights_at (bl q k : V16) (s r : Fin 16) (j : Fin 128) :
    weights bl q k (ix2 ⟨16 * s.val + r.val, by omega⟩ j)
      = ∑ x : Fin 128, if s.val ≤ r.val then q (ix2 r x) * k (ix2 s x) * Ideal.exp (min (bl (ix2 r x) - bl (ix2 s x)) 0) else 0 := by
  have hc : ∀ x : Fin 128, stacked bl q k (ix2 ⟨16 * s.val + r.val, by omega⟩ x) = pieces bl q k s (ix2 r x) := fun x => by
    refine concatenate_ofFn_apply (t := S256x128) 0 (pieces bl q k) _ rfl 16 rfl _ s ?_ (ix2 r x) ?_ fun b hb => ?_
    · show (16 * s.val + r.val) / 16 = s.val
      omega
    · show r.val = (16 * s.val + r.val) % 16
      omega
    · match b with
      | ⟨0, _⟩ => exact absurd rfl hb
      | ⟨1, _⟩ => rfl
  rw [← Finset.sum_congr rfl fun x _ => piece_at s (slice_row s) bl q k r x]
  refine Eq.trans ?_ (Finset.sum_congr rfl fun x _ => hc x)
  rw [weights_eq]
  pointwise [k0_pay14]

theorem share_at (s : Fin 16) (h : S256x128.Slices ![16 * s.val, 0] S16x128) (h' : S16x128.Slices ![s.val, 0] S1x128)
    (a : FVec Ideal S256x128 .f32) (v : V16) (r : Fin 16) (j : Fin 128) :
    share s.val h h' a v (ix2 r j) = a (ix2 ⟨16 * s.val + r.val, by omega⟩ j) * v (ix2 s j) := by
  have h1 := row_at s h' v r j
  pointwise [share]
  rw [h1]

theorem within_at (a : FVec Ideal S256x128 .f32) (v : V16) (r : Fin 16) (j : Fin 128) :
    within a v (ix2 r j) = ∑ s : Fin 16, a (ix2 ⟨16 * s.val + r.val, by omega⟩ j) * v (ix2 s j) := by
  have e0 := share_at 0 slices_S256x128_o0_0_S16x128 slices_S16x128_o0_0_S1x128 a v r j
  have e1 := share_at 1 slices_S256x128_o16_0_S16x128 slices_S16x128_o1_0_S1x128 a v r j
  have e2 := share_at 2 slices_S256x128_o32_0_S16x128 slices_S16x128_o2_0_S1x128 a v r j
  have e3 := share_at 3 slices_S256x128_o48_0_S16x128 slices_S16x128_o3_0_S1x128 a v r j
  have e4 := share_at 4 slices_S256x128_o64_0_S16x128 slices_S16x128_o4_0_S1x128 a v r j
  have e5 := share_at 5 slices_S256x128_o80_0_S16x128 slices_S16x128_o5_0_S1x128 a v r j
  have e6 := share_at 6 slices_S256x128_o96_0_S16x128 slices_S16x128_o6_0_S1x128 a v r j
  have e7 := share_at 7 slices_S256x128_o112_0_S16x128 slices_S16x128_o7_0_S1x128 a v r j
  have e8 := share_at 8 slices_S256x128_o128_0_S16x128 slices_S16x128_o8_0_S1x128 a v r j
  have e9 := share_at 9 slices_S256x128_o144_0_S16x128 slices_S16x128_o9_0_S1x128 a v r j
  have e10 := share_at 10 slices_S256x128_o160_0_S16x128 slices_S16x128_o10_0_S1x128 a v r j
  have e11 := share_at 11 slices_S256x128_o176_0_S16x128 slices_S16x128_o11_0_S1x128 a v r j
  have e12 := share_at 12 slices_S256x128_o192_0_S16x128 slices_S16x128_o12_0_S1x128 a v r j
  have e13 := share_at 13 slices_S256x128_o208_0_S16x128 slices_S16x128_o13_0_S1x128 a v r j
  have e14 := share_at 14 slices_S256x128_o224_0_S16x128 slices_S16x128_o14_0_S1x128 a v r j
  have e15 := share_at 15 slices_S256x128_o240_0_S16x128 slices_S16x128_o15_0_S1x128 a v r j
  simp only [Fin.sum_univ_castSucc, Fin.sum_univ_zero, zero_add]
  refine Eq.trans ?_ ((congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) e0 e1) e2) e3) e4) e5) e6) e7) e8) e9) e10) e11) e12) e13) e14) e15))
  pointwise [within]

theorem before_at (st : V128) (bl q : V16) (r : Fin 16) (j : Fin 128) :
    before st bl q (ix2 r j) = ∑ k : Fin 128, q (ix2 r k) * Ideal.exp (bl (ix2 r k)) * st (ix2 j k) := by
  pointwise [before]

/-- One on the diagonal, zero elsewhere. -/
theorem eye_at (r c : Fin 128) : k0_pay13 (F := Ideal) (ix2 r c) = if r = c then 1 else 0 := by
  pointwise [k0_pay13]
  rw [WordCmp.cmpi_eq_ofNat (by omega) (by omega)]
  by_cases h : r = c
  · simp [Scalar.select, h]
  · simp [Scalar.select, h, Fin.val_inj]

theorem next_at (st : V128) (bl k v : V16) (j x : Fin 128) :
    next st bl k v (ix2 j x) = st (ix2 j x) * Ideal.exp (bl (ix2 15 x))
      + ∑ s : Fin 16, v (ix2 s j) * (k (ix2 s x) * Ideal.exp (bl (ix2 15 x) - bl (ix2 s x))) := by
  have h : ∀ s : Fin 16, ∑ c : Fin 128, k0_pay13 (F := Ideal) (ix2 j c) * v (ix2 s c) = v (ix2 s j) := fun s => by
    simp only [eye_at, ite_mul, one_mul, zero_mul, Finset.sum_ite_eq, Finset.mem_univ, if_true]
  pointwise [next, last]
  simp only [h]

/-! ## A block that holds a head's tokens -/

variable (H : Head)

/-- The rows hold the tokens from `n` on: the gates' logarithms summed from `n`, the queries, the keys, the values. -/
structure Holds (n : ℕ) (bl q k v : V16) : Prop where
  bl : ∀ (r : Fin 16) (x : Fin 128), bl (ix2 r x) = ((H.M (n + r.val + 1) x - H.M n x : ℝ) : EReal)
  q : ∀ (r : Fin 16) (x : Fin 128), q (ix2 r x) = (H.q (n + r.val) x : EReal)
  k : ∀ (r : Fin 16) (x : Fin 128), k (ix2 r x) = (H.kk (n + r.val) x : EReal)
  v : ∀ (r : Fin 16) (x : Fin 128), v (ix2 r x) = (H.v (n + r.val) x : EReal)

variable {H}

theorem coe_min (a : ℝ) : min (a : EReal) 0 = ((min a 0 : ℝ) : EReal) := by
  rw [← EReal.coe_zero]
  exact (EReal.coe_strictMono.monotone.map_min).symm

theorem weights_real {n : ℕ} {bl q k v : V16} (hh : Holds H n bl q k v) (s r : Fin 16) (j : Fin 128) :
    weights bl q k (ix2 ⟨16 * s.val + r.val, by omega⟩ j)
      = ((if s.val ≤ r.val then H.w (n + r.val) (n + s.val) else 0 : ℝ) : EReal) := by
  rw [weights_at]
  by_cases h : s.val ≤ r.val
  · simp only [if_pos h]
    rw [Head.w, ← SbMath.coe_sum]
    refine Finset.sum_congr rfl fun x _ => ?_
    rw [hh.q, hh.k, hh.bl, hh.bl, ← EReal.coe_sub, coe_min, Ideal.exp_coe, ← EReal.coe_mul, ← EReal.coe_mul]
    rw [show H.M (n + r.val + 1) x - H.M n x - (H.M (n + s.val + 1) x - H.M n x) = H.M (n + r.val + 1) x - H.M (n + s.val + 1) x by ring]
  · simp only [if_neg h, Finset.sum_const_zero, EReal.coe_zero]

/-- The block's result is its tokens'. -/
theorem result_out {n : ℕ} {bl q k v : V16} (hh : Holds H n bl q k v) (st : V128)
    (hst : ∀ j x : Fin 128, st (ix2 j x) = H.st n x j) (r : Fin 16) (j : Fin 128) :
    result st bl q k v (ix2 r j) = H.out (n + r.val) j := by
  have h1 := before_at st bl q r j
  have h2 := within_at (weights bl q k) v r j
  rw [← out_block H n 16 r.val r.isLt j]
  refine Eq.trans (b := before st bl q (ix2 r j) + within (weights bl q k) v (ix2 r j)) ?_ (congrArg₂ (· + ·) ?_ ?_)
  · pointwise [result]
  · rw [h1]
    refine Finset.sum_congr rfl fun x _ => ?_
    rw [hh.q, hh.bl, hst, Ideal.exp_coe, ← EReal.coe_mul]
  · rw [h2, Finset.sum_range, ← SbMath.coe_sum]
    refine Finset.sum_congr rfl fun s _ => ?_
    rw [weights_real hh, hh.v, ← EReal.coe_mul]

/-- The state after the block. -/
theorem next_state {n : ℕ} {bl q k v : V16} (hh : Holds H n bl q k v) (st : V128)
    (hst : ∀ j x : Fin 128, st (ix2 j x) = H.st n x j) (j x : Fin 128) :
    next st bl k v (ix2 j x) = H.st (n + 16) x j := by
  have hl : bl (ix2 15 x) = ((H.M (n + 16) x - H.M n x : ℝ) : EReal) := hh.bl 15 x
  rw [next_at, ← st_step H n 16 x j, hst, hl, Ideal.exp_coe, Finset.sum_range, ← SbMath.coe_sum]
  refine congrArg₂ (· + ·) rfl (Finset.sum_congr rfl fun s _ => ?_)
  rw [hh.v, hh.k, hh.bl, ← EReal.coe_sub, Ideal.exp_coe, ← EReal.coe_mul, ← EReal.coe_mul]

end Cert.Proof.Hgrn

end
-- ==== Proof.HgrnChunk.lean ====
/- The chunks of 128 tokens of the gated recurrence, read at an index: the gates' logarithms summed within each block, the state after
   the chunk, the chunk's result, and its norm and gate. -/
module

public import proofs.«01_k».proof.Proof.HgrnBlock
public import Idealize.ShloMosaic.Lib.Pointwise
public import Idealize.ShloMosaic.Lib.WordCmp
public import Idealize.ShloMosaic.Lib.KernelVsHost

@[expose] public section

set_option maxRecDepth 16384

noncomputable section

open Idealize.ShloMosaic Idealize.ShloMosaic.TcCoe Idealize.SL.Sem
open Cert.HgrnIdeal Cert.HgrnIdeal.Gen
open Cert.Proof.HgrnMath

namespace Cert.Proof.Hgrn

theorem select_eq {α : Type} (a b : ℕ) (ha : a < 2 ^ 31) (hb : b < 2 ^ 31) (x y : α) :
    Scalar.select (IntOp.cmpi .eq (BitVec.ofNat 32 a) (BitVec.ofNat 32 b)) x y = if a = b then x else y := by
  rw [WordCmp.cmpi_eq_ofNat (by omega) (by omega)]
  by_cases h : a = b <;> simp [Scalar.select, h]

theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

/-- The block a row of the chunk is in. -/
theorem shift4 (u : ArithUnit) (a : Fin 128) : IntOp.shrsi u (BitVec.ofNat 32 a.val) 4#32 = BitVec.ofNat 32 (a.val / 16) := by
  rw [shrsi_unit u .vector]
  revert a; decide

/-! ## The sums within the blocks -/

/-- A product with a matrix of reals, taken in a high part, the part that rounding lost, and the part that rounding lost of that (the
    two of them zero here). -/
theorem split3 (μ f : Fin 128 → ℝ) :
    ∑ u, (μ u : EReal) * (f u : EReal) + ∑ u, (μ u : EReal) * ((f u : EReal) - (f u : EReal))
        + ∑ u, (μ u : EReal) * ((f u : EReal) - (f u : EReal) - ((f u : EReal) - (f u : EReal)))
      = ((∑ u, μ u * f u : ℝ) : EReal) := by
  have h : ∀ u, (f u : EReal) - (f u : EReal) = 0 := fun u => by rw [← EReal.coe_sub, sub_self, EReal.coe_zero]
  simp only [h, sub_self, sub_zero, mul_zero, Finset.sum_const_zero, add_zero]
  rw [← SbMath.coe_sum]
  exact Finset.sum_congr rfl fun u _ => (EReal.coe_mul _ _).symm

theorem pay12_at (x : V128) (f : Fin 128 → ℝ) (r c : Fin 128) (hf : ∀ u : Fin 128, x (ix2 u c) = (f u : EReal)) :
    k0_pay12 x (ix2 r c) = ((∑ u : Fin 128, (if r.val / 16 = u.val / 16 then if u.val ≤ r.val then 1 else 0 else 0 : ℝ) * f u : ℝ) : EReal) := by
  rw [← split3]
  have hs : ∀ (u : Fin 128) (y : EReal), Scalar.select (IntOp.cmpi .eq (BitVec.ofNat 32 (r.val / 16)) (BitVec.ofNat 32 (u.val / 16)))
      (Scalar.select (IntOp.cmpi .sle (BitVec.ofNat 32 u.val) (BitVec.ofNat 32 r.val)) y 0) 0
      = ((if r.val / 16 = u.val / 16 then if u.val ≤ r.val then 1 else 0 else 0 : ℝ) : EReal) * y := fun u y => by
    rw [select_eq _ _ (by omega) (by omega), select_le _ _ (by omega) (by omega)]
    split <;> [split <;> simp; simp]
  pointwise [k0_pay12]
  simp only [shift4, hf, hs]

theorem block_sum (f : ℕ → ℝ) (r : Fin 128) :
    ∑ u : Fin 128, (if r.val / 16 = u.val / 16 then if u.val ≤ r.val then 1 else 0 else 0 : ℝ) * f u.val
      = ∑ u ∈ Finset.range (r.val % 16 + 1), f (16 * (r.val / 16) + u) := by
  have hr := r.isLt
  rw [← Finset.sum_range (n := 128) (fun u => (if r.val / 16 = u / 16 then if u ≤ r.val then 1 else 0 else 0 : ℝ) * f u)]
  have h : ∀ u ∈ Finset.range 128, (if r.val / 16 = u / 16 then if u ≤ r.val then 1 else 0 else 0 : ℝ) * f u
      = if u ∈ Finset.Ico (16 * (r.val / 16)) (r.val + 1) then f u else 0 := fun u _ => by
    simp only [Finset.mem_Ico]
    by_cases h1 : r.val / 16 = u / 16
    · by_cases h2 : u ≤ r.val
      · rw [if_pos h1, if_pos h2, if_pos (by omega), one_mul]
      · rw [if_pos h1, if_neg h2, if_neg (by omega), zero_mul]
    · rw [if_neg h1, if_neg (by omega), zero_mul]
  rw [Finset.sum_congr rfl h, Finset.sum_ite_mem, Finset.inter_eq_right.mpr (fun u hu => by
    simp only [Finset.mem_Ico, Finset.mem_range] at *; omega), Finset.sum_Ico_eq_sum_range]
  rw [show r.val + 1 - 16 * (r.val / 16) = r.val % 16 + 1 by omega]

/-! ## A chunk that holds a head's tokens -/

variable (H : Head)

/-- The rows hold the tokens from `n` on: the gates' logarithms, the queries, the keys, the values. -/
structure Chunk (n : ℕ) (bl q k v : V128) : Prop where
  bl : ∀ r x : Fin 128, bl (ix2 r x) = ((H.M (n + r.val + 1) x - H.M (n + 16 * (r.val / 16)) x : ℝ) : EReal)
  q : ∀ r x : Fin 128, q (ix2 r x) = (H.q (n + r.val) x : EReal)
  k : ∀ r x : Fin 128, k (ix2 r x) = (H.kk (n + r.val) x : EReal)
  v : ∀ r x : Fin 128, v (ix2 r x) = (H.v (n + r.val) x : EReal)

/-- The logarithms of the gates, summed within each block. -/
theorem sums_at (x : V128) (n : ℕ) (hx : ∀ r c : Fin 128, x (ix2 r c) = (H.lf (n + r.val) c : EReal)) (r c : Fin 128) :
    k0_pay12 x (ix2 r c) = ((H.M (n + r.val + 1) c - H.M (n + 16 * (r.val / 16)) c : ℝ) : EReal) := by
  have h := M_block H (n + 16 * (r.val / 16)) (r.val % 16 + 1) c
  rw [show n + 16 * (r.val / 16) + (r.val % 16 + 1) = n + r.val + 1 by omega] at h
  rw [pay12_at x (fun u => H.lf (n + u.val) c) r c fun u => hx u c, block_sum (fun u => H.lf (n + u) c), h]
  simp only [add_assoc]

variable {H}

theorem cut_at (n : ℕ) (h : S128x128.Slices ![n, 0] S16x128) (hn : n + 16 ≤ 128) (x : V128) (r : Fin 16) (k : Fin 128) :
    cut n h x (ix2 r k) = x (ix2 ⟨n + r.val, by omega⟩ k) := by
  pointwise [cut]

theorem holds {n : ℕ} {bl q k v : V128} (hc : Chunk H n bl q k v) (i : ℕ) (hi : i < 8) (h : S128x128.Slices ![16 * i, 0] S16x128) :
    Holds H (n + 16 * i) (cut (16 * i) h bl) (cut (16 * i) h q) (cut (16 * i) h k) (cut (16 * i) h v) where
  bl r x := by
    rw [cut_at _ h (by omega), hc.bl]
    rw [show n + (16 * i + r.val) + 1 = n + 16 * i + r.val + 1 by omega, show (16 * i + r.val) / 16 = i by omega]
  q r x := by rw [cut_at _ h (by omega), hc.q, ← Nat.add_assoc]
  k r x := by rw [cut_at _ h (by omega), hc.k, ← Nat.add_assoc]
  v r x := by rw [cut_at _ h (by omega), hc.v, ← Nat.add_assoc]

section
variable {n : ℕ} {bl q k v : V128} (hc : Chunk H n bl q k v) (st : V128) (hst : ∀ j x : Fin 128, st (ix2 j x) = H.st n x j)
include hc hst

theorem state1_at (j x : Fin 128) : state1 st bl k v (ix2 j x) = H.st (n + 16) x j :=
  next_state (holds hc 0 (by omega) slices_S128x128_o0_0_S16x128) st hst j x

theorem state2_at (j x : Fin 128) : state2 st bl k v (ix2 j x) = H.st (n + 32) x j :=
  next_state (holds hc 1 (by omega) slices_S128x128_o16_0_S16x128) (state1 st bl k v) (state1_at hc st hst) j x

theorem state3_at (j x : Fin 128) : state3 st bl k v (ix2 j x) = H.st (n + 48) x j :=
  next_state (holds hc 2 (by omega) slices_S128x128_o32_0_S16x128) (state2 st bl k v) (state2_at hc st hst) j x

theorem state4_at (j x : Fin 128) : state4 st bl k v (ix2 j x) = H.st (n + 64) x j :=
  next_state (holds hc 3 (by omega) slices_S128x128_o48_0_S16x128) (state3 st bl k v) (state3_at hc st hst) j x

theorem state5_at (j x : Fin 128) : state5 st bl k v (ix2 j x) = H.st (n + 80) x j :=
  next_state (holds hc 4 (by omega) slices_S128x128_o64_0_S16x128) (state4 st bl k v) (state4_at hc st hst) j x

theorem state6_at (j x : Fin 128) : state6 st bl k v (ix2 j x) = H.st (n + 96) x j :=
  next_state (holds hc 5 (by omega) slices_S128x128_o80_0_S16x128) (state5 st bl k v) (state5_at hc st hst) j x

theorem state7_at (j x : Fin 128) : state7 st bl k v (ix2 j x) = H.st (n + 112) x j :=
  next_state (holds hc 6 (by omega) slices_S128x128_o96_0_S16x128) (state6 st bl k v) (state6_at hc st hst) j x

theorem state8_at (j x : Fin 128) : state8 st bl k v (ix2 j x) = H.st (n + 128) x j :=
  next_state (holds hc 7 (by omega) slices_S128x128_o112_0_S16x128) (state7 st bl k v) (state7_at hc st hst) j x

/-- The chunk's result is its tokens'. -/
theorem chunk_out (r j : Fin 128) : chunk st bl q k v (ix2 r j) = H.out (n + r.val) j := by
  let f : Fin 8 → V16 := ![
    result st (cut 0 slices_S128x128_o0_0_S16x128 bl) (cut 0 slices_S128x128_o0_0_S16x128 q) (cut 0 slices_S128x128_o0_0_S16x128 k) (cut 0 slices_S128x128_o0_0_S16x128 v),
    result (state1 st bl k v) (cut 16 slices_S128x128_o16_0_S16x128 bl) (cut 16 slices_S128x128_o16_0_S16x128 q) (cut 16 slices_S128x128_o16_0_S16x128 k) (cut 16 slices_S128x128_o16_0_S16x128 v),
    result (state2 st bl k v) (cut 32 slices_S128x128_o32_0_S16x128 bl) (cut 32 slices_S128x128_o32_0_S16x128 q) (cut 32 slices_S128x128_o32_0_S16x128 k) (cut 32 slices_S128x128_o32_0_S16x128 v),
    result (state3 st bl k v) (cut 48 slices_S128x128_o48_0_S16x128 bl) (cut 48 slices_S128x128_o48_0_S16x128 q) (cut 48 slices_S128x128_o48_0_S16x128 k) (cut 48 slices_S128x128_o48_0_S16x128 v),
    result (state4 st bl k v) (cut 64 slices_S128x128_o64_0_S16x128 bl) (cut 64 slices_S128x128_o64_0_S16x128 q) (cut 64 slices_S128x128_o64_0_S16x128 k) (cut 64 slices_S128x128_o64_0_S16x128 v),
    result (state5 st bl k v) (cut 80 slices_S128x128_o80_0_S16x128 bl) (cut 80 slices_S128x128_o80_0_S16x128 q) (cut 80 slices_S128x128_o80_0_S16x128 k) (cut 80 slices_S128x128_o80_0_S16x128 v),
    result (state6 st bl k v) (cut 96 slices_S128x128_o96_0_S16x128 bl) (cut 96 slices_S128x128_o96_0_S16x128 q) (cut 96 slices_S128x128_o96_0_S16x128 k) (cut 96 slices_S128x128_o96_0_S16x128 v),
    result (state7 st bl k v) (cut 112 slices_S128x128_o112_0_S16x128 bl) (cut 112 slices_S128x128_o112_0_S16x128 q) (cut 112 slices_S128x128_o112_0_S16x128 k) (cut 112 slices_S128x128_o112_0_S16x128 v)]
  have hf : ∀ (i : Fin 8) (s : Fin 16), f i (ix2 s j) = H.out (n + 16 * i.val + s.val) j := fun i s => by
    match i with
    | ⟨0, _⟩ => exact result_out (holds hc 0 (by omega) slices_S128x128_o0_0_S16x128) st hst s j
    | ⟨1, _⟩ => exact result_out (holds hc 1 (by omega) slices_S128x128_o16_0_S16x128) (state1 st bl k v) (state1_at hc st hst) s j
    | ⟨2, _⟩ => exact result_out (holds hc 2 (by omega) slices_S128x128_o32_0_S16x128) (state2 st bl k v) (state2_at hc st hst) s j
    | ⟨3, _⟩ => exact result_out (holds hc 3 (by omega) slices_S128x128_o48_0_S16x128) (state3 st bl k v) (state3_at hc st hst) s j
    | ⟨4, _⟩ => exact result_out (holds hc 4 (by omega) slices_S128x128_o64_0_S16x128) (state4 st bl k v) (state4_at hc st hst) s j
    | ⟨5, _⟩ => exact result_out (holds hc 5 (by omega) slices_S128x128_o80_0_S16x128) (state5 st bl k v) (state5_at hc st hst) s j
    | ⟨6, _⟩ => exact result_out (holds hc 6 (by omega) slices_S128x128_o96_0_S16x128) (state6 st bl k v) (state6_at hc st hst) s j
    | ⟨7, _⟩ => exact result_out (holds hc 7 (by omega) slices_S128x128_o112_0_S16x128) (state7 st bl k v) (state7_at hc st hst) s j
  have hr : n + r.val = n + 16 * (r.val / 16) + r.val % 16 := by omega
  rw [hr]
  refine Eq.trans ?_ (hf ⟨r.val / 16, by omega⟩ ⟨r.val % 16, by omega⟩)
  refine concatenate_ofFn_apply (t := S128x128) 0 f _ rfl 16 rfl _ ⟨r.val / 16, by omega⟩ rfl (ix2 ⟨r.val % 16, by omega⟩ j) rfl fun b hb => ?_
  match b with
  | ⟨0, _⟩ => exact absurd rfl hb
  | ⟨1, _⟩ => rfl
end

/-- The norm over the head's channels, the scale, and the gate. -/
theorem gated_at (o : V128) (w : FVec Ideal S1x128 .f32) (g : FVec Ideal S1x128x128 .f32) (r j : Fin 128) :
    gated o w g (ix3 0 r j)
      = o (ix2 r j) * Ideal.rsqrt (Ideal.div (∑ x : Fin 128, o (ix2 r x) * o (ix2 r x)) (Ideal.ofBits FTy.f32 0x43000000#32)
            + Ideal.ofBits FTy.f32 0x3727C5AC#32) * w (ix2 0 j)
          * (g (ix3 0 r j) * Ideal.logistic (g (ix3 0 r j))) := by
  pointwise [gated, k0_pay1, k0_pay298]

end Cert.Proof.Hgrn

end
-- ==== Proof.HgrnHead.lean ====
/- The gated recurrence's heads: what one head reads of the argument arrays, the two result arrays, and that the kernel's blocks
   hold a head's tokens. -/
module

public import proofs.«01_k».proof.Proof.HgrnChunk
public import Idealize.ShloMosaic.Lib.Pointwise

@[expose] public section

set_option maxRecDepth 16384

noncomputable section

open Idealize.ShloMosaic Idealize.ShloMosaic.TcCoe Idealize.SL.Sem
open Cert.HgrnIdeal Cert.HgrnIdeal.Gen
open Cert.Proof.HgrnMath

namespace Cert.Proof.Hgrn

/-- The projected input, the lower bounds' logits, the initial states, the norm's scale. -/
abbrev Proj : Type := FVec Ideal S4x4096x5632 .f32
abbrev Lbs : Type := FVec Ideal S2x512 .f32
abbrev States : Type := FVec Ideal S4x4x128x128 .f32
abbrev Scale : Type := FVec Ideal S128 .f32

/-- The queries, the values and the lower bounds' logits are finite. -/
structure Fins (A : Proj) (L : Lbs) : Prop where
  q : ∀ (b : Fin 4) (t : Fin 4096) (e : Fin 512), ∃ r : ℝ, A (ix3 b t ⟨e.val, by omega⟩) = (r : EReal)
  v : ∀ (b : Fin 4) (t : Fin 4096) (e : Fin 512), ∃ r : ℝ, A (ix3 b t ⟨1024 + e.val, by omega⟩) = (r : EReal)
  l : ∀ (i : Fin 2) (e : Fin 512), ∃ r : ℝ, L (ix2 i e) = (r : EReal)

/-- Channel `x` of head `h`, among the 512 of all heads. -/
abbrev ch (h : Fin 4) (x : Fin 128) : Fin 512 := ⟨h.val * 128 + x.val, by omega⟩

/-- Token `n`. -/
abbrev tok (n : ℕ) : Fin 4096 := ⟨n % 4096, by omega⟩

theorem tok_eq (n : ℕ) (h : n < 4096) : tok n = ⟨n, h⟩ := Fin.ext (Nat.mod_eq_of_lt h)

/-- The lower bound of a channel's gate. -/
def low (L : Lbs) (e : Fin 512) : ℝ := lb (L (ix2 0 e)).toReal (L (ix2 1 e)).toReal

/-- The logarithm of a channel's gate, from its logit. -/
def gate (L : Lbs) (e : Fin 512) (x : EReal) : EReal := Ideal.log (max ((low L e : EReal) + (1 - (low L e : EReal)) * Ideal.logistic x) least)

/-- A channel's key, from the gate's logit. -/
def key (L : Lbs) (e : Fin 512) (x : EReal) : EReal := (1 - (low L e : EReal)) * Ideal.logistic (-x)

theorem low_nonneg (L : Lbs) (e : Fin 512) : 0 ≤ low L e := lb_nonneg _ _
theorem low_le_one (L : Lbs) (e : Fin 512) : low L e ≤ 1 := lb_le_one _ _

theorem gate_coe (L : Lbs) (e : Fin 512) (x : EReal) : gate L e x = ((gate L e x).toReal : EReal) := by
  obtain ⟨r, hr, -⟩ := gate_real (low L e) (low_nonneg L e) (low_le_one L e) x
  rw [show gate L e x = (r : EReal) from hr, EReal.toReal_coe]

theorem gate_nonpos (L : Lbs) (e : Fin 512) (x : EReal) : (gate L e x).toReal ≤ 0 := by
  obtain ⟨r, hr, h⟩ := gate_real (low L e) (low_nonneg L e) (low_le_one L e) x
  rw [show gate L e x = (r : EReal) from hr, EReal.toReal_coe]; exact h

theorem key_coe (L : Lbs) (e : Fin 512) (x : EReal) : key L e x = ((key L e x).toReal : EReal) := by
  obtain ⟨r, hr⟩ := key_real (low L e) (-x)
  rw [show key L e x = (r : EReal) from hr, EReal.toReal_coe]

/-- Head `h` of batch row `b`. -/
def headOf (A : Proj) (L : Lbs) (S : States) (b h : Fin 4) : Head where
  lf n x := (gate L (ch h x) (A (ix3 b (tok n) ⟨512 + (ch h x).val, by omega⟩))).toReal
  kk n x := (key L (ch h x) (A (ix3 b (tok n) ⟨512 + (ch h x).val, by omega⟩))).toReal
  q n x := (A (ix3 b (tok n) ⟨(ch h x).val, by omega⟩)).toReal
  v n x := (A (ix3 b (tok n) ⟨1024 + (ch h x).val, by omega⟩)).toReal
  s0 k j := S (ix4 b h k j)
  neg n x := gate_nonpos _ _ _

/-- The norm over a head's channels, the scale and the gate. -/
def fin (o : Fin 128 → EReal) (w g : EReal) (j : Fin 128) : EReal :=
  o j * Ideal.rsqrt (Ideal.div (∑ x : Fin 128, o x * o x) (Ideal.ofBits FTy.f32 0x43000000#32) + Ideal.ofBits FTy.f32 0x3727C5AC#32) * w
    * (g * Ideal.logistic g)

/-- The first result: every token's, in each of its head's channels. -/
def outs (A : Proj) (L : Lbs) (S : States) (W : Scale) : FVec Ideal S4x4096x512 .f32 := fun i =>
  fin ((headOf A L S (i 0) ⟨(i 2).val / 128, by have := (i 2).isLt; change (i 2).val < 512 at this; omega⟩).out (i 1).val)
    (W (ix1 ⟨(i 2).val % 128, by omega⟩)) (A (ix3 (i 0) (i 1) ⟨1536 + (i 2).val, by have := (i 2).isLt; change (i 2).val < 512 at this; omega⟩))
    ⟨(i 2).val % 128, by omega⟩

/-- The second result: every head's state after all tokens. -/
def sts (A : Proj) (L : Lbs) (S : States) : FVec Ideal S4x4x128x128 .f32 := fun i => (headOf A L S (i 0) (i 1)).st 4096 (i 2) (i 3)

theorem low_of (A : Proj) (L : Lbs) (hA : Fins A L) (e : Fin 512) (μ : EReal) (hμ : μ = max (L (ix2 0 e)) (L (ix2 1 e))) :
    Ideal.div (Ideal.exp (L (ix2 0 e) - μ)) (Ideal.exp (L (ix2 0 e) - μ) + Ideal.exp (L (ix2 1 e) - μ))
        + Ideal.div (Ideal.exp (L (ix2 1 e) - μ)) (Ideal.exp (L (ix2 0 e) - μ) + Ideal.exp (L (ix2 1 e) - μ))
      - Ideal.div (Ideal.exp (L (ix2 0 e) - μ)) (Ideal.exp (L (ix2 0 e) - μ) + Ideal.exp (L (ix2 1 e) - μ))
      = ((low L e : ℝ) : EReal) := by
  obtain ⟨x, hx⟩ := hA.l 0 e
  obtain ⟨y, hy⟩ := hA.l 1 e
  have h := lb_coe x y μ (by rw [← hx, ← hy]; exact hμ)
  rw [low, hx, hy, EReal.toReal_coe, EReal.toReal_coe]
  exact h

/-- The largest of two, as a reduction computes it. -/
theorem fold_two (f : Fin 2 → EReal) : Finset.fold max (Ideal.ofBits FTy.f32 0xFF800000#32) f Finset.univ = max (f 0) (f 1) := by
  have hb : Ideal.ofBits FTy.f32 0xFF800000#32 = ⊥ := by
    simp only [Ideal.ofBits, Ideal.ieee]
    rw [if_pos (by decide), if_pos (by decide), if_pos (by decide)]
  rw [show (Finset.univ : Finset (Fin 2)) = insert 0 {1} from rfl, Finset.fold_insert (by decide), Finset.fold_singleton, hb, max_bot_right]

/-! ## The kernel's blocks -/

theorem pay4_at (x4 : FVec Ideal S2x128 .f32) (x : Fin 128) :
    ∃ μ : EReal, μ = max (x4 (ix2 0 x)) (x4 (ix2 1 x)) ∧ k0_pay4 (F := Ideal) x4 (ix2 0 x)
      = Ideal.div (Ideal.exp (x4 (ix2 0 x) - μ)) (Ideal.exp (x4 (ix2 0 x) - μ) + Ideal.exp (x4 (ix2 1 x) - μ))
        + Ideal.div (Ideal.exp (x4 (ix2 1 x) - μ)) (Ideal.exp (x4 (ix2 0 x) - μ) + Ideal.exp (x4 (ix2 1 x) - μ))
      - Ideal.div (Ideal.exp (x4 (ix2 0 x) - μ)) (Ideal.exp (x4 (ix2 0 x) - μ) + Ideal.exp (x4 (ix2 1 x) - μ)) := by
  refine ⟨Finset.fold max (Ideal.ofBits FTy.f32 0xFF800000#32) (fun i => x4 (ix2 i x)) Finset.univ, fold_two _, ?_⟩
  rw [← Fin.sum_univ_two fun i => Ideal.exp (x4 (ix2 i x) - _)]
  pointwise [k0_pay4]

theorem pay8_at (x4 : FVec Ideal S2x128 .f32) (x1 : FVec Ideal S1x128x128 .f32) (r x : Fin 128) :
    k0_pay8 (F := Ideal) x4 x1 (ix2 r x)
      = Ideal.log (max (k0_pay4 (F := Ideal) x4 (ix2 0 x) + (1 - k0_pay4 (F := Ideal) x4 (ix2 0 x)) * Ideal.logistic (x1 (ix3 0 r x))) least) := by
  pointwise [k0_pay8, k0_pay6]

theorem keys_at (x1 : FVec Ideal S1x128x128 .f32) (x4 : FVec Ideal S2x128 .f32) (r x : Fin 128) :
    keys x1 x4 (ix2 r x) = (1 - k0_pay4 (F := Ideal) x4 (ix2 0 x)) * Ideal.logistic (-(x1 (ix3 0 r x))) := by
  rw [← zero_sub]
  pointwise [keys, k0_pay11, k0_pay9, k0_pay6, k0_pay10]

theorem low_at {A : Proj} {L : Lbs} (hA : Fins A L) (S : States) (b h : Fin 4) (n : ℕ) (hn : n + 128 ≤ 4096)
  (x0 x1 x2 : FVec Ideal S1x128x128 .f32) (x4 : FVec Ideal S2x128 .f32)
  (e0 : ∀ r x : Fin 128, x0 (ix3 0 r x) = A (ix3 b ⟨n + r.val, by omega⟩ ⟨(ch h x).val, by omega⟩))
  (e1 : ∀ r x : Fin 128, x1 (ix3 0 r x) = A (ix3 b ⟨n + r.val, by omega⟩ ⟨512 + (ch h x).val, by omega⟩))
  (e2 : ∀ r x : Fin 128, x2 (ix3 0 r x) = A (ix3 b ⟨n + r.val, by omega⟩ ⟨1024 + (ch h x).val, by omega⟩))
  (e4 : ∀ (i : Fin 2) (x : Fin 128), x4 (ix2 i x) = L (ix2 i (ch h x)))
    (x : Fin 128) : k0_pay4 (F := Ideal) x4 (ix2 0 x) = (low L (ch h x) : EReal) := by
  obtain ⟨μ, hμ, e⟩ := pay4_at x4 x
  rw [e4, e4] at hμ
  rw [e, e4, e4, low_of A L hA _ μ hμ]

/-- The rows of a chunk's blocks hold the head's tokens from `n` on. -/
theorem chunk_of {A : Proj} {L : Lbs} (hA : Fins A L) (S : States) (b h : Fin 4) (n : ℕ) (hn : n + 128 ≤ 4096)
  (x0 x1 x2 : FVec Ideal S1x128x128 .f32) (x4 : FVec Ideal S2x128 .f32)
  (e0 : ∀ r x : Fin 128, x0 (ix3 0 r x) = A (ix3 b ⟨n + r.val, by omega⟩ ⟨(ch h x).val, by omega⟩))
  (e1 : ∀ r x : Fin 128, x1 (ix3 0 r x) = A (ix3 b ⟨n + r.val, by omega⟩ ⟨512 + (ch h x).val, by omega⟩))
  (e2 : ∀ r x : Fin 128, x2 (ix3 0 r x) = A (ix3 b ⟨n + r.val, by omega⟩ ⟨1024 + (ch h x).val, by omega⟩))
  (e4 : ∀ (i : Fin 2) (x : Fin 128), x4 (ix2 i x) = L (ix2 i (ch h x))) :
    Chunk (headOf A L S b h) n (bls x1 x4) (k0_pay5 x0) (keys x1 x4) (k0_pay7 x2) where
  bl r x := by
    refine sums_at (headOf A L S b h) (k0_pay8 (F := Ideal) x4 x1) n (fun r c => ?_) r x
    rw [pay8_at, low_at hA S b h n hn x0 x1 x2 x4 e0 e1 e2 e4 c, e1]
    show gate L (ch h c) _ = ((gate L (ch h c) (A (ix3 b (tok (n + r.val)) _))).toReal : EReal)
    rw [tok_eq (n + r.val) (by omega)]
    exact gate_coe _ _ _
  q r x := by
    have hx : k0_pay5 x0 (ix2 r x) = x0 (ix3 0 r x) := by pointwise [k0_pay5]
    obtain ⟨y, hy⟩ := hA.q b ⟨n + r.val, by omega⟩ (ch h x)
    rw [hx, e0]
    show _ = ((A (ix3 b (tok (n + r.val)) _)).toReal : EReal)
    rw [tok_eq (n + r.val) (by omega), hy, EReal.toReal_coe]
  k r x := by
    rw [keys_at, low_at hA S b h n hn x0 x1 x2 x4 e0 e1 e2 e4 x, e1]
    show key L (ch h x) _ = ((key L (ch h x) (A (ix3 b (tok (n + r.val)) _))).toReal : EReal)
    rw [tok_eq (n + r.val) (by omega)]
    exact key_coe _ _ _
  v r x := by
    have hx : k0_pay7 x2 (ix2 r x) = x2 (ix3 0 r x) := by pointwise [k0_pay7]
    obtain ⟨y, hy⟩ := hA.v b ⟨n + r.val, by omega⟩ (ch h x)
    rw [hx, e2]
    show _ = ((A (ix3 b (tok (n + r.val)) _)).toReal : EReal)
    rw [tok_eq (n + r.val) (by omega), hy, EReal.toReal_coe]

/-- The state a head starts from, as the scratch holds it. -/
theorem start_at (A : Proj) (L : Lbs) (S : States) (b h : Fin 4) (x5 : FVec Ideal S1x1x128x128 .f32)
    (e5 : ∀ k j : Fin 128, x5 (ix4 0 0 k j) = S (ix4 b h k j)) (j k : Fin 128) :
    k0_pay3 (F := Ideal) x5 (ix2 j k) = (headOf A L S b h).st 0 k j := by
  have h1 : k0_pay3 (F := Ideal) x5 (ix2 j k) = x5 (ix4 0 0 k j) := by pointwise [k0_pay3]
  rw [h1, e5, Head.st, Head.C, Head.M]
  simp only [Finset.range_zero, Finset.sum_empty, Real.exp_zero, EReal.coe_one, one_mul, EReal.coe_zero, add_zero]
  rfl

theorem pay2_at (x : V128) (k j : Fin 128) : k0_pay2 (F := Ideal) x (ix4 0 0 k j) = x (ix2 j k) := by
  pointwise [k0_pay2]

end Cert.Proof.Hgrn

end
-- ==== Proof.HgrnBlocks.lean ====
/- The gated recurrence's grid: which part of its array each window's block is, and what the input blocks hold of the arguments
   as launched. -/
module

public import proofs.«01_k».proof.Proof.HgrnHead
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.HgrnIdeal Cert.HgrnIdeal.Gen
open Cert.Proof.HgrnMath

namespace Cert.Proof.Hgrn

/-- The block index of each window at point `t`. -/
theorem idx : ∀ t : Fin cfg0.N,
    (win0_0.index t (0 : Fin 3) = t.val / 128 ∧ win0_0.index t (1 : Fin 3) = t.val % 32 ∧ win0_0.index t (2 : Fin 3) = t.val / 32 % 4)
    ∧ (win0_1.index t (0 : Fin 3) = t.val / 128 ∧ win0_1.index t (1 : Fin 3) = t.val % 32 ∧ win0_1.index t (2 : Fin 3) = 4 + t.val / 32 % 4)
    ∧ (win0_2.index t (0 : Fin 3) = t.val / 128 ∧ win0_2.index t (1 : Fin 3) = t.val % 32 ∧ win0_2.index t (2 : Fin 3) = 8 + t.val / 32 % 4)
    ∧ (win0_3.index t (0 : Fin 3) = t.val / 128 ∧ win0_3.index t (1 : Fin 3) = t.val % 32 ∧ win0_3.index t (2 : Fin 3) = 12 + t.val / 32 % 4)
    ∧ (win0_4.index t (0 : Fin 2) = 0 ∧ win0_4.index t (1 : Fin 2) = t.val / 32 % 4) :=
  (by decide +kernel : ∀ t : Fin grid0.N, _)

theorem idx' : ∀ t : Fin cfg0.N,
    (win0_5.index t (0 : Fin 4) = t.val / 128 ∧ win0_5.index t (1 : Fin 4) = t.val / 32 % 4 ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 3) = t.val / 128 ∧ win0_7.index t (1 : Fin 3) = t.val % 32 ∧ win0_7.index t (2 : Fin 3) = t.val / 32 % 4)
    ∧ (win0_8.index t (0 : Fin 4) = t.val / 128 ∧ win0_8.index t (1 : Fin 4) = t.val / 32 % 4 ∧ win0_8.index t (2 : Fin 4) = 0 ∧ win0_8.index t (3 : Fin 4) = 0) :=
  (by decide +kernel : ∀ t : Fin grid0.N, _)

theorem lt_N (t : Fin cfg0.N) : t.val < 512 := N_0 ▸ t.isLt

/-- The batch row, the head and the tokens of point `t`. -/
abbrev bat (t : Fin cfg0.N) : Fin 4 := ⟨t.val / 128, by have := lt_N t; omega⟩
abbrev head (t : Fin cfg0.N) : Fin 4 := ⟨t.val / 32 % 4, by omega⟩
abbrev row0 (t : Fin cfg0.N) : ℕ := 128 * (t.val % 32)
theorem row_lt (t : Fin cfg0.N) : row0 t + 128 ≤ 4096 := by show 128 * (t.val % 32) + 128 ≤ 4096; omega
abbrev at_ (t : Fin cfg0.N) (r : Fin 128) : Fin 4096 := ⟨row0 t + r.val, by have := row_lt t; omega⟩

theorem emb0 (t : Fin cfg0.N) (r d : Fin 128) : ((cfg0.win 0).blk t).view.emb (ix3 0 r d)
    = ix3 (bat t) (at_ t r) ⟨(ch (head t) d).val, by have := (ch (head t) d).isLt; omega⟩ := by
  obtain ⟨⟨e0, e1, e2⟩, -⟩ := idx t
  funext a; apply Fin.ext
  match a with
  | ⟨0, _⟩ => show win0_0.index t (0 : Fin 3) * 1 + 1 * 0 = t.val / 128; omega
  | ⟨1, _⟩ => show win0_0.index t (1 : Fin 3) * 128 + 1 * r.val = 128 * (t.val % 32) + r.val; omega
  | ⟨2, _⟩ => show win0_0.index t (2 : Fin 3) * 128 + 1 * d.val = t.val / 32 % 4 * 128 + d.val; omega

theorem emb1 (t : Fin cfg0.N) (r d : Fin 128) : ((cfg0.win 1).blk t).view.emb (ix3 0 r d)
    = ix3 (bat t) (at_ t r) ⟨512 + (ch (head t) d).val, by have := (ch (head t) d).isLt; omega⟩ := by
  obtain ⟨-, ⟨e0, e1, e2⟩, -⟩ := idx t
  funext a; apply Fin.ext
  match a with
  | ⟨0, _⟩ => show win0_1.index t (0 : Fin 3) * 1 + 1 * 0 = t.val / 128; omega
  | ⟨1, _⟩ => show win0_1.index t (1 : Fin 3) * 128 + 1 * r.val = 128 * (t.val % 32) + r.val; omega
  | ⟨2, _⟩ => show win0_1.index t (2 : Fin 3) * 128 + 1 * d.val = 512 + (t.val / 32 % 4 * 128 + d.val); omega

theorem emb2 (t : Fin cfg0.N) (r d : Fin 128) : ((cfg0.win 2).blk t).view.emb (ix3 0 r d)
    = ix3 (bat t) (at_ t r) ⟨1024 + (ch (head t) d).val, by have := (ch (head t) d).isLt; omega⟩ := by
  obtain ⟨-, -, ⟨e0, e1, e2⟩, -⟩ := idx t
  funext a; apply Fin.ext
  match a with
  | ⟨0, _⟩ => show win0_2.index t (0 : Fin 3) * 1 + 1 * 0 = t.val / 128; omega
  | ⟨1, _⟩ => show win0_2.index t (1 : Fin 3) * 128 + 1 * r.val = 128 * (t.val % 32) + r.val; omega
  | ⟨2, _⟩ => show win0_2.index t (2 : Fin 3) * 128 + 1 * d.val = 1024 + (t.val / 32 % 4 * 128 + d.val); omega

theorem emb3 (t : Fin cfg0.N) (r d : Fin 128) : ((cfg0.win 3).blk t).view.emb (ix3 0 r d)
    = ix3 (bat t) (at_ t r) ⟨1536 + (ch (head t) d).val, by have := (ch (head t) d).isLt; omega⟩ := by
  obtain ⟨-, -, -, ⟨e0, e1, e2⟩, -⟩ := idx t
  funext a; apply Fin.ext
  match a with
  | ⟨0, _⟩ => show win0_3.index t (0 : Fin 3) * 1 + 1 * 0 = t.val / 128; omega
  | ⟨1, _⟩ => show win0_3.index t (1 : Fin 3) * 128 + 1 * r.val = 128 * (t.val % 32) + r.val; omega
  | ⟨2, _⟩ => show win0_3.index t (2 : Fin 3) * 128 + 1 * d.val = 1536 + (t.val / 32 % 4 * 128 + d.val); omega

theorem emb4 (t : Fin cfg0.N) (i : Fin 2) (d : Fin 128) : ((cfg0.win 4).blk t).view.emb (ix2 i d) = ix2 i (ch (head t) d) := by
  obtain ⟨-, -, -, -, e0, e1⟩ := idx t
  funext a; apply Fin.ext
  match a with
  | ⟨0, _⟩ => show win0_4.index t (0 : Fin 2) * 2 + 1 * i.val = i.val; omega
  | ⟨1, _⟩ => show win0_4.index t (1 : Fin 2) * 128 + 1 * d.val = t.val / 32 % 4 * 128 + d.val; omega

theorem emb5 (t : Fin cfg0.N) (k j : Fin 128) : ((cfg0.win 5).blk t).view.emb (ix4 0 0 k j) = ix4 (bat t) (head t) k j := by
  obtain ⟨⟨e0, e1, e2, e3⟩, -⟩ := idx' t
  funext a; apply Fin.ext
  match a with
  | ⟨0, _⟩ => show win0_5.index t (0 : Fin 4) * 1 + 1 * 0 = t.val / 128; omega
  | ⟨1, _⟩ => show win0_5.index t (1 : Fin 4) * 1 + 1 * 0 = t.val / 32 % 4; omega
  | ⟨2, _⟩ => show win0_5.index t (2 : Fin 4) * 128 + 1 * k.val = k.val; omega
  | ⟨3, _⟩ => show win0_5.index t (3 : Fin 4) * 128 + 1 * j.val = j.val; omega

theorem emb6 (t : Fin cfg0.N) (j : Fin 128) : ((cfg0.win 6).blk t).view.emb (ix2 (0 : Fin 1) j) = ix2 (0 : Fin 1) j := by
  obtain ⟨-, ⟨e0, e1⟩, -⟩ := idx' t
  funext a; apply Fin.ext
  match a with
  | ⟨0, _⟩ => show win0_6.index t (0 : Fin 2) * 1 + 1 * 0 = 0; omega
  | ⟨1, _⟩ => show win0_6.index t (1 : Fin 2) * 128 + 1 * j.val = j.val; omega

theorem emb7 (t : Fin cfg0.N) (r d : Fin 128) : ((cfg0.win 7).blk t).view.emb (ix3 0 r d) = ix3 (bat t) (at_ t r) (ch (head t) d) := by
  obtain ⟨-, -, ⟨e0, e1, e2⟩, -⟩ := idx' t
  funext a; apply Fin.ext
  match a with
  | ⟨0, _⟩ => show win0_7.index t (0 : Fin 3) * 1 + 1 * 0 = t.val / 128; omega
  | ⟨1, _⟩ => show win0_7.index t (1 : Fin 3) * 128 + 1 * r.val = 128 * (t.val % 32) + r.val; omega
  | ⟨2, _⟩ => show win0_7.index t (2 : Fin 3) * 128 + 1 * d.val = t.val / 32 % 4 * 128 + d.val; omega

theorem emb8 (t : Fin cfg0.N) (k j : Fin 128) : ((cfg0.win 8).blk t).view.emb (ix4 0 0 k j) = ix4 (bat t) (head t) k j := by
  obtain ⟨-, -, -, e0, e1, e2, e3⟩ := idx' t
  funext a; apply Fin.ext
  match a with
  | ⟨0, _⟩ => show win0_8.index t (0 : Fin 4) * 1 + 1 * 0 = t.val / 128; omega
  | ⟨1, _⟩ => show win0_8.index t (1 : Fin 4) * 1 + 1 * 0 = t.val / 32 % 4; omega
  | ⟨2, _⟩ => show win0_8.index t (2 : Fin 4) * 128 + 1 * k.val = k.val; omega
  | ⟨3, _⟩ => show win0_8.index t (3 : Fin 4) * 128 + 1 * j.val = j.val; omega

variable (m : (ℓ : Loc nD τ sig) → Buf (Elt Ideal) ℓ)

/-- The kernel's arguments on core `c`. -/
abbrev argA (c : Dev nD) : Proj := m ((c : Thread nD τ).loc main_arg0)
abbrev argL (c : Dev nD) : Lbs := m ((c : Thread nD τ).loc main_arg1)
abbrev argS (c : Dev nD) : States := m ((c : Thread nD τ).loc main_arg2)
abbrev argW (c : Dev nD) : Scale := m ((c : Thread nD τ).loc main_arg3)

theorem blk0 (c : Dev nD) (t : Fin cfg0.N) (r d : Fin 128) : iblk m c 0 t (ix3 0 r d)
    = argA m c (ix3 (bat t) (at_ t r) ⟨(ch (head t) d).val, by have := (ch (head t) d).isLt; omega⟩) := by
  show V m c main_arg0 (((cfg0.win 0).blk t).view.emb (ix3 0 r d)) = _
  rw [emb0]
  exact congrFun (V_main_arg0 m c) _

theorem blk1 (c : Dev nD) (t : Fin cfg0.N) (r d : Fin 128) : iblk m c 1 t (ix3 0 r d)
    = argA m c (ix3 (bat t) (at_ t r) ⟨512 + (ch (head t) d).val, by have := (ch (head t) d).isLt; omega⟩) := by
  show V m c main_arg0 (((cfg0.win 1).blk t).view.emb (ix3 0 r d)) = _
  rw [emb1]
  exact congrFun (V_main_arg0 m c) _

theorem blk2 (c : Dev nD) (t : Fin cfg0.N) (r d : Fin 128) : iblk m c 2 t (ix3 0 r d)
    = argA m c (ix3 (bat t) (at_ t r) ⟨1024 + (ch (head t) d).val, by have := (ch (head t) d).isLt; omega⟩) := by
  show V m c main_arg0 (((cfg0.win 2).blk t).view.emb (ix3 0 r d)) = _
  rw [emb2]
  exact congrFun (V_main_arg0 m c) _

theorem blk3 (c : Dev nD) (t : Fin cfg0.N) (r d : Fin 128) : iblk m c 3 t (ix3 0 r d)
    = argA m c (ix3 (bat t) (at_ t r) ⟨1536 + (ch (head t) d).val, by have := (ch (head t) d).isLt; omega⟩) := by
  show V m c main_arg0 (((cfg0.win 3).blk t).view.emb (ix3 0 r d)) = _
  rw [emb3]
  exact congrFun (V_main_arg0 m c) _

theorem blk4 (c : Dev nD) (t : Fin cfg0.N) (i : Fin 2) (d : Fin 128) : iblk m c 4 t (ix2 i d) = argL m c (ix2 i (ch (head t) d)) := by
  show V m c main_arg1 (((cfg0.win 4).blk t).view.emb (ix2 i d)) = _
  rw [emb4]
  exact congrFun (V_main_arg1 m c) _

theorem blk5 (c : Dev nD) (t : Fin cfg0.N) (k j : Fin 128) : iblk m c 5 t (ix4 0 0 k j) = argS m c (ix4 (bat t) (head t) k j) := by
  show V m c main_arg2 (((cfg0.win 5).blk t).view.emb (ix4 0 0 k j)) = _
  rw [emb5]
  exact congrFun (V_main_arg2 m c) _

theorem blk6 (c : Dev nD) (t : Fin cfg0.N) (j : Fin 128) : iblk m c 6 t (ix2 (0 : Fin 1) j) = argW m c (ix1 j) := by
  show V m c main_v0 (((cfg0.win 6).blk t).view.emb (ix2 (0 : Fin 1) j)) = _
  rw [emb6]
  show shapeCast S1x128 (argW m c) shapeCasts_S128_S1x128 (ix2 (0 : Fin 1) j) = _
  pointwise

end Cert.Proof.Hgrn

end
-- ==== Proof.HgrnState.lean ====
/- The gated recurrence's grid points, one chunk after another: the scratch carries the head's state, and what each point writes
   back is its block of the heads' results and of the heads' last states. -/
module

public import proofs.«01_k».proof.Proof.HgrnBlocks
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.HgrnIdeal Cert.HgrnIdeal.Gen
open Cert.Proof.HgrnMath

namespace Cert.Proof.Hgrn

variable (m : (ℓ : Loc nD τ sig) → Buf (Elt Ideal) ℓ)

/-- The head point `t` works on. -/
abbrev hd (c : Dev nD) (t : Fin cfg0.N) : Head := headOf (argA m c) (argL m c) (argS m c) (bat t) (head t)

/-- A point's chunk holds its head's tokens. -/
theorem chunk_at (hA : ∀ c, Fins (argA m c) (argL m c)) (c : Dev nD) (t : Fin cfg0.N) :
    Chunk (hd m c t) (row0 t) (bls (iblk m c 1 t) (iblk m c 4 t)) (k0_pay5 (iblk m c 0 t)) (keys (iblk m c 1 t) (iblk m c 4 t)) (k0_pay7 (iblk m c 2 t)) :=
  chunk_of (hA c) (argS m c) (bat t) (head t) (row0 t) (row_lt t) (iblk m c 0 t) (iblk m c 1 t) (iblk m c 2 t) (iblk m c 4 t)
    (blk0 m c t) (blk1 m c t) (blk2 m c t) (blk4 m c t)

/-- What point `t` does with a state: what it leaves in the scratch, writes back of the first result, and, the last of its head,
    of the second. -/
structure Does (c : Dev nD) (t : Fin cfg0.N) (st : V128) : Prop where
  holds : (outsAt0 m c t.val t.isLt).2.2 = state8 st (bls (iblk m c 1 t) (iblk m c 4 t)) (keys (iblk m c 1 t) (iblk m c 4 t)) (k0_pay7 (iblk m c 2 t))
  wrote : (dats m 0 c).flushed 7 t = (cfg0.win 7).cut (grid0.coords t)
    (gated (chunk st (bls (iblk m c 1 t) (iblk m c 4 t)) (k0_pay5 (iblk m c 0 t)) (keys (iblk m c 1 t) (iblk m c 4 t)) (k0_pay7 (iblk m c 2 t))) (iblk m c 6 t) (iblk m c 3 t))
  ended : t.val % 32 = 31 → (dats m 0 c).flushed 8 t = (cfg0.win 8).cut (grid0.coords t)
    (k0_pay2 (F := Ideal) (state8 st (bls (iblk m c 1 t) (iblk m c 4 t)) (keys (iblk m c 1 t) (iblk m c 4 t)) (k0_pay7 (iblk m c 2 t))))

theorem does_first (c : Dev nD) (t : Fin cfg0.N) (h0 : t.val % 32 = 0) : Does m c t (k0_pay3 (iblk m c 5 t)) where
  holds := by
    have h1 : ¬t.val % 32 = 31 := by omega
    rw [outsAt0_A m c t h0 h1]; exact soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  wrote := by
    have h1 : ¬t.val % 32 = 31 := by omega
    rw [Value.flushed7_A m c t h0 h1]; exact congrArg _ (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
  ended h := by omega

theorem does_next (c : Dev nD) (t : Fin cfg0.N) (h0 : ¬t.val % 32 = 0) :
    Does m c t (outsAt0 m c (t.val - 1) (Nat.lt_of_le_of_lt (Nat.sub_le _ _) t.isLt)).2.2 where
  holds := by
    by_cases h1 : t.val % 32 = 31
    · rw [outsAt0_C m c t h0 h1]; exact soutC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2
    · rw [outsAt0_B m c t h0 h1]; exact soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2
  wrote := by
    by_cases h1 : t.val % 32 = 31
    · rw [Value.flushed7_C m c t h0 h1]; exact congrArg _ (outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2)
    · rw [Value.flushed7_B m c t h0 h1]; exact congrArg _ (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2)
  ended h1 := by rw [Value.flushed8_C m c t h0 h1]; exact congrArg _ (finC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2)

/-- The point before one that is not its head's first works on the same head's chunk before. -/
theorem prev_eq (t : Fin cfg0.N) (h0 : ¬t.val % 32 = 0) (hp : t.val - 1 < cfg0.N) :
    bat ⟨t.val - 1, hp⟩ = bat t ∧ head ⟨t.val - 1, hp⟩ = head t ∧ row0 ⟨t.val - 1, hp⟩ + 128 = row0 t :=
  ⟨Fin.ext (by show (t.val - 1) / 128 = t.val / 128; omega), Fin.ext (by show (t.val - 1) / 32 % 4 = t.val / 32 % 4; omega),
    by show 128 * ((t.val - 1) % 32) + 128 = 128 * (t.val % 32); omega⟩

/-- After each point the scratch holds the head's state after the point's tokens. -/
theorem kept_state (hA : ∀ c, Fins (argA m c) (argL m c)) (c : Dev nD) (n : ℕ) : ∀ (hn : n < cfg0.N) (j k : Fin 128),
    (outsAt0 m c n hn).2.2 (ix2 j k) = (hd m c ⟨n, hn⟩).st (row0 ⟨n, hn⟩ + 128) k j := by
  induction n using Nat.strong_induction_on with
  | _ n ih =>
    intro hn j k
    by_cases h0 : n % 32 = 0
    · rw [(does_first m c ⟨n, hn⟩ h0).holds]
      refine state8_at (chunk_at m hA c ⟨n, hn⟩) _ (fun j k => ?_) j k
      rw [show row0 ⟨n, hn⟩ = 0 by show 128 * (n % 32) = 0; omega]
      exact start_at _ _ _ _ _ _ (blk5 m c ⟨n, hn⟩) j k
    · rw [(does_next m c ⟨n, hn⟩ h0).holds]
      refine state8_at (chunk_at m hA c ⟨n, hn⟩) _ (fun j k => ?_) j k
      have hp : n - 1 < cfg0.N := by omega
      obtain ⟨e1, e2, e3⟩ := prev_eq ⟨n, hn⟩ h0 hp
      have h := ih (n - 1) (by omega) hp j k
      unfold hd at h
      rw [e1, e2, e3] at h
      exact h

/-- What a point does, with the state of its head before its tokens. -/
theorem point (hA : ∀ c, Fins (argA m c) (argL m c)) (c : Dev nD) (t : Fin cfg0.N) :
    ∃ st : V128, Does m c t st ∧ ∀ j k : Fin 128, st (ix2 j k) = (hd m c t).st (row0 t) k j := by
  by_cases h0 : t.val % 32 = 0
  · refine ⟨_, does_first m c t h0, fun j k => ?_⟩
    rw [show row0 t = 0 by show 128 * (t.val % 32) = 0; omega]
    exact start_at _ _ _ _ _ _ (blk5 m c t) j k
  · refine ⟨_, does_next m c t h0, fun j k => ?_⟩
    have hp : t.val - 1 < cfg0.N := Nat.lt_of_le_of_lt (Nat.sub_le _ _) t.isLt
    obtain ⟨e1, e2, e3⟩ := prev_eq t h0 hp
    have h := kept_state m hA c (t.val - 1) hp j k
    unfold hd at h
    rw [e1, e2, e3] at h
    exact h

/-! ## The result arrays -/

/-- What point `t` writes back of the first result is its block of the heads' results. -/
theorem flushed7_eq (hA : ∀ c, Fins (argA m c) (argL m c)) (c : Dev nD) (t : Fin cfg0.N) : (dats m 0 c).flushed 7 t
    = ((cfg0.win 7).blk t).view.read (Elt Ideal) (outs (argA m c) (argL m c) (argS m c) (argW m c)) := by
  obtain ⟨st, hd', hst⟩ := point m hA c t
  rw [hd'.wrote]
  funext i
  obtain ⟨r, j, rfl⟩ : ∃ (r j : Fin 128), i = ix3 (0 : Fin 1) r j := ⟨i 1, i 2, by
    funext a; match a with | ⟨0, _⟩ => exact Subsingleton.elim (α := Fin 1) _ _ | ⟨1, _⟩ => rfl | ⟨2, _⟩ => rfl⟩
  show gated (chunk st (bls (iblk m c 1 t) (iblk m c 4 t)) (k0_pay5 (iblk m c 0 t)) (keys (iblk m c 1 t) (iblk m c 4 t)) (k0_pay7 (iblk m c 2 t)))
      (iblk m c 6 t) (iblk m c 3 t) (ix3 0 r j) = outs (argA m c) (argL m c) (argS m c) (argW m c) (((cfg0.win 7).blk t).view.emb (ix3 0 r j))
  have hh : (⟨(ch (head t) j).val / 128, by have := (ch (head t) j).isLt; omega⟩ : Fin 4) = head t :=
    Fin.ext (by show (t.val / 32 % 4 * 128 + j.val) / 128 = t.val / 32 % 4; omega)
  have hj : (⟨(ch (head t) j).val % 128, by omega⟩ : Fin 128) = j := Fin.ext (by show (t.val / 32 % 4 * 128 + j.val) % 128 = j.val; omega)
  have e2 : outs (argA m c) (argL m c) (argS m c) (argW m c) (ix3 (bat t) (at_ t r) (ch (head t) j))
    = fin ((headOf (argA m c) (argL m c) (argS m c) (bat t) ⟨(ch (head t) j).val / 128, by have := (ch (head t) j).isLt; omega⟩).out (row0 t + r.val))
      (argW m c (ix1 ⟨(ch (head t) j).val % 128, by omega⟩))
      (argA m c (ix3 (bat t) (at_ t r) ⟨1536 + (ch (head t) j).val, by have := (ch (head t) j).isLt; omega⟩)) ⟨(ch (head t) j).val % 128, by omega⟩ := rfl
  rw [emb7, e2, hh, hj, gated_at, blk6, blk3, Finset.sum_congr rfl fun x _ => by rw [chunk_out (chunk_at m hA c t) st hst r x], chunk_out (chunk_at m hA c t) st hst r j]
  rfl

/-- What the last point of a head writes back of the second result is the head's last state. -/
theorem flushed8_eq (hA : ∀ c, Fins (argA m c) (argL m c)) (c : Dev nD) (t : Fin cfg0.N) (h1 : t.val % 32 = 31) : (dats m 0 c).flushed 8 t
    = ((cfg0.win 8).blk t).view.read (Elt Ideal) (sts (argA m c) (argL m c) (argS m c)) := by
  obtain ⟨st, hd', hst⟩ := point m hA c t
  rw [hd'.ended h1]
  funext i
  obtain ⟨k, j, rfl⟩ : ∃ (k j : Fin 128), i = ix4 (0 : Fin 1) (0 : Fin 1) k j := ⟨i 2, i 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  show k0_pay2 (F := Ideal) (state8 st (bls (iblk m c 1 t) (iblk m c 4 t)) (keys (iblk m c 1 t) (iblk m c 4 t)) (k0_pay7 (iblk m c 2 t))) (ix4 0 0 k j)
    = sts (argA m c) (argL m c) (argS m c) (((cfg0.win 8).blk t).view.emb (ix4 0 0 k j))
  rw [emb8, pay2_at, state8_at (chunk_at m hA c t) st hst j k, show row0 t + 128 = 4096 by show 128 * (t.val % 32) + 128 = 4096; omega]
  rfl

/-- Every index of the first result is in the block of some point. -/
theorem cover7 (i : S4x4096x512.Idx) : ∃ t : Fin cfg0.N, (cfg0.win 7).flush t = true ∧ i ∈ ((cfg0.win 7).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have he := e.isLt
  have ht : b.val * 128 + e.val / 128 * 32 + q.val / 128 < cfg0.N := by rw [show cfg0.N = 512 from N_0]; omega
  refine ⟨⟨_, ht⟩, flush0_7 _, ?_⟩
  have h := ((cfg0.win 7).blk ⟨_, ht⟩).view.emb_mem_set (ix3 (0 : Fin 1) (⟨q.val % 128, by omega⟩ : Fin 128) (⟨e.val % 128, by omega⟩ : Fin 128))
  rw [emb7] at h
  have e0 : bat ⟨_, ht⟩ = b := Fin.ext (by show (b.val * 128 + e.val / 128 * 32 + q.val / 128) / 128 = b.val; omega)
  have e1 : at_ ⟨_, ht⟩ (⟨q.val % 128, by omega⟩ : Fin 128) = q :=
    Fin.ext (by show 128 * ((b.val * 128 + e.val / 128 * 32 + q.val / 128) % 32) + q.val % 128 = q.val; omega)
  have e2 : ch (head ⟨_, ht⟩) (⟨e.val % 128, by omega⟩ : Fin 128) = e :=
    Fin.ext (by show (b.val * 128 + e.val / 128 * 32 + q.val / 128) / 32 % 4 * 128 + e.val % 128 = e.val; omega)
  rwa [e0, e1, e2] at h

/-- Every index of the second result is in the block of some head's last point. -/
theorem cover8 (i : S4x4x128x128.Idx) : ∃ t : Fin cfg0.N, (cfg0.win 8).flush t = true ∧ i ∈ ((cfg0.win 8).blk t).view.set := by
  obtain ⟨b, h, k, j, rfl⟩ : ∃ (b h : Fin 4) (k j : Fin 128), i = ix4 b h k j := ⟨i 0, i 1, i 2, i 3, by
    funext a; match a with | ⟨0, _⟩ => rfl | ⟨1, _⟩ => rfl | ⟨2, _⟩ => rfl | ⟨3, _⟩ => rfl⟩
  have hb := b.isLt
  have hh := h.isLt
  have ht : b.val * 128 + h.val * 32 + 31 < cfg0.N := by rw [show cfg0.N = 512 from N_0]; omega
  refine ⟨⟨_, ht⟩, (flush0_8 _).mpr (by show (b.val * 128 + h.val * 32 + 31) % 32 = 31; omega), ?_⟩
  have hm := ((cfg0.win 8).blk ⟨_, ht⟩).view.emb_mem_set (ix4 (0 : Fin 1) (0 : Fin 1) k j)
  rw [emb8] at hm
  have e0 : bat ⟨_, ht⟩ = b := Fin.ext (by show (b.val * 128 + h.val * 32 + 31) / 128 = b.val; omega)
  have e1 : head ⟨_, ht⟩ = h := Fin.ext (by show (b.val * 128 + h.val * 32 + 31) / 32 % 4 = h.val; omega)
  rwa [e0, e1] at hm

/-- The result arrays after the run are the heads' results and last states. -/
theorem final7 (hA : ∀ c, Fins (argA m c) (argL m c)) (c : Dev nD) :
    (dats m 0 c).arrAt 7 cfg0.N = outs (argA m c) (argL m c) (argS m c) (argW m c) :=
  (dats m 0 c).arrAt_eq_of_cover 7 _ (fun t _ => flushed7_eq m hA c t) cover7

theorem final8 (hA : ∀ c, Fins (argA m c) (argL m c)) (c : Dev nD) :
    (dats m 0 c).arrAt 8 cfg0.N = sts (argA m c) (argL m c) (argS m c) :=
  (dats m 0 c).arrAt_eq_of_cover 8 _ (fun t ht => flushed8_eq m hA c t ((flush0_8 t).mp ht)) cover8

end Cert.Proof.Hgrn

end
-- ==== Proof.HgrnWindow.lean ====
/- Running sums from the front, as the window operation computes them: along the second of four axes, and along the first of two. -/
module

public import proofs.«01_k».proof.Proof.SbWindow
public import Idealize.ShloMosaic.Lib.Pointwise

@[expose] public section

set_option maxRecDepth 16384

noncomputable section

open Idealize.ShloMosaic

namespace Cert.Proof.HgrnWindow

/-- What a window position adds to the sum at `j`, of a column `f`. -/
def part (P j : ℕ) (f : ℕ → EReal) (n : ℕ) : EReal := if P ≤ j + n then f (j + n - P) else 0

/-- The window's positions from the first that is not before the array's front are the array's, up to the one summed at. -/
theorem shift_sum (N P j : ℕ) (hP : P + 1 = N) (hj : j < N) (f : ℕ → EReal) :
    ∑ w ∈ Finset.range N, part P j f w = ∑ u ∈ Finset.range (j + 1), f u := by
  unfold part
  rw [← Finset.sum_subset (s₁ := Finset.Ico (P - j) N) (fun n hn => by simp only [Finset.mem_range, Finset.mem_Ico] at *; omega)
    (fun n h1 hn => if_neg (by simp only [Finset.mem_range, Finset.mem_Ico] at *; omega)), Finset.sum_Ico_eq_sum_range,
    show N - (P - j) = j + 1 by omega]
  refine Finset.sum_congr rfl fun u hu => ?_
  rw [if_pos (by omega), show j + (P - j + u) - P = u by omega]

/-! ## Along the second of four axes -/

/-- A sum over a window that is one position wide on every axis but the second is a sum over that. -/
theorem sum_window4 (N : ℕ) (g : (⟨4, ![1, N, 1, 1]⟩ : Shape).Idx → EReal) :
    ∑ i, g i = ∑ n : Fin N, g (ix4 (0 : Fin 1) n (0 : Fin 1) (0 : Fin 1)) := by
  refine (Fintype.sum_bijective (fun n : Fin N => (ix4 (0 : Fin 1) n (0 : Fin 1) (0 : Fin 1) : (⟨4, ![1, N, 1, 1]⟩ : Shape).Idx)) ⟨?_, ?_⟩ _ _ fun _ => rfl).symm
  · intro n m h
    exact congrFun h 1
  · intro i
    refine ⟨i 1, ?_⟩
    funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

theorem window4 {A N C D P : ℕ} {u : Shape} (hP : P + 1 = N) (x : FVec Ideal ⟨4, ![A, N, C, D]⟩ .f32) (init : FVec Ideal u .f32)
    (h : (⟨4, ![A, N, C, D]⟩ : Shape).ReduceWindows ![1, N, 1, 1] ![1, 1, 1, 1] ![0, P, 0, 0] ![0, 0, 0, 0] ⟨4, ![A, N, C, D]⟩)
    (hu : 0 < u.numel) (h0 : init (Shape.Idx.first hu) = (0 : EReal)) (a : Fin A) (j : Fin N) (c : Fin C) (d : Fin D)
    (f : ℕ → EReal) (hx : ∀ n : Fin N, x (ix4 a n c d) = f n.val) :
    Host.reduceWindowAdd ![1, N, 1, 1] ![1, 1, 1, 1] ![0, P, 0, 0] ![0, 0, 0, 0] x init h hu (ix4 a j c d)
      = ∑ n ∈ Finset.range (j.val + 1), f n := by
  unfold Host.reduceWindowAdd
  rw [Ideal.hostReduceWindowAdd_def, h0]
  unfold Ideal.hostReduceWindowAdd Host.reduceWindow
  dsimp only
  rw [SbWindow.foldl_add, zero_add, ← Fin.sum_univ_def, ← shift_sum N P j.val hP j.isLt f, ← Fin.sum_univ_eq_sum_range (part P j.val f) N]
  refine Eq.trans (Finset.sum_congr rfl (g := fun i => (fun w : (⟨4, ![1, N, 1, 1]⟩ : Shape).Idx => part P j.val f (w 1).val) ((Shape.rowMajor ⟨4, ![1, N, 1, 1]⟩).symm i)) fun i _ => ?_)
    ((Equiv.sum_comp (Shape.rowMajor ⟨4, ![1, N, 1, 1]⟩).symm (fun w : (⟨4, ![1, N, 1, 1]⟩ : Shape).Idx => part P j.val f (w 1).val)).trans (sum_window4 N _))
  dsimp only
  have w0 : ((Shape.rowMajor ⟨4, ![1, N, 1, 1]⟩).symm i 0).val = 0 := Nat.lt_one_iff.mp ((Shape.rowMajor ⟨4, ![1, N, 1, 1]⟩).symm i 0).isLt
  have w2 : ((Shape.rowMajor ⟨4, ![1, N, 1, 1]⟩).symm i 2).val = 0 := Nat.lt_one_iff.mp ((Shape.rowMajor ⟨4, ![1, N, 1, 1]⟩).symm i 2).isLt
  have w3 : ((Shape.rowMajor ⟨4, ![1, N, 1, 1]⟩).symm i 3).val = 0 := Nat.lt_one_iff.mp ((Shape.rowMajor ⟨4, ![1, N, 1, 1]⟩).symm i 3).isLt
  have w1 : ((Shape.rowMajor ⟨4, ![1, N, 1, 1]⟩).symm i 1).val < N := ((Shape.rowMajor ⟨4, ![1, N, 1, 1]⟩).symm i 1).isLt
  have hj := j.isLt
  unfold part
  by_cases hn : P ≤ j.val + ((Shape.rowMajor ⟨4, ![1, N, 1, 1]⟩).symm i 1).val
  · rw [if_pos hn, dif_pos]
    · rw [← hx ⟨j.val + ((Shape.rowMajor ⟨4, ![1, N, 1, 1]⟩).symm i 1).val - P, by omega⟩]
      congr 1
      funext k
      apply Fin.ext
      match k with
      | ⟨0, _⟩ => show a.val * 1 + ((Shape.rowMajor ⟨4, ![1, N, 1, 1]⟩).symm i 0).val - 0 = a.val; omega
      | ⟨1, _⟩ => show j.val * 1 + ((Shape.rowMajor ⟨4, ![1, N, 1, 1]⟩).symm i 1).val - P = j.val + ((Shape.rowMajor ⟨4, ![1, N, 1, 1]⟩).symm i 1).val - P; omega
      | ⟨2, _⟩ => show c.val * 1 + ((Shape.rowMajor ⟨4, ![1, N, 1, 1]⟩).symm i 2).val - 0 = c.val; omega
      | ⟨3, _⟩ => show d.val * 1 + ((Shape.rowMajor ⟨4, ![1, N, 1, 1]⟩).symm i 3).val - 0 = d.val; omega
    · intro k
      match k with
      | ⟨0, _⟩ => exact (show 0 ≤ a.val * 1 + ((Shape.rowMajor ⟨4, ![1, N, 1, 1]⟩).symm i 0).val ∧ a.val * 1 + ((Shape.rowMajor ⟨4, ![1, N, 1, 1]⟩).symm i 0).val - 0 < A from ⟨by omega, by have := a.isLt; omega⟩)
      | ⟨1, _⟩ => exact (show P ≤ j.val * 1 + ((Shape.rowMajor ⟨4, ![1, N, 1, 1]⟩).symm i 1).val ∧ j.val * 1 + ((Shape.rowMajor ⟨4, ![1, N, 1, 1]⟩).symm i 1).val - P < N from ⟨by omega, by omega⟩)
      | ⟨2, _⟩ => exact (show 0 ≤ c.val * 1 + ((Shape.rowMajor ⟨4, ![1, N, 1, 1]⟩).symm i 2).val ∧ c.val * 1 + ((Shape.rowMajor ⟨4, ![1, N, 1, 1]⟩).symm i 2).val - 0 < C from ⟨by omega, by have := c.isLt; omega⟩)
      | ⟨3, _⟩ => exact (show 0 ≤ d.val * 1 + ((Shape.rowMajor ⟨4, ![1, N, 1, 1]⟩).symm i 3).val ∧ d.val * 1 + ((Shape.rowMajor ⟨4, ![1, N, 1, 1]⟩).symm i 3).val - 0 < D from ⟨by omega, by have := d.isLt; omega⟩)
  · rw [if_neg hn, dif_neg]
    intro hk
    have h3 : P ≤ j.val * 1 + ((Shape.rowMajor ⟨4, ![1, N, 1, 1]⟩).symm i 1).val := (hk 1).1
    omega

/-! ## Along the first of two axes -/

theorem sum_window2 (N : ℕ) (g : (⟨2, ![N, 1]⟩ : Shape).Idx → EReal) : ∑ i, g i = ∑ n : Fin N, g (ix2 n (0 : Fin 1)) := by
  refine (Fintype.sum_bijective (fun n : Fin N => (ix2 n (0 : Fin 1) : (⟨2, ![N, 1]⟩ : Shape).Idx)) ⟨?_, ?_⟩ _ _ fun _ => rfl).symm
  · intro n m h
    exact congrFun h 0
  · intro i
    refine ⟨i 0, ?_⟩
    funext a
    match a with
    | ⟨0, _⟩ => rfl
    | ⟨1, _⟩ => exact (Subsingleton.elim (α := Fin 1) _ _)

theorem window2 {N C P : ℕ} {u : Shape} (hP : P + 1 = N) (x : FVec Ideal ⟨2, ![N, C]⟩ .f32) (init : FVec Ideal u .f32)
    (h : (⟨2, ![N, C]⟩ : Shape).ReduceWindows ![N, 1] ![1, 1] ![P, 0] ![0, 0] ⟨2, ![N, C]⟩)
    (hu : 0 < u.numel) (h0 : init (Shape.Idx.first hu) = (0 : EReal)) (j : Fin N) (c : Fin C)
    (f : ℕ → EReal) (hx : ∀ n : Fin N, x (ix2 n c) = f n.val) :
    Host.reduceWindowAdd ![N, 1] ![1, 1] ![P, 0] ![0, 0] x init h hu (ix2 j c) = ∑ n ∈ Finset.range (j.val + 1), f n := by
  unfold Host.reduceWindowAdd
  rw [Ideal.hostReduceWindowAdd_def, h0]
  unfold Ideal.hostReduceWindowAdd Host.reduceWindow
  dsimp only
  rw [SbWindow.foldl_add, zero_add, ← Fin.sum_univ_def, ← shift_sum N P j.val hP j.isLt f, ← Fin.sum_univ_eq_sum_range (part P j.val f) N]
  refine Eq.trans (Finset.sum_congr rfl (g := fun i => (fun w : (⟨2, ![N, 1]⟩ : Shape).Idx => part P j.val f (w 0).val) ((Shape.rowMajor ⟨2, ![N, 1]⟩).symm i)) fun i _ => ?_)
    ((Equiv.sum_comp (Shape.rowMajor ⟨2, ![N, 1]⟩).symm (fun w : (⟨2, ![N, 1]⟩ : Shape).Idx => part P j.val f (w 0).val)).trans (sum_window2 N _))
  dsimp only
  have w1 : ((Shape.rowMajor ⟨2, ![N, 1]⟩).symm i 1).val = 0 := Nat.lt_one_iff.mp ((Shape.rowMajor ⟨2, ![N, 1]⟩).symm i 1).isLt
  have w0 : ((Shape.rowMajor ⟨2, ![N, 1]⟩).symm i 0).val < N := ((Shape.rowMajor ⟨2, ![N, 1]⟩).symm i 0).isLt
  have hj := j.isLt
  unfold part
  by_cases hn : P ≤ j.val + ((Shape.rowMajor ⟨2, ![N, 1]⟩).symm i 0).val
  · rw [if_pos hn, dif_pos]
    · rw [← hx ⟨j.val + ((Shape.rowMajor ⟨2, ![N, 1]⟩).symm i 0).val - P, by omega⟩]
      congr 1
      funext k
      apply Fin.ext
      match k with
      | ⟨0, _⟩ => show j.val * 1 + ((Shape.rowMajor ⟨2, ![N, 1]⟩).symm i 0).val - P = j.val + ((Shape.rowMajor ⟨2, ![N, 1]⟩).symm i 0).val - P; omega
      | ⟨1, _⟩ => show c.val * 1 + ((Shape.rowMajor ⟨2, ![N, 1]⟩).symm i 1).val - 0 = c.val; omega
    · intro k
      match k with
      | ⟨0, _⟩ => exact (show P ≤ j.val * 1 + ((Shape.rowMajor ⟨2, ![N, 1]⟩).symm i 0).val ∧ j.val * 1 + ((Shape.rowMajor ⟨2, ![N, 1]⟩).symm i 0).val - P < N from ⟨by omega, by omega⟩)
      | ⟨1, _⟩ => exact (show 0 ≤ c.val * 1 + ((Shape.rowMajor ⟨2, ![N, 1]⟩).symm i 1).val ∧ c.val * 1 + ((Shape.rowMajor ⟨2, ![N, 1]⟩).symm i 1).val - 0 < C from ⟨by omega, by have := c.isLt; omega⟩)
  · rw [if_neg hn, dif_neg]
    intro hk
    have h3 : P ≤ j.val * 1 + ((Shape.rowMajor ⟨2, ![N, 1]⟩).symm i 0).val := (hk 0).1
    omega

end Cert.Proof.HgrnWindow

end
-- ==== Proof.HgrnRef.lean ====
/- The gated recurrence's reference, stage by stage and entry by entry: its two results are the heads' results and the heads'
   last states. -/
module

public import proofs.«01_k».proof.Proof.Gen.HgrnRefIdeal.Run
public import proofs.«01_k».proof.Proof.HgrnHead
public import proofs.«01_k».proof.Proof.HgrnWindow
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.HgrnRefIdeal Cert.HgrnRefIdeal.Gen
open Cert.Proof.HgrnMath
open Cert.Proof.Hgrn (Fins ch tok tok_eq low gate key gate_coe key_coe headOf outs sts low_of fold_two)

namespace Cert.Proof.HgrnRef

/-- Per batch row, token, head and channel. -/
abbrev Tok : Type := FVec Ideal S4x4096x4x128 .f32

/-- The queries, the gates' logits, the values and the output gates. -/
def qV (A : FVec Ideal S4x4096x5632 .f32) : Tok :=
  shapeCast _ (extractStridedSlice S4x4096x512 ![0, 0, 0] A slices_S4x4096x5632_S4x4096x512_0_0_0) shapeCasts_S4x4096x512_S4x4096x4x128
def logitV (A : FVec Ideal S4x4096x5632 .f32) : Tok :=
  shapeCast _ (extractStridedSlice S4x4096x512 ![0, 0, 512] A slices_S4x4096x5632_S4x4096x512_0_0_512) shapeCasts_S4x4096x512_S4x4096x4x128
def valV (A : FVec Ideal S4x4096x5632 .f32) : Tok :=
  shapeCast _ (extractStridedSlice S4x4096x512 ![0, 0, 1024] A slices_S4x4096x5632_S4x4096x512_0_0_1024) shapeCasts_S4x4096x512_S4x4096x4x128
def gV (A : FVec Ideal S4x4096x5632 .f32) : Tok :=
  shapeCast _ (extractStridedSlice S4x4096x512 ![0, 0, 1536] A slices_S4x4096x5632_S4x4096x512_0_0_1536) shapeCasts_S4x4096x512_S4x4096x4x128

/-- The larger of the two logits. -/
def maxV (L : FVec Ideal S2x512 .f32) : FVec Ideal S512 .f32 :=
  maximumf (broadcastInDim S512 ![] bcast_S_S512 (constant S_ .f32 0xFF800000#32)) (Host.reduce FloatOps.maximumf L (constant S_ .f32 0xFF800000#32) reducesTo_S2x512_S512_d0 h_S_)

/-- The exponentials of the logits. -/
def expV (L : FVec Ideal S2x512 .f32) : FVec Ideal S2x512 .f32 :=
  Host.exp (subf L (broadcastInDim S2x512 ![0, 1] bcast_S1x512_S2x512_0_1 (broadcastInDim S1x512 ![1] bcast_S512_S1x512_1 (maxV L))))

/-- The softmax of the logits over the layers. -/
def smV (L : FVec Ideal S2x512 .f32) : FVec Ideal S2x512 .f32 :=
  Host.divf (expV L) (broadcastInDim S2x512 ![0, 1] bcast_S1x512_S2x512_0_1 (broadcastInDim S1x512 ![1] bcast_S512_S1x512_1 (Host.reduceAdd (expV L) (constant S_ .f32 0x00000000#32) reducesTo_S2x512_S512_d0 h_S_)))

/-- Its running sum. -/
def cumV (L : FVec Ideal S2x512 .f32) : FVec Ideal S2x512 .f32 :=
  Host.reduceWindowAdd ![2, 1] ![1, 1] ![1, 0] ![0, 0] (smV L) (broadcastInDim S_ ![] bcast_S_S_ (constant S_ .f32 0x00000000#32)) reduceWindows_S2x512_S2x512_w2s1p1_0_w1s1p0_0 h_S_

/-- The lower bounds of the layer's gates. -/
def lowV (L : FVec Ideal S2x512 .f32) : FVec Ideal S4x128 .f32 :=
  shapeCast _ (shapeCast _ (extractStridedSlice S1x512 ![1, 0] (subf (cumV L) (broadcastInDim S2x512 ![0, 1] bcast_S1x512_S2x512_0_1 (extractStridedSlice S1x512 ![0, 0] (smV L) slices_S2x512_S1x512_0_0))) slices_S2x512_S1x512_1_0) shapeCasts_S1x512_S512) shapeCasts_S512_S4x128

/-- One, everywhere. -/
def oneV : Tok := broadcastInDim S4x4096x4x128 ![] bcast_S_S4x4096x4x128 (constant S_ .f32 0x3F800000#32)

/-- The logistic function of every entry. -/
def logiV (Y : Tok) : Tok := Host.divf oneV (addf oneV (Host.exp (Host.negf Y)))

/-- The same for every batch row and token. -/
def allV (x : FVec Ideal S4x128 .f32) : Tok :=
  broadcastInDim S4x4096x4x128 ![0, 1, 2, 3] bcast_S1x1x4x128_S4x4096x4x128_0_1_2_3 (broadcastInDim S1x1x4x128 ![2, 3] bcast_S4x128_S1x1x4x128_2_3 x)

/-- What the lower bounds leave of one. -/
def restV (L : FVec Ideal S2x512 .f32) : FVec Ideal S4x128 .f32 :=
  subf (broadcastInDim S4x128 ![] bcast_S_S4x128 (constant S_ .f32 0x3F800000#32)) (lowV L)

/-- The logarithms of the gates. -/
def gateV (A : FVec Ideal S4x4096x5632 .f32) (L : FVec Ideal S2x512 .f32) : Tok :=
  Host.log (maximumf (addf (allV (lowV L)) (mulf (allV (restV L)) (logiV (logitV A)))) (broadcastInDim S4x4096x4x128 ![] bcast_S_S4x4096x4x128 (constant S_ .f32 0x0DA24260#32)))

/-- The keys. -/
def keyV (A : FVec Ideal S4x4096x5632 .f32) (L : FVec Ideal S2x512 .f32) : Tok :=
  mulf (allV (restV L)) (logiV (Host.negf (logitV A)))

/-- The running sum of the gates' logarithms. -/
def sumV (A : FVec Ideal S4x4096x5632 .f32) (L : FVec Ideal S2x512 .f32) : Tok :=
  Host.reduceWindowAdd ![1, 4096, 1, 1] ![1, 1, 1, 1] ![0, 4095, 0, 0] ![0, 0, 0, 0] (gateV A L) (broadcastInDim S_ ![] bcast_S_S_ (constant S_ .f32 0x00000000#32)) reduceWindows_S4x4096x4x128_S4x4096x4x128_w1s1p0_0_w4096s1p4095_0_w1s1p0_0_w1s1p0_0 h_S_

/-- What the initial states give. -/
def beforeV (A : FVec Ideal S4x4096x5632 .f32) (L : FVec Ideal S2x512 .f32) (S : FVec Ideal S4x4x128x128 .f32) : Tok :=
  transpose S4x4096x4x128 [0, 3, 1, 2] (Host.dotGeneral dot_S4x4x128x128_S4x4096x4x128_S4x4x128x4096_2_3_3_1_01_02 none S (mulf (qV A) (Host.exp (sumV A L)))) transposes_S4x4x128x4096_S4x4096x4x128_0_3_1_2

/-- Per batch row, two tokens, head and channel. -/
abbrev Pair : Type := FVec Ideal S4x4096x4096x4x128 .f32

def atT (x : Tok) : Pair :=
  broadcastInDim S4x4096x4096x4x128 ![0, 1, 2, 3, 4] bcast_S4x4096x1x4x128_S4x4096x4096x4x128_0_1_2_3_4 (broadcastInDim S4x4096x1x4x128 ![0, 1, 3, 4] bcast_S4x4096x4x128_S4x4096x1x4x128_0_1_3_4 x)
def atS (x : Tok) : Pair :=
  broadcastInDim S4x4096x4096x4x128 ![0, 1, 2, 3, 4] bcast_S4x1x4096x4x128_S4x4096x4096x4x128_0_1_2_3_4 (broadcastInDim S4x1x4096x4x128 ![0, 2, 3, 4] bcast_S4x4096x4x128_S4x1x4096x4x128_0_2_3_4 x)

/-- Which tokens do not stand behind which. -/
def maskV : IVec S4x4096x4096x4x128 1 :=
  broadcastInDim S4x4096x4096x4x128 ![1, 2, 3, 4] bcast_S4096x4096x1x1_S4x4096x4096x4x128_1_2_3_4 (broadcastInDim S4096x4096x1x1 ![0, 1] bcast_S4096x4096_S4096x4096x1x1_0_1
    (select (cmpi .sge (addi (iotaInDim S4096x4096 32 0) (broadcastInDim S4096x4096 ![] bcast_S_S4096x4096 (constantI S_ 32 0#32))) (iotaInDim S4096x4096 32 1))
      (broadcastInDim S4096x4096 ![] bcast_S_S4096x4096 (constantI S_ 1 1#1)) (broadcastInDim S4096x4096 ![] bcast_S_S4096x4096 (constantI S_ 1 0#1))))

/-- The decay from one token to a later one. -/
def decayV (A : FVec Ideal S4x4096x5632 .f32) (L : FVec Ideal S2x512 .f32) : Pair :=
  select maskV (Host.exp (minimumf (subf (atT (sumV A L)) (atS (sumV A L))) (broadcastInDim S4x4096x4096x4x128 ![] bcast_S_S4x4096x4096x4x128 (constant S_ .f32 0x00000000#32))))
    (broadcastInDim S4x4096x4096x4x128 ![] bcast_S_S4x4096x4096x4x128 (id (constant S_ .f32 0x00000000#32)))

/-- The weight each token has for each. -/
def weightV (A : FVec Ideal S4x4096x5632 .f32) (L : FVec Ideal S2x512 .f32) : FVec Ideal S4x4096x4096x4 .f32 :=
  Host.reduceAdd (mulf (mulf (atT (qV A)) (atS (keyV A L))) (decayV A L)) (constant S_ .f32 0x00000000#32) reducesTo_S4x4096x4096x4x128_S4x4096x4096x4_d4 h_S_

/-- The results before the norm. -/
def oV (A : FVec Ideal S4x4096x5632 .f32) (L : FVec Ideal S2x512 .f32) (S : FVec Ideal S4x4x128x128 .f32) : Tok :=
  addf (beforeV A L S) (transpose S4x4096x4x128 [0, 3, 1, 2] (Host.dotGeneral dot_S4x4096x4x128_S4x4096x4096x4_S4x4x128x4096_1_2_3_1_02_03 none (valV A) (weightV A L)) transposes_S4x4x128x4096_S4x4096x4x128_0_3_1_2)

/-- The decay's logarithm over all tokens. -/
def lastV (A : FVec Ideal S4x4096x5632 .f32) (L : FVec Ideal S2x512 .f32) : FVec Ideal S4x4x128 .f32 :=
  shapeCast _ (extractStridedSlice S4x1x4x128 ![0, 4095, 0, 0] (sumV A L) slices_S4x4096x4x128_S4x1x4x128_0_4095_0_0) shapeCasts_S4x1x4x128_S4x4x128

/-- The keys, decayed up to the last token. -/
def endV (A : FVec Ideal S4x4096x5632 .f32) (L : FVec Ideal S2x512 .f32) : Tok :=
  mulf (keyV A L) (Host.exp (subf (broadcastInDim S4x4096x4x128 ![0, 1, 2, 3] bcast_S4x1x4x128_S4x4096x4x128_0_1_2_3 (broadcastInDim S4x1x4x128 ![0, 2, 3] bcast_S4x4x128_S4x1x4x128_0_2_3 (lastV A L))) (sumV A L)))

/-- The states after all tokens. -/
def stV (A : FVec Ideal S4x4096x5632 .f32) (L : FVec Ideal S2x512 .f32) (S : FVec Ideal S4x4x128x128 .f32) : FVec Ideal S4x4x128x128 .f32 :=
  addf (mulf (broadcastInDim S4x4x128x128 ![0, 1, 2, 3] bcast_S4x4x128x1_S4x4x128x128_0_1_2_3 (broadcastInDim S4x4x128x1 ![0, 1, 2] bcast_S4x4x128_S4x4x128x1_0_1_2 (Host.exp (lastV A L)))) S)
    (Host.dotGeneral dot_S4x4096x4x128_S4x4096x4x128_S4x4x128x128_1_1_3_3_02_02 none (endV A L) (valV A))

/-- The norm over the channels of a head, the scale and the gate. -/
def normV (O G : Tok) (W : FVec Ideal S128 .f32) : Tok :=
  mulf (mulf (mulf O (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf O O) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x3727C5AC#32))))))
    (broadcastInDim S4x4096x4x128 ![0, 1, 2, 3] bcast_S1x1x1x128_S4x4096x4x128_0_1_2_3 (broadcastInDim S1x1x1x128 ![3] bcast_S128_S1x1x1x128_3 W))) (mulf G (logiV G))

def outV (A : FVec Ideal S4x4096x5632 .f32) (L : FVec Ideal S2x512 .f32) (S : FVec Ideal S4x4x128x128 .f32) (W : FVec Ideal S128 .f32) : FVec Ideal S4x4096x512 .f32 :=
  shapeCast _ (normV (oV A L S) (gV A) W) shapeCasts_S4x4096x4x128_S4x4096x512

theorem res_out (m : (ℓ : Loc nD τ sig) → Buf (Elt Ideal) ℓ) (c : Dev nD) :
    Value.res_main_v110 (F := Ideal) m c = outV (m ((c.tc : Thread nD τ).loc main_arg0)) (m ((c.tc : Thread nD τ).loc main_arg1)) (m ((c.tc : Thread nD τ).loc main_arg2)) (m ((c.tc : Thread nD τ).loc main_arg3)) := rfl

theorem res_st (m : (ℓ : Loc nD τ sig) → Buf (Elt Ideal) ℓ) (c : Dev nD) :
    Value.res_main_v94 (F := Ideal) m c = stV (m ((c.tc : Thread nD τ).loc main_arg0)) (m ((c.tc : Thread nD τ).loc main_arg1)) (m ((c.tc : Thread nD τ).loc main_arg2)) := rfl

/-! ## The stages at an index -/

theorem q_at (A : FVec Ideal S4x4096x5632 .f32) (b : Fin 4) (t : Fin 4096) (h : Fin 4) (x : Fin 128) :
    qV A (ix4 b t h x) = A (ix3 b t ⟨(ch h x).val, by omega⟩) := by
  pointwise [qV]
theorem logit_at (A : FVec Ideal S4x4096x5632 .f32) (b : Fin 4) (t : Fin 4096) (h : Fin 4) (x : Fin 128) :
    logitV A (ix4 b t h x) = A (ix3 b t ⟨512 + (ch h x).val, by omega⟩) := by
  pointwise [logitV]
theorem val_at (A : FVec Ideal S4x4096x5632 .f32) (b : Fin 4) (t : Fin 4096) (h : Fin 4) (x : Fin 128) :
    valV A (ix4 b t h x) = A (ix3 b t ⟨1024 + (ch h x).val, by omega⟩) := by
  pointwise [valV]
theorem g_at (A : FVec Ideal S4x4096x5632 .f32) (b : Fin 4) (t : Fin 4096) (h : Fin 4) (x : Fin 128) :
    gV A (ix4 b t h x) = A (ix3 b t ⟨1536 + (ch h x).val, by omega⟩) := by
  pointwise [gV]

theorem max_at (L : FVec Ideal S2x512 .f32) (e : Fin 512) : maxV L (ix1 e) = max (L (ix2 0 e)) (L (ix2 1 e)) := by
  have hb : Ideal.ofBits FTy.f32 0xFF800000#32 = ⊥ := by
    simp only [Ideal.ofBits, Ideal.ieee]
    rw [if_pos (by decide), if_pos (by decide), if_pos (by decide)]
  rw [← fold_two fun i => L (ix2 i e)]
  refine Eq.trans ?_ (max_bot_left _)
  rw [← hb]
  pointwise [maxV]

theorem exp_at (L : FVec Ideal S2x512 .f32) (i : Fin 2) (e : Fin 512) : expV L (ix2 i e) = Ideal.exp (L (ix2 i e) - maxV L (ix1 e)) := by
  pointwise [expV]

theorem sm_at (L : FVec Ideal S2x512 .f32) (i : Fin 2) (e : Fin 512) :
    smV L (ix2 i e) = Ideal.div (expV L (ix2 i e)) (expV L (ix2 0 e) + expV L (ix2 1 e)) := by
  rw [← Fin.sum_univ_two fun j => expV L (ix2 j e)]
  pointwise [smV]

theorem cum_at (L : FVec Ideal S2x512 .f32) (e : Fin 512) : cumV L (ix2 1 e) = smV L (ix2 0 e) + smV L (ix2 1 e) := by
  unfold cumV
  refine (HgrnWindow.window2 (P := 1) rfl (smV L) _ _ _ (by pointwise) 1 e (fun n => smV L (ix2 ⟨n % 2, Nat.mod_lt _ (by decide)⟩ e)) fun n => ?_).trans ?_
  · congr 2; exact Fin.ext (Nat.mod_eq_of_lt n.isLt).symm
  · show ∑ n ∈ Finset.range 2, _ = _
    rw [Finset.sum_range_succ, Finset.sum_range_one]
    rfl

theorem low_at (A : FVec Ideal S4x4096x5632 .f32) (L : FVec Ideal S2x512 .f32) (hA : Fins A L) (h : Fin 4) (x : Fin 128) :
    lowV L (ix2 h x) = ((low L (ch h x) : ℝ) : EReal) := by
  have e : lowV L (ix2 h x) = cumV L (ix2 1 (ch h x)) - smV L (ix2 0 (ch h x)) := by pointwise [lowV]
  rw [e, cum_at, sm_at, sm_at, exp_at, exp_at]
  exact low_of A L hA (ch h x) _ (max_at L _)

theorem logi_at (Y : Tok) (b : Fin 4) (t : Fin 4096) (h : Fin 4) (x : Fin 128) : logiV Y (ix4 b t h x) = Ideal.logistic (Y (ix4 b t h x)) := by
  unfold Ideal.logistic
  rw [← Ideal.ofBits_one_f32]
  pointwise [logiV, oneV]

theorem rest_at (L : FVec Ideal S2x512 .f32) (h : Fin 4) (x : Fin 128) : restV L (ix2 h x) = 1 - lowV L (ix2 h x) := by
  pointwise [restV]

theorem all_at (X : FVec Ideal S4x128 .f32) (b : Fin 4) (t : Fin 4096) (h : Fin 4) (x : Fin 128) : allV X (ix4 b t h x) = X (ix2 h x) := by
  pointwise [allV]

end Cert.Proof.HgrnRef

end
-- ==== Proof.HgrnRefAt.lean ====
/- The gated recurrence's reference at an index: gates, keys, running sums, weights, results and last states, and that its two
   result arrays are the heads'. -/
module

public import proofs.«01_k».proof.Proof.HgrnRef
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.HgrnRefIdeal Cert.HgrnRefIdeal.Gen
open Cert.Proof.HgrnMath
open Cert.Proof.Hgrn (Fins ch tok tok_eq low gate key gate_coe key_coe headOf outs sts)

namespace Cert.Proof.HgrnRef

section
variable {A : FVec Ideal S4x4096x5632 .f32} {L : FVec Ideal S2x512 .f32} (hA : Fins A L) (S : FVec Ideal S4x4x128x128 .f32)
include hA

theorem qr_at (b : Fin 4) (t : Fin 4096) (h : Fin 4) (x : Fin 128) :
    qV A (ix4 b t h x) = (((headOf A L S b h).q t.val x : ℝ) : EReal) := by
  obtain ⟨r, hr⟩ := hA.q b t (ch h x)
  rw [q_at]
  show _ = ((A (ix3 b (tok t.val) _)).toReal : EReal)
  rw [tok_eq t.val t.isLt]
  exact (hr.trans (congrArg _ (by rw [hr, EReal.toReal_coe])))

theorem valr_at (b : Fin 4) (t : Fin 4096) (h : Fin 4) (x : Fin 128) :
    valV A (ix4 b t h x) = (((headOf A L S b h).v t.val x : ℝ) : EReal) := by
  obtain ⟨r, hr⟩ := hA.v b t (ch h x)
  rw [val_at]
  show _ = ((A (ix3 b (tok t.val) _)).toReal : EReal)
  rw [tok_eq t.val t.isLt]
  exact (hr.trans (congrArg _ (by rw [hr, EReal.toReal_coe])))

theorem gate_at (b : Fin 4) (t : Fin 4096) (h : Fin 4) (x : Fin 128) :
    gateV A L (ix4 b t h x) = (((headOf A L S b h).lf t.val x : ℝ) : EReal) := by
  have e : gateV A L (ix4 b t h x) = Ideal.log (max (allV (lowV L) (ix4 b t h x) + allV (restV L) (ix4 b t h x) * logiV (logitV A) (ix4 b t h x)) least) := by
    pointwise [gateV]
  rw [e, all_at, all_at, rest_at, low_at A L hA, logi_at, logit_at]
  show gate L (ch h x) _ = ((gate L (ch h x) (A (ix3 b (tok t.val) _))).toReal : EReal)
  rw [tok_eq t.val t.isLt]
  exact gate_coe _ _ _

theorem key_at (b : Fin 4) (t : Fin 4096) (h : Fin 4) (x : Fin 128) :
    keyV A L (ix4 b t h x) = (((headOf A L S b h).kk t.val x : ℝ) : EReal) := by
  have e : keyV A L (ix4 b t h x) = allV (restV L) (ix4 b t h x) * logiV (Host.negf (logitV A)) (ix4 b t h x) := by
    pointwise [keyV]
  have e' : Host.negf (logitV A) (ix4 b t h x) = -(logitV A (ix4 b t h x)) := by pointwise
  rw [e, all_at, rest_at, low_at A L hA, logi_at, e', logit_at]
  show key L (ch h x) _ = ((key L (ch h x) (A (ix3 b (tok t.val) _))).toReal : EReal)
  rw [tok_eq t.val t.isLt]
  exact key_coe _ _ _

theorem sum_at (b : Fin 4) (t : Fin 4096) (h : Fin 4) (x : Fin 128) :
    sumV A L (ix4 b t h x) = (((headOf A L S b h).M (t.val + 1) x : ℝ) : EReal) := by
  unfold sumV
  refine (HgrnWindow.window4 (P := 4095) rfl (gateV A L) _ _ _ (by pointwise) b t h x (fun n => (((headOf A L S b h).lf n x : ℝ) : EReal)) fun n => ?_).trans ?_
  · exact gate_at hA S b n h x
  · rw [SbMath.coe_sum, Head.M]

theorem before_at (b : Fin 4) (t : Fin 4096) (h : Fin 4) (j : Fin 128) :
    beforeV A L S (ix4 b t h j)
      = ∑ k : Fin 128, (((headOf A L S b h).q t.val k * Real.exp ((headOf A L S b h).M (t.val + 1) k) : ℝ) : EReal) * S (ix4 b h k j) := by
  have e : beforeV A L S (ix4 b t h j) = ∑ k : Fin 128, S (ix4 b h k j) * (qV A (ix4 b t h k) * Ideal.exp (sumV A L (ix4 b t h k))) := by
    have h1 : ∀ k : Fin 128, mulf (qV A) (Host.exp (sumV A L)) (ix4 b t h k) = qV A (ix4 b t h k) * Ideal.exp (sumV A L (ix4 b t h k)) := fun k => by
      generalize qV A = X
      generalize sumV A L = Y
      pointwise
    rw [← Finset.sum_congr rfl fun k _ => congrArg (S (ix4 b h k j) * ·) (h1 k)]
    unfold beforeV
    generalize mulf (qV A) (Host.exp (sumV A L)) = Y
    pointwise
  rw [e]
  refine Finset.sum_congr rfl fun k _ => ?_
  rw [qr_at hA S, sum_at hA S, Ideal.exp_coe, ← EReal.coe_mul, mul_comm]

omit hA in
theorem mask_at (b : Fin 4) (t s : Fin 4096) (h : Fin 4) (k : Fin 128) (x y : EReal) :
    Scalar.select (maskV (ix5 b t s h k)) x y = if s.val ≤ t.val then x else y := by
  pointwise [maskV]
  rw [show IntOp.addi (BitVec.ofNat 32 t.val) 0#32 = BitVec.ofNat 32 t.val from BitVec.add_zero _, WordCmp.cmpi_sge_ofNat (by omega) (by omega)]
  by_cases h : s.val ≤ t.val <;> simp [Scalar.select, h]

theorem decay_at (b : Fin 4) (t s : Fin 4096) (h : Fin 4) (k : Fin 128) :
    decayV A L (ix5 b t s h k)
      = ((if s.val ≤ t.val then Real.exp (min ((headOf A L S b h).M (t.val + 1) k - (headOf A L S b h).M (s.val + 1) k) 0) else 0 : ℝ) : EReal) := by
  have e : decayV A L (ix5 b t s h k) = Scalar.select (maskV (ix5 b t s h k)) (Ideal.exp (min (sumV A L (ix4 b t h k) - sumV A L (ix4 b s h k)) 0)) (0 : EReal) := by
    pointwise [decayV, atT, atS]
    exact congrArg (Scalar.select _ _) Ideal.ofBits_zero_f32
  rw [e, mask_at, sum_at hA S, sum_at hA S, ← EReal.coe_sub, Hgrn.coe_min, Ideal.exp_coe]
  split
  · rfl
  · exact EReal.coe_zero.symm

theorem weight_at (b : Fin 4) (t s : Fin 4096) (h : Fin 4) :
    weightV A L (ix4 b t s h) = ((if s.val ≤ t.val then (headOf A L S b h).w t.val s.val else 0 : ℝ) : EReal) := by
  have e : weightV A L (ix4 b t s h) = ∑ k : Fin 128, qV A (ix4 b t h k) * keyV A L (ix4 b s h k) * decayV A L (ix5 b t s h k) := by
    pointwise [weightV, atT, atS]
  rw [e]
  refine (Finset.sum_congr rfl (g := fun k => (((headOf A L S b h).q t.val k * (headOf A L S b h).kk s.val k
    * (if s.val ≤ t.val then Real.exp (min ((headOf A L S b h).M (t.val + 1) k - (headOf A L S b h).M (s.val + 1) k) 0) else 0) : ℝ) : EReal)) fun k _ => ?_).trans ?_
  · rw [qr_at hA S, key_at hA S, decay_at hA S, ← EReal.coe_mul, ← EReal.coe_mul]
  · rw [SbMath.coe_sum, Head.w]
    split
    · rfl
    · simp only [mul_zero, Finset.sum_const_zero]

theorem o_at (b : Fin 4) (t : Fin 4096) (h : Fin 4) (j : Fin 128) : oV A L S (ix4 b t h j) = (headOf A L S b h).out t.val j := by
  have e : oV A L S (ix4 b t h j) = beforeV A L S (ix4 b t h j) + ∑ s : Fin 4096, valV A (ix4 b s h j) * weightV A L (ix4 b t s h) := by
    pointwise [oV]
  rw [e, before_at hA S, Head.out]
  refine congrArg _ ?_
  have hf : ∀ s : Fin 4096, valV A (ix4 b s h j) * weightV A L (ix4 b t s h)
      = (fun n : ℕ => (((if n ≤ t.val then (headOf A L S b h).w t.val n else 0) * (headOf A L S b h).v n j : ℝ) : EReal)) s.val := fun s => by
    rw [valr_at hA S, weight_at hA S, ← EReal.coe_mul, mul_comm]
  have ht := t.isLt
  rw [Finset.sum_congr rfl fun s _ => hf s, Fin.sum_univ_eq_sum_range (fun n : ℕ => (((if n ≤ t.val then (headOf A L S b h).w t.val n else 0) * (headOf A L S b h).v n j : ℝ) : EReal)) 4096, SbMath.coe_sum,
    ← Finset.sum_subset (s₁ := Finset.range (t.val + 1)) (fun s hs => by simp only [Finset.mem_range] at *; omega)
      (fun s _ hs => by rw [if_neg (by simp only [Finset.mem_range] at hs; omega), zero_mul])]
  exact congrArg _ (Finset.sum_congr rfl fun s hs => by rw [if_pos (by simp only [Finset.mem_range] at hs; omega)])

theorem last_at (b h : Fin 4) (k : Fin 128) : lastV A L (ix3 b h k) = (((headOf A L S b h).M 4096 k : ℝ) : EReal) := by
  have e : lastV A L (ix3 b h k) = sumV A L (ix4 b ⟨4095, by omega⟩ h k) := by pointwise [lastV]
  rw [e, sum_at hA S]

theorem end_at (b : Fin 4) (t : Fin 4096) (h : Fin 4) (k : Fin 128) :
    endV A L (ix4 b t h k) = (((headOf A L S b h).kk t.val k * Real.exp ((headOf A L S b h).M 4096 k - (headOf A L S b h).M (t.val + 1) k) : ℝ) : EReal) := by
  have e : endV A L (ix4 b t h k) = keyV A L (ix4 b t h k) * Ideal.exp (lastV A L (ix3 b h k) - sumV A L (ix4 b t h k)) := by
    pointwise [endV]
  rw [e, key_at hA S, last_at hA S, sum_at hA S, ← EReal.coe_sub, Ideal.exp_coe, ← EReal.coe_mul]

theorem st_at (b h : Fin 4) (k j : Fin 128) : stV A L S (ix4 b h k j) = (headOf A L S b h).st 4096 k j := by
  have e : stV A L S (ix4 b h k j) = Ideal.exp (lastV A L (ix3 b h k)) * S (ix4 b h k j) + ∑ s : Fin 4096, endV A L (ix4 b s h k) * valV A (ix4 b s h j) := by
    pointwise [stV]
  rw [e, last_at hA S, Ideal.exp_coe, Head.st, Head.C]
  refine congrArg _ ?_
  rw [← SbMath.coe_sum, ← Fin.sum_univ_eq_sum_range (fun s => (((headOf A L S b h).kk s k * Real.exp ((headOf A L S b h).M 4096 k - (headOf A L S b h).M (s + 1) k) * (headOf A L S b h).v s j : ℝ) : EReal)) 4096]
  exact Finset.sum_congr rfl fun s _ => by rw [end_at hA S, valr_at hA S, ← EReal.coe_mul]
end

theorem norm_at (O G : Tok) (W : FVec Ideal S128 .f32) (b : Fin 4) (t : Fin 4096) (h : Fin 4) (j : Fin 128) :
    normV O G W (ix4 b t h j) = Hgrn.fin (fun x => O (ix4 b t h x)) (W (ix1 j)) (G (ix4 b t h j)) j := by
  unfold Hgrn.fin
  rw [← logi_at]
  pointwise [normV]

/-- The reference's first result. -/
theorem ref_out (A : FVec Ideal S4x4096x5632 .f32) (L : FVec Ideal S2x512 .f32) (S : FVec Ideal S4x4x128x128 .f32) (W : FVec Ideal S128 .f32)
    (hA : Fins A L) : outV A L S W = outs A L S W := by
  funext i
  obtain ⟨b, t, e, rfl⟩ : ∃ (b : Fin 4) (t : Fin 4096) (e : Fin 512), i = ix3 b t e := ⟨i 0, i 1, i 2, by funext a; match a with | ⟨0, _⟩ => rfl | ⟨1, _⟩ => rfl | ⟨2, _⟩ => rfl⟩
  obtain ⟨h, j, rfl⟩ : ∃ (h : Fin 4) (j : Fin 128), e = ch h j :=
    ⟨⟨e.val / 128, by omega⟩, ⟨e.val % 128, by omega⟩, Fin.ext (by show e.val = e.val / 128 * 128 + e.val % 128; omega)⟩
  have hh : (⟨(ch h j).val / 128, by omega⟩ : Fin 4) = h := Fin.ext (by show (h.val * 128 + j.val) / 128 = h.val; omega)
  have hj : (⟨(ch h j).val % 128, by omega⟩ : Fin 128) = j := Fin.ext (by show (h.val * 128 + j.val) % 128 = j.val; omega)
  have e1 : outV A L S W (ix3 b t (ch h j)) = normV (oV A L S) (gV A) W (ix4 b t h j) := by
    unfold outV
    generalize normV (oV A L S) (gV A) W = Y
    have e0 : shapeCast S4x4096x512 Y shapeCasts_S4x4096x4x128_S4x4096x512 (ix3 b t (ch h j)) = Y (ix4 b t ⟨(ch h j).val / 128, by omega⟩ ⟨(ch h j).val % 128, by omega⟩) := by pointwise
    rw [e0, hh, hj]
  have e2 : outs A L S W (ix3 b t (ch h j)) = Hgrn.fin ((headOf A L S b ⟨(ch h j).val / 128, by omega⟩).out t.val) (W (ix1 ⟨(ch h j).val % 128, by omega⟩))
    (A (ix3 b t ⟨1536 + (ch h j).val, by omega⟩)) ⟨(ch h j).val % 128, by omega⟩ := rfl
  rw [e1, e2, hh, hj, norm_at, g_at]
  exact congrArg (fun o => Hgrn.fin o _ _ _) (funext fun x => o_at hA S b t h x)

/-- The reference's second result. -/
theorem ref_st (A : FVec Ideal S4x4096x5632 .f32) (L : FVec Ideal S2x512 .f32) (S : FVec Ideal S4x4x128x128 .f32)
    (hA : Fins A L) : stV A L S = sts A L S := by
  funext i
  obtain ⟨b, h, k, j, rfl⟩ : ∃ (b h : Fin 4) (k j : Fin 128), i = ix4 b h k j :=
    ⟨i 0, i 1, i 2, i 3, by funext a; match a with | ⟨0, _⟩ => rfl | ⟨1, _⟩ => rfl | ⟨2, _⟩ => rfl | ⟨3, _⟩ => rfl⟩
  exact st_at hA S b h k j

end Cert.Proof.HgrnRef

end
-- ==== Proof.HgrnClaim.lean ====
/- The gated recurrence: what its precondition says, and the claims about it. -/
module

public import proofs.«01_k».proof.Proof.Gen.HgrnIdeal.Value
public import proofs.«01_k».proof.Proof.Gen.HgrnRefIdeal.Run
public import proofs.«01_k».proof.Defs
public import proofs.«01_k».proof.Proof.Gen.Hgrn.Frame
public import proofs.«01_k».proof.Proof.HgrnState
public import proofs.«01_k».proof.Proof.HgrnRefAt
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Hgrn

open Cert.HgrnIdeal Cert.HgrnIdeal.Gen

/-- The side conditions of the precondition. -/
theorem preFacts : Cert.Pre_finite_qv_lb.Facts :=
  ⟨by decide, by decide, by decide, by decide, by decide, by decide, by decide, by decide, by decide⟩

/-- A number whose absolute value is below infinity is real. -/
theorem real_of_lt (x : EReal) (h : FloatOps.absf (F := Ideal) (φ := .f32) x < Ideal.ofBits FTy.f32 2139095040#32) : ∃ r : ℝ, x = (r : EReal) := by
  rw [Ideal.absf_def] at h
  have hmax : max x (-x) < (⊤ : EReal) := lt_top_of_lt h
  obtain ⟨h1, h2⟩ := max_lt_iff.mp hmax
  exact ⟨_, (EReal.coe_toReal h1.ne fun hb => by rw [hb, EReal.neg_bot] at h2; exact lt_irrefl _ h2).symm⟩

theorem both_one : ∀ x y : BitVec 1, IntOp.andi x y = 1#1 → x = 1#1 ∧ y = 1#1 := by decide

theorem of_bit (p : Prop) [Decidable p] (h : BitVec.ofBool (decide p) = 1#1) : p := by
  by_contra hn
  rw [decide_eq_false hn] at h
  exact absurd h (by decide)

/-- The precondition says that the queries, the values and the lower bounds' logits are finite. -/
theorem pre_at (A : Proj) (L : Lbs) (S : States) (W : Scale)
    (h : (haveI := preFacts; Cert.Pre_finite_qv_lb.fn (F := Ideal) A L S W) = fun _ => 1#1) (b : Fin 4) (t : Fin 4096) (e : Fin 512) :
    (∃ r : ℝ, A (ix3 b t ⟨e.val, by omega⟩) = (r : EReal)) ∧ (∃ r : ℝ, A (ix3 b t ⟨1024 + e.val, by omega⟩) = (r : EReal))
      ∧ (∃ r : ℝ, L (ix2 0 e) = (r : EReal)) ∧ (∃ r : ℝ, L (ix2 1 e) = (r : EReal)) := by
  have h1 := congrFun h (ix3 b t e)
  haveI := preFacts
  pointwise [Cert.Pre_finite_qv_lb.fn, Cert.Pre_finite_qv_lb.fn_part1] at h1
  obtain ⟨h2, hy⟩ := both_one _ _ h1
  obtain ⟨h3, hx⟩ := both_one _ _ h2
  obtain ⟨hq, hv⟩ := both_one _ _ h3
  exact ⟨real_of_lt _ (of_bit _ hq), real_of_lt _ (of_bit _ hv), real_of_lt _ (of_bit _ hx), real_of_lt _ (of_bit _ hy)⟩

theorem fins_of_pre (A : Proj) (L : Lbs) (S : States) (W : Scale)
    (h : (haveI := preFacts; Cert.Pre_finite_qv_lb.fn (F := Ideal) A L S W) = fun _ => 1#1) : Fins A L where
  q b t e := (pre_at A L S W h b t e).1
  v b t e := (pre_at A L S W h b t e).2.1
  l i e := by
    match i with
    | ⟨0, _⟩ => exact (pre_at A L S W h 0 0 e).2.2.1
    | ⟨1, _⟩ => exact (pre_at A L S W h 0 0 e).2.2.2

/-! ## The claims -/

/-- The kernel and its idealization leave every semaphore at zero and the arguments as they were, with or without the
    precondition. -/
theorem frame : Cert.quiescent_Hgrn := fun m ρ _ => Cert.Hgrn.Gen.frame m ρ
theorem frame_ideal : Cert.quiescent_HgrnIdeal := fun m ρ _ => Cert.HgrnIdeal.Gen.frame m ρ
theorem frame_ideal_pre : Cert.quiescent_HgrnIdeal_pre_finite_qv_lb (hPre_finite_qv_lb := preFacts) := fun m ρ _ => Cert.HgrnIdeal.Gen.frame m ρ

/-- The reference leaves the arguments as they were and has no semaphore, with or without the precondition. -/
theorem frame_ref : Cert.quiescent_HgrnRefIdeal := fun m ρ _ =>
  (θ_run Cert.HgrnRefIdeal.defs _ _).mono (fun r h => ⟨fun c => (h c).2.2, sem_eq_zero_of_no_sems (by decide) r.2⟩)
    (Cert.HgrnRefIdeal.Value.run (F := Ideal) m ρ)
theorem frame_ref_pre : Cert.quiescent_HgrnRefIdeal_pre_finite_qv_lb (hPre_finite_qv_lb := preFacts) := fun m ρ _ => frame_ref m ρ trivial

/-- The idealization rewrote nothing. -/
theorem preserves : Cert.preserves_Hgrn_HgrnIdeal := trivial

/-- Over the extended reals, with finite queries, values and lower bounds' logits, the kernel and the reference end with the same
    results and the same states. -/
theorem algebraic : Cert.algebraic_HgrnIdeal_HgrnRefIdeal_pre_finite_qv_lb (hPre_finite_qv_lb := preFacts) := by
  intro m ρ m' ρ' hpre hag
  have hA : ∀ c, Fins (argA m c) (argL m c) := fun c => fins_of_pre _ _ _ _ (hpre c)
  refine ⟨fun c => outs (argA m c) (argL m c) (argS m c) (argW m c), fun c => sts (argA m c) (argL m c) (argS m c),
    (θ_run _ _ _).mono (fun r h c => ⟨(h c).1.trans (final7 m hA c), (h c).2.1.trans (final8 m hA c), (h c).2.2⟩) (Value.run_blocks m ρ),
    (θ_run _ _ _).mono (fun r h c => ⟨(h c).1.trans ?_, (h c).2.1.trans ?_, (h c).2.2⟩) (Cert.HgrnRefIdeal.Value.run (F := Ideal) m' ρ')⟩
  · obtain ⟨e0, e1, e2, e3⟩ := hag c
    rw [HgrnRef.res_out, e0, e1, e2, e3]
    exact HgrnRef.ref_out _ _ _ _ (hA c)
  · obtain ⟨e0, e1, e2, -⟩ := hag c
    rw [HgrnRef.res_st, e0, e1, e2]
    exact HgrnRef.ref_st _ _ _ (hA c)

end Cert.Proof.Hgrn

end
-- ==== Proof.ConvBody.lean ====
/- The convolution and gate of the feed-forward: what one grid point writes, over the blocks it loads. -/
module

public import proofs.«01_k».proof.Proof.Gen.ConvIdeal.Value
public import Idealize.ShloMosaic.Lib.Pointwise

@[expose] public section

set_option maxRecDepth 16384

noncomputable section

open Idealize.ShloMosaic Idealize.ShloMosaic.TcCoe Idealize.SL.Sem
open Cert.ConvIdeal Cert.ConvIdeal.Gen

namespace Cert.Proof.Conv

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- What a load of a rectangle of a buffer reads. -/
abbrev part {s : Shape} {off sz : Fin s.rank → ℕ} (inb : ∀ a, off a + sz a ≤ s.size a) (arg : Memref sig .tc .vmem s .f32)
    (harg : arg.IsWhole) (X : Vec Ideal s .f32) : Vec Ideal ⟨s.rank, sz⟩ .f32 :=
  View.readAt (Elt Ideal) arg.view (Rect.unit (s := s) off sz inb).toLoadRect (harg.unread X)

theorem part_eq {s : Shape} {off sz : Fin s.rank → ℕ} (inb : ∀ a, off a + sz a ≤ s.size a) (arg : Memref sig .tc .vmem s .f32)
    (harg : arg.IsWhole) (X : Vec Ideal s .f32) : part inb arg harg X = View.ld X (Rect.unit (s := s) off sz inb) :=
  congrArg (fun Y => View.ld Y (Rect.unit (s := s) off sz inb)) (harg.read_unread X)

/-- A tile of the first result from the rows loaded: the tile's own, the two before the sequence, the two before the tile, the bias,
    the three taps, the other half of the projection. -/
def tile_ (i : grid0.Coords) (x : Vec Ideal S1x256x2816 .f32) (p0 h6 p1 h7 : Vec Ideal S1x1x2816 .f32) (b c0 c1 c2 : Vec Ideal S1x2816 .f32)
    (y : Vec Ideal S1x256x2816 .f32) : Vec Ideal S1x256x2816 .bf16 :=
  k0_pay1 (k0_pay3 x) (k0_pay5 i x p1 h7) (k0_pay6 i x p0 h6 p1 h7) (k0_pay7 b) c0 c1 c2 y

/-- A tile of the first result from the blocks. -/
def tile (i : grid0.Coords) (x0 : Vec Ideal S1x256x2816 .f32) (x1 : Vec Ideal S1x8x2816 .f32) (x2 : Vec Ideal S1x256x2816 .f32) (x3 : Vec Ideal S1x2x2816 .f32) (x4 : Vec Ideal S3x2816 .f32) (x5 : Vec Ideal S1x2816 .f32) : Vec Ideal S1x256x2816 .bf16 :=
  tile_ i x0 (View.ld x3 (Rect.unit (s := S1x2x2816) ![0, 0, 0] S1x1x2816.size inb_S1x2x2816_S1x1x2816_0_0_0))
    (View.ld x1 (Rect.unit (s := S1x8x2816) ![0, 6, 0] S1x1x2816.size inb_S1x8x2816_S1x1x2816_0_6_0))
    (View.ld x3 (Rect.unit (s := S1x2x2816) ![0, 1, 0] S1x1x2816.size inb_S1x2x2816_S1x1x2816_0_1_0))
    (View.ld x1 (Rect.unit (s := S1x8x2816) ![0, 7, 0] S1x1x2816.size inb_S1x8x2816_S1x1x2816_0_7_0)) x5
    (View.ld x4 (Rect.unit (s := S3x2816) ![0, 0] S1x2816.size inb_S3x2816_S1x2816_0_0))
    (View.ld x4 (Rect.unit (s := S3x2816) ![1, 0] S1x2816.size inb_S3x2816_S1x2816_1_0))
    (View.ld x4 (Rect.unit (s := S3x2816) ![2, 0] S1x2816.size inb_S3x2816_S1x2816_2_0)) x2

/-- What a point writes of the first result (any but a row's last tile). -/
theorem outA (c : Dev nD) (i : grid0.Coords) (arg2 : Memref sig .tc .vmem S1x256x2816 .f32) (harg2 : arg2.IsWhole) (arg3 : Memref sig .tc .vmem S1x8x2816 .f32) (harg3 : arg3.IsWhole) (arg4 : Memref sig .tc .vmem S1x256x2816 .f32) (harg4 : arg4.IsWhole) (arg5 : Memref sig .tc .vmem S1x2x2816 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S1x256x2816 .bf16) (harg8 : arg8.IsWhole) (arg9 : Memref sig .tc .vmem S1x2x2816 .f32) (harg9 : arg9.IsWhole) (hc0 : ¬cond0_0 i)
    (x0 : Vec Ideal S1x256x2816 .f32) (x1 : Vec Ideal S1x8x2816 .f32) (x2 : Vec Ideal S1x256x2816 .f32) (x3 : Vec Ideal S1x2x2816 .f32) (x4 : Vec Ideal S3x2816 .f32) (x5 : Vec Ideal S1x2816 .f32) :
    out0_A_6 c i arg2 harg2 arg3 harg3 arg4 harg4 arg5 harg5 arg6 harg6 arg7 harg7 arg8 harg8 arg9 harg9 hc0 x0 x1 x2 x3 x4 x5 = tile i x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  rw [View.canon_unit_zero (S := S1x256x2816) zeros3]
  refine Eq.trans (b := tile_ i (part inb_S1x256x2816_S1x256x2816_0_0_0 arg2 harg2 x0) (part inb_S1x2x2816_S1x1x2816_0_0_0 arg5 harg5 x3) (part inb_S1x8x2816_S1x1x2816_0_6_0 arg3 harg3 x1) (part inb_S1x2x2816_S1x1x2816_0_1_0 arg5 harg5 x3) (part inb_S1x8x2816_S1x1x2816_0_7_0 arg3 harg3 x1) (part inb_S1x2816_S1x2816_0_0 arg7 harg7 x5) (part inb_S3x2816_S1x2816_0_0 arg6 harg6 x4) (part inb_S3x2816_S1x2816_1_0 arg6 harg6 x4) (part inb_S3x2816_S1x2816_2_0 arg6 harg6 x4) (part inb_S1x256x2816_S1x256x2816_0_0_0 arg4 harg4 x2)) rfl ?_
  unfold tile
  simp only [part_eq]
  rw [View.ld_unit_zero (S := S1x256x2816) zeros3, View.ld_unit_zero (S := S1x256x2816) zeros3, View.ld_unit_zero (S := S1x2816) zeros2]

/-- What a point writes of the first result (a row's last tile). -/
theorem outB (c : Dev nD) (i : grid0.Coords) (arg2 : Memref sig .tc .vmem S1x256x2816 .f32) (harg2 : arg2.IsWhole) (arg3 : Memref sig .tc .vmem S1x8x2816 .f32) (harg3 : arg3.IsWhole) (arg4 : Memref sig .tc .vmem S1x256x2816 .f32) (harg4 : arg4.IsWhole) (arg5 : Memref sig .tc .vmem S1x2x2816 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S1x256x2816 .bf16) (harg8 : arg8.IsWhole) (arg9 : Memref sig .tc .vmem S1x2x2816 .f32) (harg9 : arg9.IsWhole) (hc0 : cond0_0 i)
    (x0 : Vec Ideal S1x256x2816 .f32) (x1 : Vec Ideal S1x8x2816 .f32) (x2 : Vec Ideal S1x256x2816 .f32) (x3 : Vec Ideal S1x2x2816 .f32) (x4 : Vec Ideal S3x2816 .f32) (x5 : Vec Ideal S1x2816 .f32) :
    out0_B_6 c i arg2 harg2 arg3 harg3 arg4 harg4 arg5 harg5 arg6 harg6 arg7 harg7 arg8 harg8 arg9 harg9 hc0 x0 x1 x2 x3 x4 x5 = tile i x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5)]
  unfold kernelRun0_B
  dsimp only
  rw [View.canon_unit_zero (S := S1x256x2816) zeros3]
  refine Eq.trans (b := tile_ i (part inb_S1x256x2816_S1x256x2816_0_0_0 arg2 harg2 x0) (part inb_S1x2x2816_S1x1x2816_0_0_0 arg5 harg5 x3) (part inb_S1x8x2816_S1x1x2816_0_6_0 arg3 harg3 x1) (part inb_S1x2x2816_S1x1x2816_0_1_0 arg5 harg5 x3) (part inb_S1x8x2816_S1x1x2816_0_7_0 arg3 harg3 x1) (part inb_S1x2816_S1x2816_0_0 arg7 harg7 x5) (part inb_S3x2816_S1x2816_0_0 arg6 harg6 x4) (part inb_S3x2816_S1x2816_1_0 arg6 harg6 x4) (part inb_S3x2816_S1x2816_2_0 arg6 harg6 x4) (part inb_S1x256x2816_S1x256x2816_0_0_0 arg4 harg4 x2)) rfl ?_
  unfold tile
  simp only [part_eq]
  rw [View.ld_unit_zero (S := S1x256x2816) zeros3, View.ld_unit_zero (S := S1x256x2816) zeros3, View.ld_unit_zero (S := S1x2816) zeros2]

/-- What a row's last tile writes of the second result: its last two rows. -/
theorem lastB (c : Dev nD) (i : grid0.Coords) (arg2 : Memref sig .tc .vmem S1x256x2816 .f32) (harg2 : arg2.IsWhole) (arg3 : Memref sig .tc .vmem S1x8x2816 .f32) (harg3 : arg3.IsWhole) (arg4 : Memref sig .tc .vmem S1x256x2816 .f32) (harg4 : arg4.IsWhole) (arg5 : Memref sig .tc .vmem S1x2x2816 .f32) (harg5 : arg5.IsWhole) (arg6 : Memref sig .tc .vmem S3x2816 .f32) (harg6 : arg6.IsWhole) (arg7 : Memref sig .tc .vmem S1x2816 .f32) (harg7 : arg7.IsWhole) (arg8 : Memref sig .tc .vmem S1x256x2816 .bf16) (harg8 : arg8.IsWhole) (arg9 : Memref sig .tc .vmem S1x2x2816 .f32) (harg9 : arg9.IsWhole) (hc0 : cond0_0 i)
    (x0 : Vec Ideal S1x256x2816 .f32) (x1 : Vec Ideal S1x8x2816 .f32) (x2 : Vec Ideal S1x256x2816 .f32) (x3 : Vec Ideal S1x2x2816 .f32) (x4 : Vec Ideal S3x2816 .f32) (x5 : Vec Ideal S1x2816 .f32) :
    out0_B_7 c i arg2 harg2 arg3 harg3 arg4 harg4 arg5 harg5 arg6 harg6 arg7 harg7 arg8 harg8 arg9 harg9 hc0 x0 x1 x2 x3 x4 x5 = k0_pay2 (k0_pay3 x0) := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5)]
  unfold kernelRun0_B
  dsimp only
  rw [View.canon_unit_zero (S := S1x2x2816) zeros3]
  refine Eq.trans (b := k0_pay2 (k0_pay3 (part inb_S1x256x2816_S1x256x2816_0_0_0 arg2 harg2 x0))) rfl ?_
  rw [part_eq, View.ld_unit_zero (S := S1x256x2816) zeros3]

end Cert.Proof.Conv

end
-- ==== Proof.ConvValue.lean ====
/- The feed-forward's convolution, gelu and gate: the kernel's result arrays, the reference's, and the claims about them. -/
module

public import proofs.«01_k».proof.Proof.ConvBody
public import proofs.«01_k».proof.Proof.Gen.ConvRefIdeal.Run
public import proofs.«01_k».proof.Defs
public import proofs.«01_k».proof.Proof.Gen.Conv.Frame
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Conv

open Cert.ConvIdeal Cert.ConvIdeal.Gen

/-! ## What is computed -/

/-- The projection, the two rows before each sequence, the taps, the bias. -/
abbrev Up : Type := FVec Ideal S4x4096x5632 .f32
abbrev Prev : Type := FVec Ideal S4x2x2816 .f32
abbrev Taps : Type := FVec Ideal S3x2816 .f32
abbrev Bias : Type := FVec Ideal S2816 .f32

/-- Row `n` of the sequence with the two rows before it in front. -/
def ext (A : Up) (Q : Prev) (b : Fin 4) (n : ℕ) (hn : n < 4098) (e : Fin 2816) : EReal :=
  if h : n < 2 then Q (ix3 b ⟨n, h⟩ e) else A (ix3 b ⟨n - 2, by omega⟩ ⟨e.val, by omega⟩)

/-- The bias and three rows, each times its tap. -/
def conv (b c0 c1 c2 x0 x1 x2 : EReal) : EReal := b + c0 * x0 + c1 * x1 + c2 * x2

/-- Gelu of `q`, by the hyperbolic tangent, times `y`. -/
def gated (q y : EReal) : EReal :=
  q * (Ideal.ofBits FTy.f32 1056964608#32 * (1 + Ideal.tanh (Ideal.ofBits FTy.f32 1061962282#32
    * (q + Ideal.ofBits FTy.f32 1027024659#32 * (q * (q * q)))))) * y

/-- The same with the cube associated the other way. -/
def gated' (q y : EReal) : EReal :=
  q * (Ideal.ofBits FTy.f32 1056964608#32 * (1 + Ideal.tanh (Ideal.ofBits FTy.f32 1061962282#32
    * (q + Ideal.ofBits FTy.f32 1027024659#32 * (q * q * q))))) * y

theorem gated_eq (q y : EReal) : gated' q y = gated q y := by
  unfold gated' gated
  rw [mul_comm (q * q) q]

theorem gated_congr {b b' c0 c0' c1 c1' c2 c2' x0 x0' x1 x1' x2 x2' y y' : EReal} (hb : b = b') (h0 : c0 = c0') (h1 : c1 = c1') (h2 : c2 = c2')
    (g0 : x0 = x0') (g1 : x1 = x1') (g2 : x2 = x2') (hy : y = y') :
    gated (conv b c0 c1 c2 x0 x1 x2) y = gated (conv b' c0' c1' c2' x0' x1' x2') y' := by
  rw [hb, h0, h1, h2, g0, g1, g2, hy]

/-- The first result: the convolved rows through gelu, times the other half of the projection. -/
def out (A : Up) (Q : Prev) (W : Taps) (B : Bias) : FVec Ideal S4x4096x2816 .bf16 := fun i =>
  gated (conv (B (ix1 (i 2))) (W (ix2 0 (i 2))) (W (ix2 1 (i 2))) (W (ix2 2 (i 2)))
    (ext A Q (i 0) (i 1).val (Nat.lt_trans (i 1).isLt (show 4096 < 4098 by decide)) (i 2))
    (ext A Q (i 0) (1 + (i 1).val) (by have h : (i 1).val < 4096 := (i 1).isLt; omega) (i 2))
    (A (ix3 (i 0) (i 1) ⟨(i 2).val, Nat.lt_trans (i 2).isLt (show 2816 < 5632 by decide)⟩)))
    (A (ix3 (i 0) (i 1) ⟨2816 + (i 2).val, by have h : (i 2).val < 2816 := (i 2).isLt; omega⟩))

/-- The second result: the last two rows. -/
def last (A : Up) : FVec Ideal S4x2x2816 .f32 := fun i =>
  A (ix3 (i 0) ⟨4094 + (i 1).val, by have h : (i 1).val < 2 := (i 1).isLt; omega⟩ ⟨(i 2).val, Nat.lt_trans (i 2).isLt (show 2816 < 5632 by decide)⟩)

/-! ## The body at an index of the tile -/

theorem pay1_at (a a1 a2 : FVec Ideal S256x2816 .f32) (b c0 c1 c2 : Vec Ideal S1x2816 .f32) (y : Vec Ideal S1x256x2816 .f32) (r : Fin 256) (e : Fin 2816) :
    k0_pay1 a a1 a2 b c0 c1 c2 y (ix3 0 r e)
      = gated (conv (b (ix2 0 e)) (c0 (ix2 0 e)) (c1 (ix2 0 e)) (c2 (ix2 0 e)) (a2 (ix2 r e)) (a1 (ix2 r e)) (a (ix2 r e))) (y (ix3 0 r e)) := by
  pointwise [k0_pay1, gated, conv]

theorem pay3_at (x : Vec Ideal S1x256x2816 .f32) (r : Fin 256) (e : Fin 2816) : k0_pay3 x (ix2 r e) = x (ix3 0 r e) := by
  pointwise [k0_pay3]

theorem pay7_at (b : Vec Ideal S1x2816 .f32) (e : Fin 2816) : k0_pay7 b (ix2 0 e) = b (ix2 0 e) := by
  pointwise [k0_pay7]

theorem pay2_at (x : FVec Ideal S256x2816 .f32) (r : Fin 2) (e : Fin 2816) :
    k0_pay2 x (ix3 0 r e) = x (ix2 ⟨254 + r.val, by omega⟩ e) := by
  pointwise [k0_pay2]

/-- A choice by an equality of small numbers. -/
theorem choose {α : Type} (a b : ℕ) (ha : a < 4096) (hb : b < 4096) (x y : α) :
    Scalar.select (IntOp.cmpi .eq (BitVec.ofNat 32 a) (BitVec.ofNat 32 b)) x y = if a = b then x else y := by
  rw [WordCmp.cmpi_eq_ofNat (by omega) (by omega)]
  by_cases h : a = b <;> simp [Scalar.select, h]

/-- The row one before, and the row two before, of a tile. -/
theorem pay5_at (i : grid0.Coords) (x : Vec Ideal S1x256x2816 .f32) (p1 h7 : Vec Ideal S1x1x2816 .f32) (r : Fin 256) (e : Fin 2816) :
    k0_pay5 i x p1 h7 (ix2 r e) = if r.val = 0 then (if (i 1).val = 0 then p1 (ix3 0 0 e) else h7 (ix3 0 0 e))
      else x (ix3 0 ⟨(r.val + 256 - 1) % 256, by omega⟩ e) := by
  refine Eq.trans (b := Scalar.select (IntOp.cmpi .eq (BitVec.ofNat 32 r.val) (BitVec.ofNat 32 0))
    (Scalar.select (IntOp.cmpi .eq (BitVec.ofNat 32 (i 1).val) (BitVec.ofNat 32 0)) (p1 (ix3 0 0 e)) (h7 (ix3 0 0 e)))
    (x (ix3 0 ⟨(r.val + 256 - 1) % 256, by omega⟩ e))) (by pointwise [k0_pay5, k0_pay3, k0_pay4]; rfl) ?_
  have hi : (i 1).val < 16 := (i 1).isLt
  rw [choose _ _ (by omega) (by omega), choose _ _ (by omega) (by omega)]

theorem pay6_at (i : grid0.Coords) (x : Vec Ideal S1x256x2816 .f32) (p0 h6 p1 h7 : Vec Ideal S1x1x2816 .f32) (r : Fin 256) (e : Fin 2816) :
    k0_pay6 i x p0 h6 p1 h7 (ix2 r e) = if r.val = 0 then (if (i 1).val = 0 then p0 (ix3 0 0 e) else h6 (ix3 0 0 e))
      else if r.val = 1 then (if (i 1).val = 0 then p1 (ix3 0 0 e) else h7 (ix3 0 0 e))
      else x (ix3 0 ⟨(r.val + 256 - 2) % 256, by omega⟩ e) := by
  refine Eq.trans (b := Scalar.select (IntOp.cmpi .eq (BitVec.ofNat 32 r.val) (BitVec.ofNat 32 0))
    (Scalar.select (IntOp.cmpi .eq (BitVec.ofNat 32 (i 1).val) (BitVec.ofNat 32 0)) (p0 (ix3 0 0 e)) (h6 (ix3 0 0 e)))
    (Scalar.select (IntOp.cmpi .eq (BitVec.ofNat 32 r.val) (BitVec.ofNat 32 1))
      (Scalar.select (IntOp.cmpi .eq (BitVec.ofNat 32 (i 1).val) (BitVec.ofNat 32 0)) (p1 (ix3 0 0 e)) (h7 (ix3 0 0 e)))
      (x (ix3 0 ⟨(r.val + 256 - 2) % 256, by omega⟩ e)))) (by pointwise [k0_pay6, k0_pay3, k0_pay4]; rfl) ?_
  have hi : (i 1).val < 16 := (i 1).isLt
  rw [choose _ _ (by omega) (by omega), choose _ _ (by omega) (by omega), choose _ _ (by omega) (by omega), choose _ _ (by omega) (by omega)]

/-! ## The rows loaded of a block -/

theorem prev0_at (x : Vec Ideal S1x2x2816 .f32) (e : Fin 2816) :
    View.ld x (Rect.unit (s := S1x2x2816) ![0, 0, 0] S1x1x2816.size inb_S1x2x2816_S1x1x2816_0_0_0) (ix3 0 0 e) = x (ix3 0 0 e) := by
  refine congrArg x ?_
  funext a; apply Fin.ext
  match a with
  | ⟨0, _⟩ => rfl
  | ⟨1, _⟩ => rfl
  | ⟨2, _⟩ => show 0 + 1 * e.val = e.val; omega

theorem prev1_at (x : Vec Ideal S1x2x2816 .f32) (e : Fin 2816) :
    View.ld x (Rect.unit (s := S1x2x2816) ![0, 1, 0] S1x1x2816.size inb_S1x2x2816_S1x1x2816_0_1_0) (ix3 0 0 e) = x (ix3 0 1 e) := by
  refine congrArg x ?_
  funext a; apply Fin.ext
  match a with
  | ⟨0, _⟩ => rfl
  | ⟨1, _⟩ => rfl
  | ⟨2, _⟩ => show 0 + 1 * e.val = e.val; omega

theorem halo6_at (x : Vec Ideal S1x8x2816 .f32) (e : Fin 2816) :
    View.ld x (Rect.unit (s := S1x8x2816) ![0, 6, 0] S1x1x2816.size inb_S1x8x2816_S1x1x2816_0_6_0) (ix3 0 0 e) = x (ix3 0 6 e) := by
  refine congrArg x ?_
  funext a; apply Fin.ext
  match a with
  | ⟨0, _⟩ => rfl
  | ⟨1, _⟩ => rfl
  | ⟨2, _⟩ => show 0 + 1 * e.val = e.val; omega

theorem halo7_at (x : Vec Ideal S1x8x2816 .f32) (e : Fin 2816) :
    View.ld x (Rect.unit (s := S1x8x2816) ![0, 7, 0] S1x1x2816.size inb_S1x8x2816_S1x1x2816_0_7_0) (ix3 0 0 e) = x (ix3 0 7 e) := by
  refine congrArg x ?_
  funext a; apply Fin.ext
  match a with
  | ⟨0, _⟩ => rfl
  | ⟨1, _⟩ => rfl
  | ⟨2, _⟩ => show 0 + 1 * e.val = e.val; omega

theorem tap0_at (x : Vec Ideal S3x2816 .f32) (e : Fin 2816) :
    View.ld x (Rect.unit (s := S3x2816) ![0, 0] S1x2816.size inb_S3x2816_S1x2816_0_0) (ix2 0 e) = x (ix2 0 e) := by
  refine congrArg x ?_
  funext a; apply Fin.ext
  match a with
  | ⟨0, _⟩ => rfl
  | ⟨1, _⟩ => show 0 + 1 * e.val = e.val; omega

theorem tap1_at (x : Vec Ideal S3x2816 .f32) (e : Fin 2816) :
    View.ld x (Rect.unit (s := S3x2816) ![1, 0] S1x2816.size inb_S3x2816_S1x2816_1_0) (ix2 0 e) = x (ix2 1 e) := by
  refine congrArg x ?_
  funext a; apply Fin.ext
  match a with
  | ⟨0, _⟩ => rfl
  | ⟨1, _⟩ => show 0 + 1 * e.val = e.val; omega

theorem tap2_at (x : Vec Ideal S3x2816 .f32) (e : Fin 2816) :
    View.ld x (Rect.unit (s := S3x2816) ![2, 0] S1x2816.size inb_S3x2816_S1x2816_2_0) (ix2 0 e) = x (ix2 2 e) := by
  refine congrArg x ?_
  funext a; apply Fin.ext
  match a with
  | ⟨0, _⟩ => rfl
  | ⟨1, _⟩ => show 0 + 1 * e.val = e.val; omega

/-! ## Which part of its array each window's block is -/

/-- The block index of each window at point `t`, and the tile's number. -/
theorem idx : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 * 32 - 1 ∧ win0_1.index t (2 : Fin 3) = 0)
    ∧ (win0_2.index t (0 : Fin 3) = t.val / 16 ∧ win0_2.index t (1 : Fin 3) = t.val % 16 ∧ win0_2.index t (2 : Fin 3) = 1)
    ∧ (win0_3.index t (0 : Fin 3) = t.val / 16 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 16 ∧ win0_6.index t (1 : Fin 3) = t.val % 16 ∧ win0_6.index t (2 : Fin 3) = 0)
    ∧ (win0_7.index t (0 : Fin 3) = t.val / 16 ∧ win0_7.index t (1 : Fin 3) = 0 ∧ win0_7.index t (2 : Fin 3) = 0)
    ∧ ((grid0.coords t) 1).val = t.val % 16 :=
  (by decide +kernel : ∀ t : Fin grid0.N, _)

theorem lt_N (t : Fin cfg0.N) : t.val < 64 := N_0 ▸ t.isLt

/-- The sequence and the rows of point `t`. -/
abbrev bat (t : Fin cfg0.N) : Fin 4 := ⟨t.val / 16, by have := lt_N t; omega⟩
abbrev at_ (t : Fin cfg0.N) (r : Fin 256) : Fin 4096 := ⟨t.val % 16 * 256 + r.val, by omega⟩
/-- A column of the projection's first half, and of its second. -/
abbrev lo (e : Fin 2816) : Fin 5632 := ⟨e.val, by omega⟩
abbrev hi (e : Fin 2816) : Fin 5632 := ⟨2816 + e.val, by omega⟩

theorem emb0 (t : Fin cfg0.N) (r : Fin 256) (e : Fin 2816) : ((cfg0.win 0).blk t).view.emb (ix3 0 r e) = ix3 (bat t) (at_ t r) (lo e) := by
  obtain ⟨⟨e0, e1, e2⟩, -⟩ := idx t
  funext a; apply Fin.ext
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 2816 + 1 * e.val = e.val; omega

theorem emb1 (t : Fin cfg0.N) (r : Fin 8) (e : Fin 2816) (n : Fin 4096) (hn : n.val = (t.val % 16 * 32 - 1) * 8 + r.val) :
    ((cfg0.win 1).blk t).view.emb (ix3 0 r e) = ix3 (bat t) n (lo e) := by
  obtain ⟨-, ⟨e0, e1, e2⟩, -⟩ := idx t
  funext a; apply Fin.ext
  match a with
  | ⟨0, _⟩ => show win0_1.index t (0 : Fin 3) * 1 + 1 * 0 = t.val / 16; omega
  | ⟨1, _⟩ => show win0_1.index t (1 : Fin 3) * 8 + 1 * r.val = n.val; rw [e1, hn]; omega
  | ⟨2, _⟩ => show win0_1.index t (2 : Fin 3) * 2816 + 1 * e.val = e.val; omega

theorem emb2 (t : Fin cfg0.N) (r : Fin 256) (e : Fin 2816) : ((cfg0.win 2).blk t).view.emb (ix3 0 r e) = ix3 (bat t) (at_ t r) (hi e) := by
  obtain ⟨-, -, ⟨e0, e1, e2⟩, -⟩ := idx t
  funext a; apply Fin.ext
  match a with
  | ⟨0, _⟩ => show win0_2.index t (0 : Fin 3) * 1 + 1 * 0 = t.val / 16; omega
  | ⟨1, _⟩ => show win0_2.index t (1 : Fin 3) * 256 + 1 * r.val = t.val % 16 * 256 + r.val; omega
  | ⟨2, _⟩ => show win0_2.index t (2 : Fin 3) * 2816 + 1 * e.val = 2816 + e.val; omega

theorem emb3 (t : Fin cfg0.N) (r : Fin 2) (e : Fin 2816) : ((cfg0.win 3).blk t).view.emb (ix3 0 r e) = ix3 (bat t) r e := by
  obtain ⟨-, -, -, ⟨e0, e1, e2⟩, -⟩ := idx t
  funext a; apply Fin.ext
  match a with
  | ⟨0, _⟩ => show win0_3.index t (0 : Fin 3) * 1 + 1 * 0 = t.val / 16; omega
  | ⟨1, _⟩ => show win0_3.index t (1 : Fin 3) * 2 + 1 * r.val = r.val; omega
  | ⟨2, _⟩ => show win0_3.index t (2 : Fin 3) * 2816 + 1 * e.val = e.val; omega

theorem emb4 (t : Fin cfg0.N) (r : Fin 3) (e : Fin 2816) : ((cfg0.win 4).blk t).view.emb (ix2 r e) = ix2 r e := by
  obtain ⟨-, -, -, -, ⟨e0, e1⟩, -⟩ := idx t
  funext a; apply Fin.ext
  match a with
  | ⟨0, _⟩ => show win0_4.index t (0 : Fin 2) * 3 + 1 * r.val = r.val; omega
  | ⟨1, _⟩ => show win0_4.index t (1 : Fin 2) * 2816 + 1 * e.val = e.val; omega

theorem emb5 (t : Fin cfg0.N) (e : Fin 2816) : ((cfg0.win 5).blk t).view.emb (ix2 (0 : Fin 1) e) = ix2 (0 : Fin 1) e := by
  obtain ⟨-, -, -, -, -, ⟨e0, e1⟩, -⟩ := idx t
  funext a; apply Fin.ext
  match a with
  | ⟨0, _⟩ => show win0_5.index t (0 : Fin 2) * 1 + 1 * 0 = 0; omega
  | ⟨1, _⟩ => show win0_5.index t (1 : Fin 2) * 2816 + 1 * e.val = e.val; omega

theorem emb6 (t : Fin cfg0.N) (r : Fin 256) (e : Fin 2816) : ((cfg0.win 6).blk t).view.emb (ix3 0 r e) = ix3 (bat t) (at_ t r) e := by
  obtain ⟨-, -, -, -, -, -, ⟨e0, e1, e2⟩, -⟩ := idx t
  funext a; apply Fin.ext
  match a with
  | ⟨0, _⟩ => show win0_6.index t (0 : Fin 3) * 1 + 1 * 0 = t.val / 16; omega
  | ⟨1, _⟩ => show win0_6.index t (1 : Fin 3) * 256 + 1 * r.val = t.val % 16 * 256 + r.val; omega
  | ⟨2, _⟩ => show win0_6.index t (2 : Fin 3) * 2816 + 1 * e.val = e.val; omega

theorem emb7 (t : Fin cfg0.N) (r : Fin 2) (e : Fin 2816) : ((cfg0.win 7).blk t).view.emb (ix3 0 r e) = ix3 (bat t) r e := by
  obtain ⟨-, -, -, -, -, -, -, ⟨e0, e1, e2⟩, -⟩ := idx t
  funext a; apply Fin.ext
  match a with
  | ⟨0, _⟩ => show win0_7.index t (0 : Fin 3) * 1 + 1 * 0 = t.val / 16; omega
  | ⟨1, _⟩ => show win0_7.index t (1 : Fin 3) * 2 + 1 * r.val = r.val; omega
  | ⟨2, _⟩ => show win0_7.index t (2 : Fin 3) * 2816 + 1 * e.val = e.val; omega

/-! ## What the input blocks hold, in the arguments as launched -/

variable (m : (ℓ : Loc nD τ sig) → Buf (Elt Ideal) ℓ)

/-- The kernel's arguments on core `c`. -/
abbrev argA (c : Dev nD) : Up := m ((c : Thread nD τ).loc main_arg0)
abbrev argQ (c : Dev nD) : Prev := m ((c : Thread nD τ).loc main_arg1)
abbrev argW (c : Dev nD) : Taps := m ((c : Thread nD τ).loc main_arg2)
abbrev argB (c : Dev nD) : Bias := m ((c : Thread nD τ).loc main_arg3)

theorem blk0 (c : Dev nD) (t : Fin cfg0.N) (r : Fin 256) (e : Fin 2816) : iblk m c 0 t (ix3 0 r e) = argA m c (ix3 (bat t) (at_ t r) (lo e)) := by
  show V m c main_arg0 (((cfg0.win 0).blk t).view.emb (ix3 0 r e)) = _
  rw [emb0]
  exact congrFun (V_main_arg0 m c) _

theorem blk1 (c : Dev nD) (t : Fin cfg0.N) (r : Fin 8) (e : Fin 2816) (n : Fin 4096) (hn : n.val = (t.val % 16 * 32 - 1) * 8 + r.val) :
    iblk m c 1 t (ix3 0 r e) = argA m c (ix3 (bat t) n (lo e)) := by
  show V m c main_arg0 (((cfg0.win 1).blk t).view.emb (ix3 0 r e)) = _
  rw [emb1 t r e n hn]
  exact congrFun (V_main_arg0 m c) _

theorem blk2 (c : Dev nD) (t : Fin cfg0.N) (r : Fin 256) (e : Fin 2816) : iblk m c 2 t (ix3 0 r e) = argA m c (ix3 (bat t) (at_ t r) (hi e)) := by
  show V m c main_arg0 (((cfg0.win 2).blk t).view.emb (ix3 0 r e)) = _
  rw [emb2]
  exact congrFun (V_main_arg0 m c) _

theorem blk3 (c : Dev nD) (t : Fin cfg0.N) (r : Fin 2) (e : Fin 2816) : iblk m c 3 t (ix3 0 r e) = argQ m c (ix3 (bat t) r e) := by
  show V m c main_arg1 (((cfg0.win 3).blk t).view.emb (ix3 0 r e)) = _
  rw [emb3]
  exact congrFun (V_main_arg1 m c) _

theorem blk4 (c : Dev nD) (t : Fin cfg0.N) (r : Fin 3) (e : Fin 2816) : iblk m c 4 t (ix2 r e) = argW m c (ix2 r e) := by
  show V m c main_arg2 (((cfg0.win 4).blk t).view.emb (ix2 r e)) = _
  rw [emb4]
  exact congrFun (V_main_arg2 m c) _

theorem blk5 (c : Dev nD) (t : Fin cfg0.N) (e : Fin 2816) : iblk m c 5 t (ix2 (0 : Fin 1) e) = argB m c (ix1 e) := by
  show V m c main_v0 (((cfg0.win 5).blk t).view.emb (ix2 (0 : Fin 1) e)) = _
  rw [emb5]
  entry_read
  pointwise

/-! ## The rows a tile reads -/

theorem ext_lt (A : Up) (Q : Prev) (b : Fin 4) (n : ℕ) (hn : n < 4098) (e : Fin 2816) (r : Fin 2) (h : n = r.val) : ext A Q b n hn e = Q (ix3 b r e) := by
  subst h
  exact dif_pos r.isLt

theorem ext_ge (A : Up) (Q : Prev) (b : Fin 4) (n : ℕ) (hn : n < 4098) (e : Fin 2816) (r : Fin 4096) (h : n = r.val + 2) : ext A Q b n hn e = A (ix3 b r (lo e)) := by
  subst h
  unfold ext
  rw [dif_neg (by omega)]
  rfl

/-- The row one before. -/
theorem before1 (c : Dev nD) (t : Fin cfg0.N) (r : Fin 256) (e : Fin 2816) (hn : 1 + (at_ t r).val < 4098) :
    k0_pay5 (grid0.coords t) (iblk m c 0 t) (View.ld (iblk m c 3 t) (Rect.unit (s := S1x2x2816) ![0, 1, 0] S1x1x2816.size inb_S1x2x2816_S1x1x2816_0_1_0))
      (View.ld (iblk m c 1 t) (Rect.unit (s := S1x8x2816) ![0, 7, 0] S1x1x2816.size inb_S1x8x2816_S1x1x2816_0_7_0)) (ix2 r e)
      = ext (argA m c) (argQ m c) (bat t) (1 + (at_ t r).val) hn e := by
  have hi : ((grid0.coords t) 1).val = t.val % 16 := (idx t).2.2.2.2.2.2.2.2
  rw [pay5_at, hi, prev1_at, halo7_at]
  by_cases hr : r.val = 0
  · rw [if_pos hr]
    by_cases ht : t.val % 16 = 0
    · rw [if_pos ht, blk3, ext_lt _ _ _ _ _ _ (1 : Fin 2) (by show 1 + (t.val % 16 * 256 + r.val) = 1; omega)]
    · rw [if_neg ht, blk1 m c t 7 e ⟨t.val % 16 * 256 - 1, by omega⟩ (by show t.val % 16 * 256 - 1 = (t.val % 16 * 32 - 1) * 8 + 7; omega),
        ext_ge _ _ _ _ _ _ ⟨t.val % 16 * 256 - 1, by omega⟩ (by show 1 + (t.val % 16 * 256 + r.val) = t.val % 16 * 256 - 1 + 2; omega)]
  · rw [if_neg hr, blk0, ext_ge _ _ _ _ _ _ (at_ t ⟨(r.val + 256 - 1) % 256, by omega⟩)
      (by show 1 + (t.val % 16 * 256 + r.val) = t.val % 16 * 256 + (r.val + 256 - 1) % 256 + 2; omega)]

/-- The row two before. -/
theorem before2 (c : Dev nD) (t : Fin cfg0.N) (r : Fin 256) (e : Fin 2816) (hn : (at_ t r).val < 4098) :
    k0_pay6 (grid0.coords t) (iblk m c 0 t) (View.ld (iblk m c 3 t) (Rect.unit (s := S1x2x2816) ![0, 0, 0] S1x1x2816.size inb_S1x2x2816_S1x1x2816_0_0_0))
      (View.ld (iblk m c 1 t) (Rect.unit (s := S1x8x2816) ![0, 6, 0] S1x1x2816.size inb_S1x8x2816_S1x1x2816_0_6_0))
      (View.ld (iblk m c 3 t) (Rect.unit (s := S1x2x2816) ![0, 1, 0] S1x1x2816.size inb_S1x2x2816_S1x1x2816_0_1_0))
      (View.ld (iblk m c 1 t) (Rect.unit (s := S1x8x2816) ![0, 7, 0] S1x1x2816.size inb_S1x8x2816_S1x1x2816_0_7_0)) (ix2 r e)
      = ext (argA m c) (argQ m c) (bat t) (at_ t r).val hn e := by
  have hi : ((grid0.coords t) 1).val = t.val % 16 := (idx t).2.2.2.2.2.2.2.2
  rw [pay6_at, hi, prev0_at, prev1_at, halo6_at, halo7_at]
  by_cases hr : r.val = 0
  · rw [if_pos hr]
    by_cases ht : t.val % 16 = 0
    · rw [if_pos ht, blk3, ext_lt _ _ _ _ _ _ (0 : Fin 2) (by show t.val % 16 * 256 + r.val = 0; omega)]
    · rw [if_neg ht, blk1 m c t 6 e ⟨t.val % 16 * 256 - 2, by omega⟩ (by show t.val % 16 * 256 - 2 = (t.val % 16 * 32 - 1) * 8 + 6; omega),
        ext_ge _ _ _ _ _ _ ⟨t.val % 16 * 256 - 2, by omega⟩ (by show t.val % 16 * 256 + r.val = t.val % 16 * 256 - 2 + 2; omega)]
  · rw [if_neg hr]
    by_cases hr' : r.val = 1
    · rw [if_pos hr']
      by_cases ht : t.val % 16 = 0
      · rw [if_pos ht, blk3, ext_lt _ _ _ _ _ _ (1 : Fin 2) (by show t.val % 16 * 256 + r.val = 1; omega)]
      · rw [if_neg ht, blk1 m c t 7 e ⟨t.val % 16 * 256 - 1, by omega⟩ (by show t.val % 16 * 256 - 1 = (t.val % 16 * 32 - 1) * 8 + 7; omega),
          ext_ge _ _ _ _ _ _ ⟨t.val % 16 * 256 - 1, by omega⟩ (by show t.val % 16 * 256 + r.val = t.val % 16 * 256 - 1 + 2; omega)]
    · rw [if_neg hr', blk0, ext_ge _ _ _ _ _ _ (at_ t ⟨(r.val + 256 - 2) % 256, by omega⟩)
        (by show t.val % 16 * 256 + r.val = t.val % 16 * 256 + (r.val + 256 - 2) % 256 + 2; omega)]

/-! ## The result arrays -/

/-- A tile of the first result is its part of the computed array. -/
theorem tile_at (c : Dev nD) (t : Fin cfg0.N) (r : Fin 256) (e : Fin 2816) :
    tile (grid0.coords t) (iblk m c 0 t) (iblk m c 1 t) (iblk m c 2 t) (iblk m c 3 t) (iblk m c 4 t) (iblk m c 5 t) (ix3 0 r e)
      = out (argA m c) (argQ m c) (argW m c) (argB m c) (ix3 (bat t) (at_ t r) e) := by
  unfold tile tile_
  have h1 : 1 + (at_ t r).val < 4098 := by have := (at_ t r).isLt; omega
  have h2 : (at_ t r).val < 4098 := by have := (at_ t r).isLt; omega
  exact (pay1_at _ _ _ _ _ _ _ _ r e).trans (gated_congr ((pay7_at _ e).trans (blk5 m c t e)) ((tap0_at _ e).trans (blk4 m c t 0 e))
    ((tap1_at _ e).trans (blk4 m c t 1 e)) ((tap2_at _ e).trans (blk4 m c t 2 e)) (before2 m c t r e h2) (before1 m c t r e h1)
    ((pay3_at _ r e).trans (blk0 m c t r e)) (blk2 m c t r e))

/-- What point `t` writes back of the first result is its block of the computed array. -/
theorem flushed6_eq (c : Dev nD) (t : Fin cfg0.N) : (dats m 0 c).flushed 6 t
    = ((cfg0.win 6).blk t).view.read (Elt Ideal) (out (argA m c) (argQ m c) (argW m c) (argB m c)) := by
  have h : (dats m 0 c).flushed 6 t = (cfg0.win 6).cut (grid0.coords t)
      (tile (grid0.coords t) (iblk m c 0 t) (iblk m c 1 t) (iblk m c 2 t) (iblk m c 3 t) (iblk m c 4 t) (iblk m c 5 t)) := by
    by_cases h0 : t.val % 16 = 15
    · rw [Value.flushed6_B m c t h0]; exact congrArg _ (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t))
    · rw [Value.flushed6_A m c t h0]; exact congrArg _ (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t))
  rw [h]
  funext i
  obtain ⟨r, e, rfl⟩ : ∃ (r : Fin 256) (e : Fin 2816), i = ix3 (0 : Fin 1) r e := ⟨i 1, i 2, by
    funext a; match a with | ⟨0, _⟩ => exact Subsingleton.elim (α := Fin 1) _ _ | ⟨1, _⟩ => rfl | ⟨2, _⟩ => rfl⟩
  show tile (grid0.coords t) (iblk m c 0 t) (iblk m c 1 t) (iblk m c 2 t) (iblk m c 3 t) (iblk m c 4 t) (iblk m c 5 t) (ix3 0 r e)
    = out (argA m c) (argQ m c) (argW m c) (argB m c) (((cfg0.win 6).blk t).view.emb (ix3 0 r e))
  rw [emb6, tile_at]

/-- What a sequence's last point writes back of the second result is the sequence's last two rows. -/
theorem flushed7_eq (c : Dev nD) (t : Fin cfg0.N) (h0 : t.val % 16 = 15) : (dats m 0 c).flushed 7 t
    = ((cfg0.win 7).blk t).view.read (Elt Ideal) (last (argA m c)) := by
  have h : (dats m 0 c).flushed 7 t = (cfg0.win 7).cut (grid0.coords t) (k0_pay2 (k0_pay3 (iblk m c 0 t))) := by
    rw [Value.flushed7_B m c t h0]; exact congrArg _ (lastB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t))
  rw [h]
  funext i
  obtain ⟨r, e, rfl⟩ : ∃ (r : Fin 2) (e : Fin 2816), i = ix3 (0 : Fin 1) r e := ⟨i 1, i 2, by
    funext a; match a with | ⟨0, _⟩ => exact Subsingleton.elim (α := Fin 1) _ _ | ⟨1, _⟩ => rfl | ⟨2, _⟩ => rfl⟩
  show k0_pay2 (k0_pay3 (iblk m c 0 t)) (ix3 0 r e) = last (argA m c) (((cfg0.win 7).blk t).view.emb (ix3 0 r e))
  rw [emb7, pay2_at, pay3_at, blk0]
  have h1 : at_ t (⟨254 + r.val, by omega⟩ : Fin 256) = ⟨4094 + r.val, by omega⟩ :=
    Fin.ext (by show t.val % 16 * 256 + (254 + r.val) = 4094 + r.val; omega)
  rw [h1]
  rfl

/-- Every index of the first result is in the block of some point. -/
theorem cover6 (i : S4x4096x2816.Idx) : ∃ t : Fin cfg0.N, (cfg0.win 6).flush t = true ∧ i ∈ ((cfg0.win 6).blk t).view.set := by
  obtain ⟨b, q, e, rfl⟩ : ∃ (b : Fin 4) (q : Fin 4096) (e : Fin 2816), i = ix3 b q e := ⟨i 0, i 1, i 2, by
    funext a; match a with | ⟨0, _⟩ => rfl | ⟨1, _⟩ => rfl | ⟨2, _⟩ => rfl⟩
  have hb := b.isLt
  have hq := q.isLt
  have ht : b.val * 16 + q.val / 256 < cfg0.N := by rw [show cfg0.N = 64 from N_0]; omega
  refine ⟨⟨_, ht⟩, flush0_6 _, ?_⟩
  have h := ((cfg0.win 6).blk ⟨_, ht⟩).view.emb_mem_set (ix3 (0 : Fin 1) (⟨q.val % 256, by omega⟩ : Fin 256) e)
  rw [emb6] at h
  have e0 : bat ⟨_, ht⟩ = b := Fin.ext (by show (b.val * 16 + q.val / 256) / 16 = b.val; omega)
  have e1 : at_ ⟨_, ht⟩ (⟨q.val % 256, by omega⟩ : Fin 256) = q :=
    Fin.ext (by show (b.val * 16 + q.val / 256) % 16 * 256 + q.val % 256 = q.val; omega)
  rwa [e0, e1] at h

/-- Every index of the second result is in the block of some sequence's last point. -/
theorem cover7 (i : S4x2x2816.Idx) : ∃ t : Fin cfg0.N, (cfg0.win 7).flush t = true ∧ i ∈ ((cfg0.win 7).blk t).view.set := by
  obtain ⟨b, r, e, rfl⟩ : ∃ (b : Fin 4) (r : Fin 2) (e : Fin 2816), i = ix3 b r e := ⟨i 0, i 1, i 2, by
    funext a; match a with | ⟨0, _⟩ => rfl | ⟨1, _⟩ => rfl | ⟨2, _⟩ => rfl⟩
  have hb := b.isLt
  have ht : b.val * 16 + 15 < cfg0.N := by rw [show cfg0.N = 64 from N_0]; omega
  refine ⟨⟨_, ht⟩, (flush0_7 _).mpr (by show (b.val * 16 + 15) % 16 = 15; omega), ?_⟩
  have h := ((cfg0.win 7).blk ⟨_, ht⟩).view.emb_mem_set (ix3 (0 : Fin 1) r e)
  rw [emb7] at h
  have e0 : bat ⟨_, ht⟩ = b := Fin.ext (by show (b.val * 16 + 15) / 16 = b.val; omega)
  rwa [e0] at h

/-- The result arrays after the run are the computed arrays of the arguments. -/
theorem final6 (c : Dev nD) : (dats m 0 c).arrAt 6 cfg0.N = out (argA m c) (argQ m c) (argW m c) (argB m c) :=
  (dats m 0 c).arrAt_eq_of_cover 6 _ (fun t _ => flushed6_eq m c t) cover6

theorem final7 (c : Dev nD) : (dats m 0 c).arrAt 7 cfg0.N = last (argA m c) :=
  (dats m 0 c).arrAt_eq_of_cover 7 _ (fun t ht => flushed7_eq m c t ((flush0_7 t).mp ht)) cover7

/-! ## The reference -/

/-- The reference's results are the computed arrays. -/
theorem ref_out (m' : (ℓ : Loc Cert.ConvRefIdeal.nD Cert.ConvRefIdeal.τ Cert.ConvRefIdeal.sig) → Buf (Elt Ideal) ℓ) (c : Dev Cert.ConvRefIdeal.nD) :
    Cert.ConvRefIdeal.Value.res_out0 m' c
      = out (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1))
        (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3)) := by
  funext i
  obtain ⟨b, t, e, rfl⟩ : ∃ (b : Fin 4) (t : Fin 4096) (e : Fin 2816), i = ix3 b t e := ⟨i 0, i 1, i 2, by
    funext a; match a with | ⟨0, _⟩ => rfl | ⟨1, _⟩ => rfl | ⟨2, _⟩ => rfl⟩
  unfold out
  rw [← gated_eq]
  unfold Cert.ConvRefIdeal.Value.res_out0 Cert.ConvRefIdeal.Value.res_main_v40
  pointwise [gated', conv, ext]

theorem ref_last (m' : (ℓ : Loc Cert.ConvRefIdeal.nD Cert.ConvRefIdeal.τ Cert.ConvRefIdeal.sig) → Buf (Elt Ideal) ℓ) (c : Dev Cert.ConvRefIdeal.nD) :
    extractStridedSlice Cert.ConvRefIdeal.S4x2x2816 ![0, 4096, 0] (concatenate Cert.ConvRefIdeal.S4x4098x2816 1 [⟨Cert.ConvRefIdeal.S4x2x2816, (m' ((c.tc : Thread Cert.ConvRefIdeal.nD Cert.ConvRefIdeal.τ).loc Cert.ConvRefIdeal.main_arg1))⟩, ⟨Cert.ConvRefIdeal.S4x4096x2816, (extractStridedSlice Cert.ConvRefIdeal.S4x4096x2816 ![0, 0, 0] (m' ((c.tc : Thread Cert.ConvRefIdeal.nD Cert.ConvRefIdeal.τ).loc Cert.ConvRefIdeal.main_arg0)) Cert.ConvRefIdeal.Gen.slices_S4x4096x5632_S4x4096x2816_0_0_0)⟩] Cert.ConvRefIdeal.Gen.concatenates_S4x2x2816_S4x4096x2816_S4x4098x2816_d1) Cert.ConvRefIdeal.Gen.slices_S4x4098x2816_S4x2x2816_0_4096_0
      = last (m' ((c.tc : Thread Cert.ConvRefIdeal.nD Cert.ConvRefIdeal.τ).loc Cert.ConvRefIdeal.main_arg0)) := by
  funext i
  obtain ⟨b, r, e, rfl⟩ : ∃ (b : Fin 4) (r : Fin 2) (e : Fin 2816), i = ix3 b r e := ⟨i 0, i 1, i 2, by
    funext a; match a with | ⟨0, _⟩ => rfl | ⟨1, _⟩ => rfl | ⟨2, _⟩ => rfl⟩
  unfold last
  pointwise
  rw [dif_neg (by omega)]
  refine congrArg _ ?_
  funext a; apply Fin.ext
  match a with
  | ⟨0, _⟩ => rfl
  | ⟨1, _⟩ => show 4096 + r.val - 2 = 4094 + r.val; omega
  | ⟨2, _⟩ => rfl

/-! ## The claims -/

/-- The kernel and its idealization leave every semaphore at zero and the arguments as they were. -/
theorem frame : Cert.quiescent_Conv := fun m ρ _ => Cert.Conv.Gen.frame m ρ
theorem frame_ideal : Cert.quiescent_ConvIdeal := fun m ρ _ => Cert.ConvIdeal.Gen.frame m ρ

/-- The reference leaves the arguments as they were and has no semaphore. -/
theorem frame_ref : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The idealization rewrote nothing. -/
theorem preserves : Cert.preserves_Conv_ConvIdeal := trivial

/-- Over the extended reals the kernel and the reference end with the same result arrays, whatever the arguments. -/
theorem algebraic : Cert.algebraic_ConvIdeal_ConvRefIdeal := by
  intro m ρ m' ρ' _ hag
  refine ⟨fun c => out (argA m c) (argQ m c) (argW m c) (argB m c), fun c => last (argA m c),
    (θ_run _ _ _).mono (fun r h c => ⟨(h c).1.trans (final6 m c), (h c).2.1.trans (final7 m c), (h c).2.2⟩) (Value.run_blocks m ρ),
    (θ_run _ _ _).mono (fun r h c => ⟨(h c).1.trans ?_, (h c).2.1.trans ?_, (h c).2.2⟩) (Cert.ConvRefIdeal.Value.run (F := Ideal) m' ρ')⟩
  · obtain ⟨e0, e1, e2, e3⟩ := hag c
    refine (ref_out m' c).trans ?_
    rw [e0, e1, e2, e3]
  · obtain ⟨e0, -, -, -⟩ := hag c
    refine (ref_last m' c).trans ?_
    rw [e0]

end Cert.Proof.Conv

end
-- ==== Proof.PrepBody.lean ====
/- The rotary position embedding of the attention's projections: the mathematics, and the body's tiles at an index. -/
module

public import proofs.«01_k».proof.Proof.Gen.PrepIdeal.Value
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-! ## What is computed -/

/-- The projections, the positions. -/
abbrev Proj : Type := FVec Ideal S4x4096x5632 .f32
abbrev Pos : Type := IVec S4096 32

/-- Lane `k` of a head rotated by half: pairs of lanes `half` apart turn by their angle, the lanes after them stay. -/
def rot (half : ℕ) (ang x : ℕ → EReal) (k : ℕ) : EReal :=
  if _ : k < half then x k * Ideal.cos (ang k) - x (half + k) * Ideal.sin (ang k)
  else if _ : k - half < half then x (half + (k - half)) * Ideal.cos (ang (k - half)) + x (k - half) * Ideal.sin (ang (k - half))
  else x (half + half + (k - half - half))

/-- The cosine's table: one where nothing turns. -/
def tabC (half : ℕ) (ang : ℕ → EReal) (k : ℕ) : EReal :=
  if _ : k < half then Ideal.cos (ang k) else if _ : k - half < half then Ideal.cos (ang (k - half)) else 1

/-- The sine's table for the second of each pair, and, negated, for the first. -/
def tabA (half : ℕ) (ang : ℕ → EReal) (k : ℕ) : EReal :=
  if _ : k < half then 0 else if _ : k - half < half then Ideal.sin (ang (k - half)) else 0
def tabB (half : ℕ) (ang : ℕ → EReal) (k : ℕ) : EReal :=
  if _ : k < half then -Ideal.sin (ang k) else if _ : k - half < half then 0 else 0

/-- The angle of lane pair `n` at position `p`, where `den` is the number of lanes that turn. -/
def angle (den : BitVec 32) (p : BitVec 32) (n : ℕ) : EReal :=
  FloatOps.sitofp (F := Ideal) FTy.f32 p * Ideal.pow (Ideal.ofBits FTy.f32 1223959552#32)
    (Ideal.div (Ideal.ofBits FTy.f32 3221225472#32 * FloatOps.sitofp (F := Ideal) FTy.f32 (BitVec.ofNat 32 n)) (Ideal.ofBits FTy.f32 den))

/-- A row of 128 lanes times the cosines, plus its two rolls times the sines, is the row's heads of 128 lanes rotated. -/
theorem spin16 (o : ℕ) (ho : o % 128 = 0) (ang X : ℕ → EReal) (x : Fin 128 → EReal) (hx : ∀ j : Fin 128, x j = X (o + j.val)) (l : Fin 128) (c s r : EReal)
    (hc : c = tabC 16 ang (l.val % 128)) (hs : s = tabA 16 ang (l.val % 128)) (hr : r = tabB 16 ang (l.val % 128)) :
    x l * c + x ⟨(l.val + 128 - 16) % 128, by omega⟩ * s + x ⟨(l.val + 128 - 112) % 128, by omega⟩ * r
      = rot 16 ang (fun j => X ((o + l.val) / 128 * 128 + j)) ((o + l.val) % 128) := by
  have hl := l.isLt
  have hk : (o + l.val) % 128 = l.val % 128 := by omega
  rw [hc, hs, hr, hk, hx, hx, hx]
  unfold tabC tabA tabB rot
  by_cases h : l.val % 128 < 16
  · rw [dif_pos h, dif_pos h, dif_pos h, dif_pos h, mul_zero, add_zero, mul_neg, ← sub_eq_add_neg]
    dsimp only
    rw [show o + l.val = (o + l.val) / 128 * 128 + l.val % 128 by omega,
      show o + (l.val + 128 - 112) % 128 = (o + l.val) / 128 * 128 + (16 + l.val % 128) by omega]
    rw [show ((o + l.val) / 128 * 128 + l.val % 128) / 128 = (o + l.val) / 128 by omega]
  · rw [dif_neg h, dif_neg h, dif_neg h, dif_neg h]
    by_cases h' : l.val % 128 - 16 < 16
    · rw [dif_pos h', dif_pos h', dif_pos h', dif_pos h', mul_zero, add_zero]
      dsimp only
      rw [show (o + l.val) / 128 * 128 + (16 + (l.val % 128 - 16)) = o + l.val by omega,
        show (o + l.val) / 128 * 128 + (l.val % 128 - 16) = o + (l.val + 128 - 16) % 128 by omega]
    · rw [dif_neg h', dif_neg h', dif_neg h', dif_neg h', mul_zero, mul_zero, add_zero, add_zero, mul_one]
      dsimp only
      rw [show (o + l.val) / 128 * 128 + (16 + 16 + (l.val % 128 - 16 - 16)) = o + l.val by omega]

/-- A row of 128 lanes times the cosines, plus its two rolls times the sines, is the row's heads of 64 lanes rotated. -/
theorem spin8 (o : ℕ) (ho : o % 128 = 0) (ang X : ℕ → EReal) (x : Fin 128 → EReal) (hx : ∀ j : Fin 128, x j = X (o + j.val)) (l : Fin 128) (c s r : EReal)
    (hc : c = tabC 8 ang (l.val % 64)) (hs : s = tabA 8 ang (l.val % 64)) (hr : r = tabB 8 ang (l.val % 64)) :
    x l * c + x ⟨(l.val + 128 - 8) % 128, by omega⟩ * s + x ⟨(l.val + 128 - 120) % 128, by omega⟩ * r
      = rot 8 ang (fun j => X ((o + l.val) / 64 * 64 + j)) ((o + l.val) % 64) := by
  have hl := l.isLt
  have hk : (o + l.val) % 64 = l.val % 64 := by omega
  rw [hc, hs, hr, hk, hx, hx, hx]
  unfold tabC tabA tabB rot
  by_cases h : l.val % 64 < 8
  · rw [dif_pos h, dif_pos h, dif_pos h, dif_pos h, mul_zero, add_zero, mul_neg, ← sub_eq_add_neg]
    dsimp only
    rw [show o + l.val = (o + l.val) / 64 * 64 + l.val % 64 by omega,
      show o + (l.val + 128 - 120) % 128 = (o + l.val) / 64 * 64 + (8 + l.val % 64) by omega]
    rw [show ((o + l.val) / 64 * 64 + l.val % 64) / 64 = (o + l.val) / 64 by omega]
  · rw [dif_neg h, dif_neg h, dif_neg h, dif_neg h]
    by_cases h' : l.val % 64 - 8 < 8
    · rw [dif_pos h', dif_pos h', dif_pos h', dif_pos h', mul_zero, add_zero]
      dsimp only
      rw [show (o + l.val) / 64 * 64 + (8 + (l.val % 64 - 8)) = o + l.val by omega,
        show (o + l.val) / 64 * 64 + (l.val % 64 - 8) = o + (l.val + 128 - 8) % 128 by omega]
    · rw [dif_neg h', dif_neg h', dif_neg h', dif_neg h', mul_zero, mul_zero, add_zero, add_zero, mul_one]
      dsimp only
      rw [show (o + l.val) / 64 * 64 + (8 + 8 + (l.val % 64 - 8 - 8)) = o + l.val by omega]

/-! ## The body's values at an index -/

theorem pay10_at (c s r : Vec Ideal S128x128 .f32) (x : Vec Ideal S1x128x128 .f32) (i : Fin 128) (l : Fin 128) :
    k0_pay10 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay10, k0_pay4, k0_pay5, k0_pay6]

theorem pay17_at (c s r : FVec Ideal S128x128 .f32) (x : Vec Ideal S1x128x128 .f32) (i : Fin 128) (l : Fin 128) :
    k0_pay17 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay17]

theorem pay19_at (c s r : FVec Ideal S128x128 .f32) (x : Vec Ideal S1x128x128 .f32) (i : Fin 128) (l : Fin 128) :
    k0_pay19 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay19, k0_pay18]

theorem pay21_at (c s r : FVec Ideal S128x128 .f32) (x : Vec Ideal S1x128x128 .f32) (i : Fin 128) (l : Fin 128) :
    k0_pay21 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay21]

theorem pay23_at (c s r : FVec Ideal S128x128 .f32) (x : Vec Ideal S1x128x128 .f32) (i : Fin 128) (l : Fin 128) :
    k0_pay23 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay23, k0_pay22]

theorem pay24_at (c s r : FVec Ideal S128x128 .f32) (x : Vec Ideal S1x128x128 .f32) (i : Fin 128) (l : Fin 128) :
    k0_pay24 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay24, k0_pay22]

theorem pay25_at (c s r : FVec Ideal S128x128 .f32) (x : Vec Ideal S1x128x128 .f32) (i : Fin 128) (l : Fin 128) :
    k0_pay25 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay25]

theorem pay27_at (c s r : FVec Ideal S128x128 .f32) (x : Vec Ideal S1x128x128 .f32) (i : Fin 128) (l : Fin 128) :
    k0_pay27 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay27, k0_pay26]

theorem pay28_at (c s r : FVec Ideal S128x128 .f32) (x : Vec Ideal S1x128x128 .f32) (i : Fin 128) (l : Fin 128) :
    k0_pay28 c s r x (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay28, k0_pay26]

theorem pay31_at (c s r : FVec Ideal S128x128 .f32) (x : Vec Ideal S1x128x128 .f32) (i : Fin 128) (l : Fin 128) :
    k0_pay31 c s r x (ix3 0 i l) = x (ix3 0 i l) * c (ix2 i l) + x (ix3 0 i ⟨(l.val + 128 - 8) % 128, by omega⟩) * s (ix2 i l) + x (ix3 0 i ⟨(l.val + 128 - 120) % 128, by omega⟩) * r (ix2 i l) := by
  pointwise [k0_pay31]

theorem pay32_at (c s r : FVec Ideal S128x128 .f32) (x : Vec Ideal S1x128x128 .f32) (i : Fin 128) (l : Fin 128) :
    k0_pay32 c s r x (ix3 0 i l) = x (ix3 0 i l) * c (ix2 i l) + x (ix3 0 i ⟨(l.val + 128 - 8) % 128, by omega⟩) * s (ix2 i l) + x (ix3 0 i ⟨(l.val + 128 - 120) % 128, by omega⟩) * r (ix2 i l) := by
  pointwise [k0_pay32]

theorem pay20_at (c s r : FVec Ideal S128x128 .f32) (x : Vec Ideal S1x128x128 .f32) (i : Fin 128) (l : Fin 128) :
    k0_pay20 (k0_pay18 c s r x) (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay20, k0_pay18]

theorem pay15_at (c s : Vec Ideal S128x128 .f32) (r : FVec Ideal S128x128 .f32) (x : Vec Ideal S1x128x128 .f32) (i : Fin 128) (l : Fin 128) :
    k0_pay15 r (k0_pay12 c s x) (k0_pay13 x) (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay15, k0_pay14, k0_pay13, k0_pay12, k0_pay11, k0_pay4, k0_pay5]

theorem pay16_at (c s : Vec Ideal S128x128 .f32) (r : FVec Ideal S128x128 .f32) (x : Vec Ideal S1x128x128 .f32) (i : Fin 128) (l : Fin 128) :
    k0_pay16 r (k0_pay12 c s x) (k0_pay13 x) (ix3 0 i l) = x (ix3 0 i l) * c (ix2 i l) + x (ix3 0 i ⟨(l.val + 128 - 16) % 128, by omega⟩) * s (ix2 i l) + x (ix3 0 i ⟨(l.val + 128 - 112) % 128, by omega⟩) * r (ix2 i l) := by
  pointwise [k0_pay16, k0_pay14, k0_pay13, k0_pay12, k0_pay11, k0_pay4, k0_pay5]

theorem pay2_at (c s r : FVec Ideal S128x128 .f32) (x : Vec Ideal S1x128x128 .f32) (i : Fin 128) (e : Fin 64) (l : Fin 128) (hl : l = ⟨e.val, by omega⟩) :
    k0_pay2 (k0_pay34 c s x) (k0_pay35 r x) (ix3 0 i e) = x (ix3 0 i l) * c (ix2 i l) + x (ix3 0 i ⟨(l.val + 128 - 8) % 128, by omega⟩) * s (ix2 i l) + x (ix3 0 i ⟨(l.val + 128 - 120) % 128, by omega⟩) * r (ix2 i l) := by
  subst hl
  pointwise [k0_pay2, k0_pay1, k0_pay33, k0_pay34, k0_pay35]

theorem pay3_at (c s r : FVec Ideal S128x128 .f32) (x : Vec Ideal S1x128x128 .f32) (i : Fin 128) (e : Fin 64) (l : Fin 128) (hl : l = ⟨e.val, by omega⟩) :
    k0_pay3 (k0_pay34 c s x) (k0_pay35 r x) (ix3 0 i e) = x (ix3 0 i l) * c (ix2 i l) + x (ix3 0 i ⟨(l.val + 128 - 8) % 128, by omega⟩) * s (ix2 i l) + x (ix3 0 i ⟨(l.val + 128 - 120) % 128, by omega⟩) * r (ix2 i l) := by
  subst hl
  pointwise [k0_pay3, k0_pay1, k0_pay33, k0_pay34, k0_pay35]

theorem pay30_at (x : Vec Ideal S1x128x512 .f32) (i : Fin 128) (e : Fin 512) : k0_pay30 (k0_pay29 x) (ix3 0 i e) = x (ix3 0 i e) := by
  pointwise [k0_pay30, k0_pay29]

/-! ## The parts loaded of a block -/

theorem whole_at (x : Vec Ideal S128x128 .f32) (i l : Fin 128) : View.ld x r0_0 (ix2 i l) = x (ix2 i l) := by
  refine congrArg x ?_
  funext a; apply Fin.ext
  match a with
  | ⟨0, _⟩ => show 0 + 1 * i.val = i.val; omega
  | ⟨1, _⟩ => show 0 + 1 * l.val = l.val; omega

theorem tab_at (x : Vec Ideal S128x128 .f32) (i l : Fin 128) : shapeCast S128x128 (View.ld x r0_0) shapeCasts_S128x128_S128x128 (ix2 i l) = x (ix2 i l) := by
  refine Eq.trans (b := View.ld x r0_0 (ix2 i l)) (by pointwise) (whole_at x i l)

theorem part1_at (x : Vec Ideal S1x128x512 .f32) (i : Fin 128) (l : Fin 128) : View.ld x r0_1 (ix3 0 i l) = x (ix3 0 i ⟨0 + l.val, by omega⟩) := by
  refine congrArg x ?_
  funext a; apply Fin.ext
  match a with
  | ⟨0, _⟩ => rfl
  | ⟨1, _⟩ => show 0 + 1 * i.val = i.val; omega
  | ⟨2, _⟩ => show 0 + 1 * l.val = 0 + l.val; omega

theorem place1 (i : Fin 128) (l : Fin 128) : r0_1.emb (ix3 0 i l) = ix3 0 i (⟨0 + l.val, by omega⟩ : Fin 512) := by
  funext a; apply Fin.ext
  match a with
  | ⟨0, _⟩ => rfl
  | ⟨1, _⟩ => show 0 + 1 * i.val = i.val; omega
  | ⟨2, _⟩ => show 0 + 1 * l.val = 0 + l.val; omega

theorem part2_at (x : Vec Ideal S1x128x512 .f32) (i : Fin 128) (l : Fin 128) : View.ld x r0_2 (ix3 0 i l) = x (ix3 0 i ⟨128 + l.val, by omega⟩) := by
  refine congrArg x ?_
  funext a; apply Fin.ext
  match a with
  | ⟨0, _⟩ => rfl
  | ⟨1, _⟩ => show 0 + 1 * i.val = i.val; omega
  | ⟨2, _⟩ => show 128 + 1 * l.val = 128 + l.val; omega

theorem place2 (i : Fin 128) (l : Fin 128) : r0_2.emb (ix3 0 i l) = ix3 0 i (⟨128 + l.val, by omega⟩ : Fin 512) := by
  funext a; apply Fin.ext
  match a with
  | ⟨0, _⟩ => rfl
  | ⟨1, _⟩ => show 0 + 1 * i.val = i.val; omega
  | ⟨2, _⟩ => show 128 + 1 * l.val = 128 + l.val; omega

theorem part3_at (x : Vec Ideal S1x128x512 .f32) (i : Fin 128) (l : Fin 128) : View.ld x r0_3 (ix3 0 i l) = x (ix3 0 i ⟨256 + l.val, by omega⟩) := by
  refine congrArg x ?_
  funext a; apply Fin.ext
  match a with
  | ⟨0, _⟩ => rfl
  | ⟨1, _⟩ => show 0 + 1 * i.val = i.val; omega
  | ⟨2, _⟩ => show 256 + 1 * l.val = 256 + l.val; omega

theorem place3 (i : Fin 128) (l : Fin 128) : r0_3.emb (ix3 0 i l) = ix3 0 i (⟨256 + l.val, by omega⟩ : Fin 512) := by
  funext a; apply Fin.ext
  match a with
  | ⟨0, _⟩ => rfl
  | ⟨1, _⟩ => show 0 + 1 * i.val = i.val; omega
  | ⟨2, _⟩ => show 256 + 1 * l.val = 256 + l.val; omega

theorem part4_at (x : Vec Ideal S1x128x512 .f32) (i : Fin 128) (l : Fin 128) : View.ld x r0_4 (ix3 0 i l) = x (ix3 0 i ⟨384 + l.val, by omega⟩) := by
  refine congrArg x ?_
  funext a; apply Fin.ext
  match a with
  | ⟨0, _⟩ => rfl
  | ⟨1, _⟩ => show 0 + 1 * i.val = i.val; omega
  | ⟨2, _⟩ => show 384 + 1 * l.val = 384 + l.val; omega

theorem place4 (i : Fin 128) (l : Fin 128) : r0_4.emb (ix3 0 i l) = ix3 0 i (⟨384 + l.val, by omega⟩ : Fin 512) := by
  funext a; apply Fin.ext
  match a with
  | ⟨0, _⟩ => rfl
  | ⟨1, _⟩ => show 0 + 1 * i.val = i.val; omega
  | ⟨2, _⟩ => show 384 + 1 * l.val = 384 + l.val; omega

theorem part6_at (x : Vec Ideal S1x128x256 .f32) (i : Fin 128) (l : Fin 128) : View.ld x r0_6 (ix3 0 i l) = x (ix3 0 i ⟨0 + l.val, by omega⟩) := by
  refine congrArg x ?_
  funext a; apply Fin.ext
  match a with
  | ⟨0, _⟩ => rfl
  | ⟨1, _⟩ => show 0 + 1 * i.val = i.val; omega
  | ⟨2, _⟩ => show 0 + 1 * l.val = 0 + l.val; omega

theorem place6 (i : Fin 128) (l : Fin 128) : r0_6.emb (ix3 0 i l) = ix3 0 i (⟨0 + l.val, by omega⟩ : Fin 256) := by
  funext a; apply Fin.ext
  match a with
  | ⟨0, _⟩ => rfl
  | ⟨1, _⟩ => show 0 + 1 * i.val = i.val; omega
  | ⟨2, _⟩ => show 0 + 1 * l.val = 0 + l.val; omega

theorem part7_at (x : Vec Ideal S1x128x256 .f32) (i : Fin 128) (l : Fin 128) : View.ld x r0_7 (ix3 0 i l) = x (ix3 0 i ⟨128 + l.val, by omega⟩) := by
  refine congrArg x ?_
  funext a; apply Fin.ext
  match a with
  | ⟨0, _⟩ => rfl
  | ⟨1, _⟩ => show 0 + 1 * i.val = i.val; omega
  | ⟨2, _⟩ => show 128 + 1 * l.val = 128 + l.val; omega

theorem place7 (i : Fin 128) (l : Fin 128) : r0_7.emb (ix3 0 i l) = ix3 0 i (⟨128 + l.val, by omega⟩ : Fin 256) := by
  funext a; apply Fin.ext
  match a with
  | ⟨0, _⟩ => rfl
  | ⟨1, _⟩ => show 0 + 1 * i.val = i.val; omega
  | ⟨2, _⟩ => show 128 + 1 * l.val = 128 + l.val; omega

theorem part8_at (x : Vec Ideal S1x128x128 .f32) (i : Fin 128) (l : Fin 128) : View.ld x r0_8 (ix3 0 i l) = x (ix3 0 i ⟨0 + l.val, by omega⟩) := by
  refine congrArg x ?_
  funext a; apply Fin.ext
  match a with
  | ⟨0, _⟩ => rfl
  | ⟨1, _⟩ => show 0 + 1 * i.val = i.val; omega
  | ⟨2, _⟩ => show 0 + 1 * l.val = 0 + l.val; omega

theorem place8 (i : Fin 128) (l : Fin 128) : r0_8.emb (ix3 0 i l) = ix3 0 i (⟨0 + l.val, by omega⟩ : Fin 128) := by
  funext a; apply Fin.ext
  match a with
  | ⟨0, _⟩ => rfl
  | ⟨1, _⟩ => show 0 + 1 * i.val = i.val; omega
  | ⟨2, _⟩ => show 0 + 1 * l.val = 0 + l.val; omega

theorem part5_at (x : Vec Ideal S1x128x512 .f32) (i : Fin 128) (l : Fin 512) : View.ld x r0_5 (ix3 0 i l) = x (ix3 0 i ⟨0 + l.val, by omega⟩) := by
  refine congrArg x ?_
  funext a; apply Fin.ext
  match a with
  | ⟨0, _⟩ => rfl
  | ⟨1, _⟩ => show 0 + 1 * i.val = i.val; omega
  | ⟨2, _⟩ => show 0 + 1 * l.val = 0 + l.val; omega

theorem place5 (i : Fin 128) (l : Fin 512) : r0_5.emb (ix3 0 i l) = ix3 0 i (⟨0 + l.val, by omega⟩ : Fin 512) := by
  funext a; apply Fin.ext
  match a with
  | ⟨0, _⟩ => rfl
  | ⟨1, _⟩ => show 0 + 1 * i.val = i.val; omega
  | ⟨2, _⟩ => show 0 + 1 * l.val = 0 + l.val; omega

theorem place9 (i : Fin 128) (l : Fin 64) : r0_9.emb (ix3 0 i l) = ix3 0 i (⟨0 + l.val, by omega⟩ : Fin 64) := by
  funext a; apply Fin.ext
  match a with
  | ⟨0, _⟩ => rfl
  | ⟨1, _⟩ => show 0 + 1 * i.val = i.val; omega
  | ⟨2, _⟩ => show 0 + 1 * l.val = 0 + l.val; omega

theorem split64 (x : S1x128x64.Idx) : ∃ (i : Fin 128) (l : Fin 64), x = ix3 (0 : Fin 1) i l := ⟨x 1, x 2, by
  funext a; match a with | ⟨0, _⟩ => exact Subsingleton.elim (α := Fin 1) _ _ | ⟨1, _⟩ => rfl | ⟨2, _⟩ => rfl⟩

theorem split128 (x : S1x128x128.Idx) : ∃ (i : Fin 128) (l : Fin 128), x = ix3 (0 : Fin 1) i l := ⟨x 1, x 2, by
  funext a; match a with | ⟨0, _⟩ => exact Subsingleton.elim (α := Fin 1) _ _ | ⟨1, _⟩ => rfl | ⟨2, _⟩ => rfl⟩

theorem split512 (x : S1x128x512.Idx) : ∃ (i : Fin 128) (l : Fin 512), x = ix3 (0 : Fin 1) i l := ⟨x 1, x 2, by
  funext a; match a with | ⟨0, _⟩ => exact Subsingleton.elim (α := Fin 1) _ _ | ⟨1, _⟩ => rfl | ⟨2, _⟩ => rfl⟩

/-! ## The tiles -/

variable (x0 x1 x2 : Vec Ideal S1x128x512 .f32) (x3 : Vec Ideal S1x128x256 .f32) (x4 : Vec Ideal S1x128x128 .f32)
  (x5 x6 x7 x8 x9 x10 : Vec Ideal S128x128 .f32) (X : Fin 128 → ℕ → EReal) (ang : Fin 128 → ℕ → EReal)

/-- A tile of the heads of `d` lanes, rotated. -/
abbrev turned (d half w : ℕ) (X : Fin 128 → ℕ → EReal) (ang : Fin 128 → ℕ → EReal) (i : Fin 128) (l : ℕ) : EReal :=
  rot half (ang i) (fun j => X i (l / d * d + j)) (l % d)

theorem tile11 (hx : ∀ i (l : Fin 512), x0 (ix3 0 i l) = X i l.val)
    (hc : ∀ i l : Fin 128, x5 (ix2 i l) = tabC 16 (ang i) (l.val % 128)) (hs : ∀ i l : Fin 128, x6 (ix2 i l) = tabA 16 (ang i) (l.val % 128))
    (hr : ∀ i l : Fin 128, x7 (ix2 i l) = tabB 16 (ang i) (l.val % 128)) (y : S1x128x512.Idx) :
    out0_11 x0 x1 x2 x3 x4 x5 x6 x7 x8 x9 x10 y = turned 128 16 512 X ang (y 1) (y 2).val := by
  unfold_out out0_11
  refine View.canon_apply_of_pieces (Val := Elt Ideal) (fun y : S1x128x512.Idx => (turned 128 16 512 X ang (y 1) (y 2).val : EReal)) _ ?_ y (cover0_11 _ _ _ _ y)
  intro pc hpc
  rcases List.mem_cons.mp hpc with rfl | hpc
  · intro z
    obtain ⟨i, l, rfl⟩ := split128 z
    rw [place4]
    refine (pay25_at _ _ _ _ i l).trans ?_
    exact spin16 384 (by decide) (ang i) (X i) (fun j => View.ld x0 r0_4 (ix3 0 i j)) (fun j => (part4_at x0 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place3]
    refine (pay21_at _ _ _ _ i l).trans ?_
    exact spin16 256 (by decide) (ang i) (X i) (fun j => View.ld x0 r0_3 (ix3 0 i j)) (fun j => (part3_at x0 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place2]
    refine (pay17_at _ _ _ _ i l).trans ?_
    exact spin16 128 (by decide) (ang i) (X i) (fun j => View.ld x0 r0_2 (ix3 0 i j)) (fun j => (part2_at x0 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place1]
    refine (pay10_at _ _ _ _ i l).trans ?_
    exact spin16 0 (by decide) (ang i) (X i) (fun j => View.ld x0 r0_1 (ix3 0 i j)) (fun j => (part1_at x0 i j).trans (hx i _)) l _ _ _
      ((whole_at x5 i l).trans (hc i l)) ((whole_at x6 i l).trans (hs i l)) ((whole_at x7 i l).trans (hr i l))
  nomatch hpc

theorem tile12 (hx : ∀ i (l : Fin 512), x1 (ix3 0 i l) = X i l.val)
    (hc : ∀ i l : Fin 128, x5 (ix2 i l) = tabC 16 (ang i) (l.val % 128)) (hs : ∀ i l : Fin 128, x6 (ix2 i l) = tabA 16 (ang i) (l.val % 128))
    (hr : ∀ i l : Fin 128, x7 (ix2 i l) = tabB 16 (ang i) (l.val % 128)) (y : S1x128x512.Idx) :
    out0_12 x0 x1 x2 x3 x4 x5 x6 x7 x8 x9 x10 y = turned 128 16 512 X ang (y 1) (y 2).val := by
  unfold_out out0_12
  refine View.canon_apply_of_pieces (Val := Elt Ideal) (fun y : S1x128x512.Idx => (turned 128 16 512 X ang (y 1) (y 2).val : EReal)) _ ?_ y (cover0_12 _ _ _ _ y)
  intro pc hpc
  rcases List.mem_cons.mp hpc with rfl | hpc
  · intro z
    obtain ⟨i, l, rfl⟩ := split128 z
    rw [place4]
    refine (pay27_at _ _ _ _ i l).trans ?_
    exact spin16 384 (by decide) (ang i) (X i) (fun j => View.ld x1 r0_4 (ix3 0 i j)) (fun j => (part4_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place3]
    refine (pay23_at _ _ _ _ i l).trans ?_
    exact spin16 256 (by decide) (ang i) (X i) (fun j => View.ld x1 r0_3 (ix3 0 i j)) (fun j => (part3_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place2]
    refine (pay19_at _ _ _ _ i l).trans ?_
    exact spin16 128 (by decide) (ang i) (X i) (fun j => View.ld x1 r0_2 (ix3 0 i j)) (fun j => (part2_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place1]
    refine (pay15_at _ _ _ _ i l).trans ?_
    exact spin16 0 (by decide) (ang i) (X i) (fun j => View.ld x1 r0_1 (ix3 0 i j)) (fun j => (part1_at x1 i j).trans (hx i _)) l _ _ _
      ((whole_at x5 i l).trans (hc i l)) ((whole_at x6 i l).trans (hs i l)) ((tab_at x7 i l).trans (hr i l))
  nomatch hpc

theorem tile13 (hx : ∀ i (l : Fin 512), x1 (ix3 0 i l) = X i l.val)
    (hc : ∀ i l : Fin 128, x5 (ix2 i l) = tabC 16 (ang i) (l.val % 128)) (hs : ∀ i l : Fin 128, x6 (ix2 i l) = tabA 16 (ang i) (l.val % 128))
    (hr : ∀ i l : Fin 128, x7 (ix2 i l) = tabB 16 (ang i) (l.val % 128)) (y : S1x128x512.Idx) :
    out0_13 x0 x1 x2 x3 x4 x5 x6 x7 x8 x9 x10 y = turned 128 16 512 X ang (y 1) (y 2).val := by
  unfold_out out0_13
  refine View.canon_apply_of_pieces (Val := Elt Ideal) (fun y : S1x128x512.Idx => (turned 128 16 512 X ang (y 1) (y 2).val : EReal)) _ ?_ y (cover0_13 _ _ _ _ y)
  intro pc hpc
  rcases List.mem_cons.mp hpc with rfl | hpc
  · intro z
    obtain ⟨i, l, rfl⟩ := split128 z
    rw [place4]
    refine (pay28_at _ _ _ _ i l).trans ?_
    exact spin16 384 (by decide) (ang i) (X i) (fun j => View.ld x1 r0_4 (ix3 0 i j)) (fun j => (part4_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place3]
    refine (pay24_at _ _ _ _ i l).trans ?_
    exact spin16 256 (by decide) (ang i) (X i) (fun j => View.ld x1 r0_3 (ix3 0 i j)) (fun j => (part3_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place2]
    refine (pay20_at _ _ _ _ i l).trans ?_
    exact spin16 128 (by decide) (ang i) (X i) (fun j => View.ld x1 r0_2 (ix3 0 i j)) (fun j => (part2_at x1 i j).trans (hx i _)) l _ _ _
      ((tab_at x5 i l).trans (hc i l)) ((tab_at x6 i l).trans (hs i l)) ((tab_at x7 i l).trans (hr i l))
  rcases List.mem_cons.mp hpc with rfl | hpc
  · intro z
    obtain ⟨i, l, rfl⟩ := split128 z
    rw [place1]
    refine (pay16_at _ _ _ _ i l).trans ?_
    exact spin16 0 (by decide) (ang i) (X i) (fun j => View.ld x1 r0_1 (ix3 0 i j)) (fun j => (part1_at x1 i j).trans (hx i _)) l _ _ _
      ((whole_at x5 i l).trans (hc i l)) ((whole_at x6 i l).trans (hs i l)) ((tab_at x7 i l).trans (hr i l))
  nomatch hpc

theorem tile15 (hx : ∀ i (l : Fin 256), x3 (ix3 0 i l) = X i l.val)
    (hc : ∀ i l : Fin 128, x8 (ix2 i l) = tabC 8 (ang i) (l.val % 64)) (hs : ∀ i l : Fin 128, x9 (ix2 i l) = tabA 8 (ang i) (l.val % 64))
    (hr : ∀ i l : Fin 128, x10 (ix2 i l) = tabB 8 (ang i) (l.val % 64)) (y : S1x128x256.Idx) :
    out0_15 x0 x1 x2 x3 x4 x5 x6 x7 x8 x9 x10 y = turned 64 8 256 X ang (y 1) (y 2).val := by
  unfold_out out0_15
  refine View.canon_apply_of_pieces (Val := Elt Ideal) (fun y : S1x128x256.Idx => (turned 64 8 256 X ang (y 1) (y 2).val : EReal)) _ ?_ y (cover0_15 _ _ y)
  intro pc hpc
  rcases List.mem_cons.mp hpc with rfl | hpc
  · intro z
    obtain ⟨i, l, rfl⟩ := split128 z
    rw [place7]
    refine (pay32_at _ _ _ _ i l).trans ?_
    exact spin8 128 (by decide) (ang i) (X i) (fun j => View.ld x3 r0_7 (ix3 0 i j)) (fun j => (part7_at x3 i j).trans (hx i _)) l _ _ _
      ((tab_at x8 i l).trans (hc i l)) ((tab_at x9 i l).trans (hs i l)) ((tab_at x10 i l).trans (hr i l))
  rcases List.mem_cons.mp hpc with rfl | hpc
  · intro z
    obtain ⟨i, l, rfl⟩ := split128 z
    rw [place6]
    refine (pay31_at _ _ _ _ i l).trans ?_
    exact spin8 0 (by decide) (ang i) (X i) (fun j => View.ld x3 r0_6 (ix3 0 i j)) (fun j => (part6_at x3 i j).trans (hx i _)) l _ _ _
      ((tab_at x8 i l).trans (hc i l)) ((tab_at x9 i l).trans (hs i l)) ((tab_at x10 i l).trans (hr i l))
  nomatch hpc

theorem tile14 (hx : ∀ i (l : Fin 512), x2 (ix3 0 i l) = X i l.val) (y : S1x128x512.Idx) : out0_14 x0 x1 x2 x3 x4 x5 x6 x7 x8 x9 x10 y = X (y 1) (y 2).val := by
  unfold_out out0_14
  refine View.canon_apply_of_pieces (Val := Elt Ideal) (fun y : S1x128x512.Idx => (X (y 1) (y 2).val : EReal)) _ ?_ y (cover0_14 _ y)
  intro pc hpc
  rcases List.mem_cons.mp hpc with rfl | hpc
  · intro z
    obtain ⟨i, l, rfl⟩ := split512 z
    rw [place5]
    refine (pay30_at (View.ld x2 r0_5) i l).trans ?_
    refine (part5_at x2 i l).trans ?_
    exact hx i ⟨0 + l.val, by omega⟩
  nomatch hpc

theorem tile16 (hx : ∀ i (l : Fin 128), x4 (ix3 0 i l) = X i l.val)
    (hc : ∀ i l : Fin 128, x8 (ix2 i l) = tabC 8 (ang i) (l.val % 64)) (hs : ∀ i l : Fin 128, x9 (ix2 i l) = tabA 8 (ang i) (l.val % 64))
    (hr : ∀ i l : Fin 128, x10 (ix2 i l) = tabB 8 (ang i) (l.val % 64)) (y : S1x128x64.Idx) :
    out0_16 x0 x1 x2 x3 x4 x5 x6 x7 x8 x9 x10 y = turned 64 8 64 X ang (y 1) (y 2).val := by
  unfold_out out0_16
  refine View.canon_apply_of_pieces (Val := Elt Ideal) (fun y : S1x128x64.Idx => (turned 64 8 64 X ang (y 1) (y 2).val : EReal)) _ ?_ y (cover0_16 _ y)
  intro pc hpc
  rcases List.mem_cons.mp hpc with rfl | hpc
  · intro z
    obtain ⟨i, e, rfl⟩ := split64 z
    rw [place9]
    refine (pay2_at _ _ _ _ i e ⟨e.val, by omega⟩ rfl).trans ?_
    exact spin8 0 (by decide) (ang i) (X i) (fun j => View.ld x4 r0_8 (ix3 0 i j)) (fun j => (part8_at x4 i j).trans (hx i _)) ⟨e.val, by omega⟩ _ _ _
      ((tab_at x8 i _).trans (hc i _)) ((tab_at x9 i _).trans (hs i _)) ((tab_at x10 i _).trans (hr i _))
  nomatch hpc

theorem tile17 (hx : ∀ i (l : Fin 128), x4 (ix3 0 i l) = X i l.val)
    (hc : ∀ i l : Fin 128, x8 (ix2 i l) = tabC 8 (ang i) (l.val % 64)) (hs : ∀ i l : Fin 128, x9 (ix2 i l) = tabA 8 (ang i) (l.val % 64))
    (hr : ∀ i l : Fin 128, x10 (ix2 i l) = tabB 8 (ang i) (l.val % 64)) (y : S1x128x64.Idx) :
    out0_17 x0 x1 x2 x3 x4 x5 x6 x7 x8 x9 x10 y = turned 64 8 64 X ang (y 1) (y 2).val := by
  unfold_out out0_17
  refine View.canon_apply_of_pieces (Val := Elt Ideal) (fun y : S1x128x64.Idx => (turned 64 8 64 X ang (y 1) (y 2).val : EReal)) _ ?_ y (cover0_17 _ y)
  intro pc hpc
  rcases List.mem_cons.mp hpc with rfl | hpc
  · intro z
    obtain ⟨i, e, rfl⟩ := split64 z
    rw [place9]
    refine (pay3_at _ _ _ _ i e ⟨e.val, by omega⟩ rfl).trans ?_
    exact spin8 0 (by decide) (ang i) (X i) (fun j => View.ld x4 r0_8 (ix3 0 i j)) (fun j => (part8_at x4 i j).trans (hx i _)) ⟨e.val, by omega⟩ _ _ _
      ((tab_at x8 i _).trans (hc i _)) ((tab_at x9 i _).trans (hs i _)) ((tab_at x10 i _).trans (hr i _))
  nomatch hpc

/-! ## The tables before the call -/

variable (m : (ℓ : Loc nD τ sig) → Buf (Elt Ideal) ℓ)

set_option maxHeartbeats 1000000 in
theorem table24 (c : Dev nD) (t : Fin 4096) (l : Fin 128) : (V m c main_v24 : FVec Ideal S4096x128 .f32) (ix2 t l)
    = tabC 16 (angle 1107296256#32 (m ((c : Thread nD τ).loc main_arg1) (ix1 t))) (l.val) := by
  after_reads_simp
  pointwise
  all_goals after_reads_simp
  all_goals pointwise
  all_goals rfl

set_option maxHeartbeats 1000000 in
theorem table27 (c : Dev nD) (t : Fin 4096) (l : Fin 128) : (V m c main_v27 : FVec Ideal S4096x128 .f32) (ix2 t l)
    = tabA 16 (angle 1107296256#32 (m ((c : Thread nD τ).loc main_arg1) (ix1 t))) (l.val) := by
  after_reads_simp
  pointwise
  all_goals after_reads_simp
  all_goals pointwise
  all_goals rfl

set_option maxHeartbeats 1000000 in
theorem table30 (c : Dev nD) (t : Fin 4096) (l : Fin 128) : (V m c main_v30 : FVec Ideal S4096x128 .f32) (ix2 t l)
    = tabB 16 (angle 1107296256#32 (m ((c : Thread nD τ).loc main_arg1) (ix1 t))) (l.val) := by
  after_reads_simp
  pointwise
  all_goals after_reads_simp
  all_goals pointwise
  all_goals rfl

set_option maxHeartbeats 1000000 in
theorem table55 (c : Dev nD) (t : Fin 4096) (l : Fin 128) : (V m c main_v55 : FVec Ideal S4096x128 .f32) (ix2 t l)
    = tabC 8 (angle 1098907648#32 (m ((c : Thread nD τ).loc main_arg1) (ix1 t))) (l.val % 64) := by
  after_reads_simp
  pointwise
  all_goals after_reads_simp
  all_goals pointwise
  all_goals rfl

set_option maxHeartbeats 1000000 in
theorem table58 (c : Dev nD) (t : Fin 4096) (l : Fin 128) : (V m c main_v58 : FVec Ideal S4096x128 .f32) (ix2 t l)
    = tabA 8 (angle 1098907648#32 (m ((c : Thread nD τ).loc main_arg1) (ix1 t))) (l.val % 64) := by
  after_reads_simp
  pointwise
  all_goals after_reads_simp
  all_goals pointwise
  all_goals rfl

set_option maxHeartbeats 1000000 in
theorem table61 (c : Dev nD) (t : Fin 4096) (l : Fin 128) : (V m c main_v61 : FVec Ideal S4096x128 .f32) (ix2 t l)
    = tabB 8 (angle 1098907648#32 (m ((c : Thread nD τ).loc main_arg1) (ix1 t))) (l.val % 64) := by
  after_reads_simp
  pointwise
  all_goals after_reads_simp
  all_goals pointwise
  all_goals rfl

end Cert.Proof.Prep

end
-- ==== Proof.PrepOut.lean ====
/- The rotary position embedding: the arrays that kernel and reference compute. -/
module

public import proofs.«01_k».proof.Proof.PrepBody
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-! ## The computed arrays -/

/-- Column `n` of the projections at a row. -/
def col (A : Proj) (b : Fin 4) (t : Fin 4096) (n : ℕ) : EReal := if h : n < 5632 then A (ix3 b t ⟨n, h⟩) else 0

theorem col_of (A : Proj) (b : Fin 4) (t : Fin 4096) (n : ℕ) (h : n < 5632) : col A b t n = A (ix3 b t ⟨n, h⟩) := dif_pos h

/-- The heads of `d` lanes from column `base` on, each rotated by the row's position, at column `n` of them. -/
def heads (d half : ℕ) (den : BitVec 32) (base : ℕ) (A : Proj) (P : Pos) (b : Fin 4) (t : Fin 4096) (n : ℕ) : EReal :=
  rot half (angle den (P (ix1 t))) (fun j => col A b t (base + (n / d * d + j))) (n % d)

/-- The queries, the keys (whole and shortened), the values, the indexer's queries, its key (whole and shortened). -/
def outQ (A : Proj) (P : Pos) : FVec Ideal S4x4096x512 .bf16 := fun i => heads 128 16 1107296256#32 3584 A P (i 0) (i 1) (i 2).val
def outK (A : Proj) (P : Pos) : FVec Ideal S4x4096x512 .f32 := fun i => heads 128 16 1107296256#32 4096 A P (i 0) (i 1) (i 2).val
def outKs (A : Proj) (P : Pos) : FVec Ideal S4x4096x512 .bf16 := fun i => heads 128 16 1107296256#32 4096 A P (i 0) (i 1) (i 2).val
def outV (A : Proj) : FVec Ideal S4x4096x512 .bf16 := fun i => col A (i 0) (i 1) (4608 + (i 2).val)
def outQI (A : Proj) (P : Pos) : FVec Ideal S4x4096x256 .bf16 := fun i => heads 64 8 1098907648#32 5120 A P (i 0) (i 1) (i 2).val
def outKI (A : Proj) (P : Pos) : FVec Ideal S4x4096x64 .f32 := fun i => heads 64 8 1098907648#32 5376 A P (i 0) (i 1) (i 2).val
def outKIs (A : Proj) (P : Pos) : FVec Ideal S4x4096x64 .bf16 := fun i => heads 64 8 1098907648#32 5376 A P (i 0) (i 1) (i 2).val

theorem col_eq (A : Proj) (b : Fin 4) (t : Fin 4096) (n n' : ℕ) (h : n < 5632) (e : n' = n) : A (ix3 b t ⟨n, h⟩) = col A b t n' := by
  subst e
  exact (col_of A b t n' h).symm

/-- The rotated heads, written out by cases of the lane. -/
theorem heads16 (A : Proj) (P : Pos) (b : Fin 4) (t : Fin 4096) (base e : ℕ) (he : e < 512) (hb : base + 512 ≤ 5632) (p : BitVec 32) (hp : p = P (ix1 t)) :
    (if h : e % 128 < 16 then A (ix3 b t ⟨base + e, by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 128))) (Ideal.ofBits FTy.f32 1107296256#32))) - A (ix3 b t ⟨base + (e / 128 * 128 + (16 + e % 128)), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 128))) (Ideal.ofBits FTy.f32 1107296256#32)))
      else if h' : e % 128 - 16 < 16 then A (ix3 b t ⟨base + (e / 128 * 128 + (16 + (e % 128 - 16))), by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 128 - 16))) (Ideal.ofBits FTy.f32 1107296256#32))) + A (ix3 b t ⟨base + (e / 128 * 128 + (e % 128 - 16)), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 128 - 16))) (Ideal.ofBits FTy.f32 1107296256#32)))
      else A (ix3 b t ⟨base + (e / 128 * 128 + (32 + (e % 128 - 16 - 16))), by omega⟩)) = heads 128 16 1107296256#32 base A P b t e := by
  subst hp
  unfold heads rot angle
  by_cases h : e % 128 < 16
  · rw [dif_pos h, dif_pos h]
    exact congrArg₂ (· - ·) (congrArg₂ (· * ·) (col_eq A b t _ _ (by omega) (by omega)) rfl) (congrArg₂ (· * ·) (col_eq A b t _ _ (by omega) (by omega)) rfl)
  · rw [dif_neg h, dif_neg h]
    by_cases h' : e % 128 - 16 < 16
    · rw [dif_pos h', dif_pos h']
      exact congrArg₂ (· + ·) (congrArg₂ (· * ·) (col_eq A b t _ _ (by omega) (by omega)) rfl) (congrArg₂ (· * ·) (col_eq A b t _ _ (by omega) (by omega)) rfl)
    · rw [dif_neg h', dif_neg h']
      exact col_eq A b t _ _ (by omega) (by omega)

/-- The rotated heads, written out by cases of the lane. -/
theorem heads8 (A : Proj) (P : Pos) (b : Fin 4) (t : Fin 4096) (base e : ℕ) (he : e < 256) (hb : base + 256 ≤ 5632) (p : BitVec 32) (hp : p = P (ix1 t)) :
    (if h : e % 64 < 8 then A (ix3 b t ⟨base + e, by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 64))) (Ideal.ofBits FTy.f32 1098907648#32))) - A (ix3 b t ⟨base + (e / 64 * 64 + (8 + e % 64)), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 64))) (Ideal.ofBits FTy.f32 1098907648#32)))
      else if h' : e % 64 - 8 < 8 then A (ix3 b t ⟨base + (e / 64 * 64 + (8 + (e % 64 - 8))), by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 64 - 8))) (Ideal.ofBits FTy.f32 1098907648#32))) + A (ix3 b t ⟨base + (e / 64 * 64 + (e % 64 - 8)), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e % 64 - 8))) (Ideal.ofBits FTy.f32 1098907648#32)))
      else A (ix3 b t ⟨base + (e / 64 * 64 + (16 + (e % 64 - 8 - 8))), by omega⟩)) = heads 64 8 1098907648#32 base A P b t e := by
  subst hp
  unfold heads rot angle
  by_cases h : e % 64 < 8
  · rw [dif_pos h, dif_pos h]
    exact congrArg₂ (· - ·) (congrArg₂ (· * ·) (col_eq A b t _ _ (by omega) (by omega)) rfl) (congrArg₂ (· * ·) (col_eq A b t _ _ (by omega) (by omega)) rfl)
  · rw [dif_neg h, dif_neg h]
    by_cases h' : e % 64 - 8 < 8
    · rw [dif_pos h', dif_pos h']
      exact congrArg₂ (· + ·) (congrArg₂ (· * ·) (col_eq A b t _ _ (by omega) (by omega)) rfl) (congrArg₂ (· * ·) (col_eq A b t _ _ (by omega) (by omega)) rfl)
    · rw [dif_neg h', dif_neg h']
      exact col_eq A b t _ _ (by omega) (by omega)

/-- The rotated heads, written out by cases of the lane of one head. -/
theorem head8 (A : Proj) (P : Pos) (b : Fin 4) (t : Fin 4096) (base e : ℕ) (he : e < 64) (hb : base + 64 ≤ 5632) (p : BitVec 32) (hp : p = P (ix1 t)) :
    (if h : e < 8 then A (ix3 b t ⟨base + e, by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e))) (Ideal.ofBits FTy.f32 1098907648#32))) - A (ix3 b t ⟨base + (8 + e), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e))) (Ideal.ofBits FTy.f32 1098907648#32)))
      else if h' : e - 8 < 8 then A (ix3 b t ⟨base + (8 + (e - 8)), by omega⟩) * Ideal.cos (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e - 8))) (Ideal.ofBits FTy.f32 1098907648#32))) + A (ix3 b t ⟨base + (e - 8), by omega⟩) * Ideal.sin (FloatOps.sitofp (F := Ideal) FTy.f32 p * Ideal.pow (Ideal.ofBits FTy.f32 1223959552#32) (Ideal.div (Ideal.ofBits FTy.f32 3221225472#32 * FloatOps.sitofp (F := Ideal) FTy.f32 (BitVec.ofNat 32 (e - 8))) (Ideal.ofBits FTy.f32 1098907648#32)))
      else A (ix3 b t ⟨base + (16 + (e - 8 - 8)), by omega⟩)) = heads 64 8 1098907648#32 base A P b t e := by
  subst hp
  unfold heads rot angle
  rw [show e % 64 = e by omega]
  by_cases h : e < 8
  · rw [dif_pos h, dif_pos h]
    exact congrArg₂ (· - ·) (congrArg₂ (· * ·) (col_eq A b t _ _ (by omega) (by omega)) rfl) (congrArg₂ (· * ·) (col_eq A b t _ _ (by omega) (by omega)) rfl)
  · rw [dif_neg h, dif_neg h]
    by_cases h' : e - 8 < 8
    · rw [dif_pos h', dif_pos h']
      exact congrArg₂ (· + ·) (congrArg₂ (· * ·) (col_eq A b t _ _ (by omega) (by omega)) rfl) (congrArg₂ (· * ·) (col_eq A b t _ _ (by omega) (by omega)) rfl)
    · rw [dif_neg h', dif_neg h']
      exact col_eq A b t _ _ (by omega) (by omega)

end Cert.Proof.Prep

end
-- ==== Proof.PrepRefQ.lean ====
/- The rotary position embedding's reference: the queries. -/
module

public import proofs.«01_k».proof.Proof.PrepOut
public import proofs.«01_k».proof.Proof.Gen.PrepRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-- Result 0 of the reference is the computed array. -/
theorem ref0 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v136 m' c = outQ (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  funext i
  obtain ⟨b, t, e, rfl⟩ : ∃ (b : Fin 4) (t : Fin 4096) (e : Fin 512), i = ix3 b t e := ⟨i 0, i 1, i 2, by
    funext a; match a with | ⟨0, _⟩ => rfl | ⟨1, _⟩ => rfl | ⟨2, _⟩ => rfl⟩
  unfold Cert.PrepRefIdeal.Value.res_main_v136
  pointwise
  exact heads16 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) b t 3584 e.val e.isLt (by omega) _ rfl

end Cert.Proof.Prep

end
-- ==== Proof.PrepRefK.lean ====
/- The rotary position embedding's reference: the keys and the values. -/
module

public import proofs.«01_k».proof.Proof.PrepOut
public import proofs.«01_k».proof.Proof.Gen.PrepRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-- Result 1 of the reference is the computed array. -/
theorem ref1 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v67 m' c = outK (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  funext i
  obtain ⟨b, t, e, rfl⟩ : ∃ (b : Fin 4) (t : Fin 4096) (e : Fin 512), i = ix3 b t e := ⟨i 0, i 1, i 2, by
    funext a; match a with | ⟨0, _⟩ => rfl | ⟨1, _⟩ => rfl | ⟨2, _⟩ => rfl⟩
  unfold Cert.PrepRefIdeal.Value.res_main_v67
  pointwise
  exact heads16 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) b t 4096 e.val e.isLt (by omega) _ rfl

/-- Result 2 of the reference is result 1 shortened. -/
theorem ref2 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v137 m' c = outKs (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  have h := ref1 m' c
  funext i
  have h := congrFun h i
  unfold Cert.PrepRefIdeal.Value.res_main_v67 at h
  unfold Cert.PrepRefIdeal.Value.res_main_v137
  exact h

/-- Result 3 of the reference is the computed array. -/
theorem ref3 (m' : (ℓ : Loc Cert.PrepRefIdeal.nD Cert.PrepRefIdeal.τ Cert.PrepRefIdeal.sig) → Buf (Elt Ideal) ℓ) (c : Dev Cert.PrepRefIdeal.nD) :
    truncf .bf16 (extractStridedSlice Cert.PrepRefIdeal.S4x4096x512 ![0, 0, 4608] (m' ((c.tc : Thread Cert.PrepRefIdeal.nD Cert.PrepRefIdeal.τ).loc Cert.PrepRefIdeal.main_arg0)) Cert.PrepRefIdeal.Gen.slices_S4x4096x5632_S4x4096x512_0_0_4608) Cert.PrepRefIdeal.Gen.bitsLt_bf16_f32 = outV (m' ((c.tc : Thread Cert.PrepRefIdeal.nD Cert.PrepRefIdeal.τ).loc Cert.PrepRefIdeal.main_arg0)) := by
  funext i
  obtain ⟨b, t, e, rfl⟩ : ∃ (b : Fin 4) (t : Fin 4096) (e : Fin 512), i = ix3 b t e := ⟨i 0, i 1, i 2, by
    funext a; match a with | ⟨0, _⟩ => rfl | ⟨1, _⟩ => rfl | ⟨2, _⟩ => rfl⟩
  pointwise
  exact (col_of _ b t (4608 + e.val) (by omega)).symm

end Cert.Proof.Prep

end
-- ==== Proof.PrepRefI.lean ====
/- The rotary position embedding's reference: the indexer's queries. -/
module

public import proofs.«01_k».proof.Proof.PrepOut
public import proofs.«01_k».proof.Proof.Gen.PrepRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-- Result 4 of the reference is the computed array. -/
theorem ref4 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v140 m' c = outQI (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  funext i
  obtain ⟨b, t, e, rfl⟩ : ∃ (b : Fin 4) (t : Fin 4096) (e : Fin 256), i = ix3 b t e := ⟨i 0, i 1, i 2, by
    funext a; match a with | ⟨0, _⟩ => rfl | ⟨1, _⟩ => rfl | ⟨2, _⟩ => rfl⟩
  unfold Cert.PrepRefIdeal.Value.res_main_v140
  pointwise
  exact heads8 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) b t 5120 e.val e.isLt (by omega) _ rfl

end Cert.Proof.Prep

end
-- ==== Proof.PrepRefJ.lean ====
/- The rotary position embedding's reference: the indexer's key. -/
module

public import proofs.«01_k».proof.Proof.PrepOut
public import proofs.«01_k».proof.Proof.Gen.PrepRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-- Result 5 of the reference is the computed array. -/
theorem ref5 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v135 m' c = outKI (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  funext i
  obtain ⟨b, t, e, rfl⟩ : ∃ (b : Fin 4) (t : Fin 4096) (e : Fin 64), i = ix3 b t e := ⟨i 0, i 1, i 2, by
    funext a; match a with | ⟨0, _⟩ => rfl | ⟨1, _⟩ => rfl | ⟨2, _⟩ => rfl⟩
  unfold Cert.PrepRefIdeal.Value.res_main_v135
  pointwise
  exact head8 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) b t 5376 e.val e.isLt (by omega) _ rfl

/-- Result 6 of the reference is result 5 shortened. -/
theorem ref6 (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v141 m' c = outKIs (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) := by
  have h := ref5 m' c
  funext i
  have h := congrFun h i
  unfold Cert.PrepRefIdeal.Value.res_main_v135 at h
  unfold Cert.PrepRefIdeal.Value.res_main_v141
  exact h

end Cert.Proof.Prep

end
-- ==== Proof.PrepValue.lean ====
/- The rotary position embedding: the kernel's result arrays, the reference's, and the claims about them. -/
module

public import proofs.«01_k».proof.Proof.PrepRefQ
public import proofs.«01_k».proof.Proof.PrepRefK
public import proofs.«01_k».proof.Proof.PrepRefI
public import proofs.«01_k».proof.Proof.PrepRefJ
public import proofs.«01_k».proof.Proof.Gen.PrepRefIdeal.Run
public import proofs.«01_k».proof.Defs
public import proofs.«01_k».proof.Proof.Gen.Prep.Frame
public import Idealize.ShloMosaic.Lib.Quiescent
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Prep

open Cert.PrepIdeal Cert.PrepIdeal.Gen

/-! ## Which part of its array each window's block is -/

/-- The block index of each window at point `t`: the projections', the tables', the results'. -/
theorem idxA : ∀ t : Fin cfg0.N, (win0_0.index t (0 : Fin 3) = t.val / 32 ∧ win0_0.index t (1 : Fin 3) = t.val % 32 ∧ win0_0.index t (2 : Fin 3) = 7) ∧ (win0_1.index t (0 : Fin 3) = t.val / 32 ∧ win0_1.index t (1 : Fin 3) = t.val % 32 ∧ win0_1.index t (2 : Fin 3) = 8) ∧ (win0_2.index t (0 : Fin 3) = t.val / 32 ∧ win0_2.index t (1 : Fin 3) = t.val % 32 ∧ win0_2.index t (2 : Fin 3) = 9) ∧ (win0_3.index t (0 : Fin 3) = t.val / 32 ∧ win0_3.index t (1 : Fin 3) = t.val % 32 ∧ win0_3.index t (2 : Fin 3) = 20) ∧ (win0_4.index t (0 : Fin 3) = t.val / 32 ∧ win0_4.index t (1 : Fin 3) = t.val % 32 ∧ win0_4.index t (2 : Fin 3) = 42) :=
  (by decide +kernel : ∀ t : Fin grid0.N, _)

theorem idxT : ∀ t : Fin cfg0.N, (win0_5.index t (0 : Fin 2) = t.val % 32 ∧ win0_5.index t (1 : Fin 2) = 0) ∧ (win0_6.index t (0 : Fin 2) = t.val % 32 ∧ win0_6.index t (1 : Fin 2) = 0) ∧ (win0_7.index t (0 : Fin 2) = t.val % 32 ∧ win0_7.index t (1 : Fin 2) = 0) ∧ (win0_8.index t (0 : Fin 2) = t.val % 32 ∧ win0_8.index t (1 : Fin 2) = 0) ∧ (win0_9.index t (0 : Fin 2) = t.val % 32 ∧ win0_9.index t (1 : Fin 2) = 0) ∧ (win0_10.index t (0 : Fin 2) = t.val % 32 ∧ win0_10.index t (1 : Fin 2) = 0) :=
  (by decide +kernel : ∀ t : Fin grid0.N, _)

theorem idxR : ∀ t : Fin cfg0.N, (win0_11.index t (0 : Fin 3) = t.val / 32 ∧ win0_11.index t (1 : Fin 3) = t.val % 32 ∧ win0_11.index t (2 : Fin 3) = 0) ∧ (win0_12.index t (0 : Fin 3) = t.val / 32 ∧ win0_12.index t (1 : Fin 3) = t.val % 32 ∧ win0_12.index t (2 : Fin 3) = 0) ∧ (win0_13.index t (0 : Fin 3) = t.val / 32 ∧ win0_13.index t (1 : Fin 3) = t.val % 32 ∧ win0_13.index t (2 : Fin 3) = 0) ∧ (win0_14.index t (0 : Fin 3) = t.val / 32 ∧ win0_14.index t (1 : Fin 3) = t.val % 32 ∧ win0_14.index t (2 : Fin 3) = 0) ∧ (win0_15.index t (0 : Fin 3) = t.val / 32 ∧ win0_15.index t (1 : Fin 3) = t.val % 32 ∧ win0_15.index t (2 : Fin 3) = 0) ∧ (win0_16.index t (0 : Fin 3) = t.val / 32 ∧ win0_16.index t (1 : Fin 3) = t.val % 32 ∧ win0_16.index t (2 : Fin 3) = 0) ∧ (win0_17.index t (0 : Fin 3) = t.val / 32 ∧ win0_17.index t (1 : Fin 3) = t.val % 32 ∧ win0_17.index t (2 : Fin 3) = 0) :=
  (by decide +kernel : ∀ t : Fin grid0.N, _)

theorem lt_N (t : Fin cfg0.N) : t.val < 128 := N_0 ▸ t.isLt

/-- The sequence and the rows of point `t`. -/
abbrev bat (t : Fin cfg0.N) : Fin 4 := ⟨t.val / 32, by have := lt_N t; omega⟩
abbrev at_ (t : Fin cfg0.N) (r : Fin 128) : Fin 4096 := ⟨t.val % 32 * 128 + r.val, by omega⟩

theorem emb0 (t : Fin cfg0.N) (r : Fin 128) (e : Fin 512) : ((cfg0.win 0).blk t).view.emb (ix3 0 r e) = ix3 (bat t) (at_ t r) (⟨3584 + e.val, by omega⟩ : Fin 5632) := by
  obtain ⟨⟨e0, e1, e2⟩, -⟩ := idxA t
  funext a; apply Fin.ext
  match a with
  | ⟨0, _⟩ => show win0_0.index t (0 : Fin 3) * 1 + 1 * 0 = t.val / 32; omega
  | ⟨1, _⟩ => show win0_0.index t (1 : Fin 3) * 128 + 1 * r.val = t.val % 32 * 128 + r.val; omega
  | ⟨2, _⟩ => show win0_0.index t (2 : Fin 3) * 512 + 1 * e.val = 3584 + e.val; omega

theorem emb1 (t : Fin cfg0.N) (r : Fin 128) (e : Fin 512) : ((cfg0.win 1).blk t).view.emb (ix3 0 r e) = ix3 (bat t) (at_ t r) (⟨4096 + e.val, by omega⟩ : Fin 5632) := by
  obtain ⟨-, ⟨e0, e1, e2⟩, -⟩ := idxA t
  funext a; apply Fin.ext
  match a with
  | ⟨0, _⟩ => show win0_1.index t (0 : Fin 3) * 1 + 1 * 0 = t.val / 32; omega
  | ⟨1, _⟩ => show win0_1.index t (1 : Fin 3) * 128 + 1 * r.val = t.val % 32 * 128 + r.val; omega
  | ⟨2, _⟩ => show win0_1.index t (2 : Fin 3) * 512 + 1 * e.val = 4096 + e.val; omega

theorem emb2 (t : Fin cfg0.N) (r : Fin 128) (e : Fin 512) : ((cfg0.win 2).blk t).view.emb (ix3 0 r e) = ix3 (bat t) (at_ t r) (⟨4608 + e.val, by omega⟩ : Fin 5632) := by
  obtain ⟨-, -, ⟨e0, e1, e2⟩, -⟩ := idxA t
  funext a; apply Fin.ext
  match a with
  | ⟨0, _⟩ => show win0_2.index t (0 : Fin 3) * 1 + 1 * 0 = t.val / 32; omega
  | ⟨1, _⟩ => show win0_2.index t (1 : Fin 3) * 128 + 1 * r.val = t.val % 32 * 128 + r.val; omega
  | ⟨2, _⟩ => show win0_2.index t (2 : Fin 3) * 512 + 1 * e.val = 4608 + e.val; omega

theorem emb3 (t : Fin cfg0.N) (r : Fin 128) (e : Fin 256) : ((cfg0.win 3).blk t).view.emb (ix3 0 r e) = ix3 (bat t) (at_ t r) (⟨5120 + e.val, by omega⟩ : Fin 5632) := by
  obtain ⟨-, -, -, ⟨e0, e1, e2⟩, -⟩ := idxA t
  funext a; apply Fin.ext
  match a with
  | ⟨0, _⟩ => show win0_3.index t (0 : Fin 3) * 1 + 1 * 0 = t.val / 32; omega
  | ⟨1, _⟩ => show win0_3.index t (1 : Fin 3) * 128 + 1 * r.val = t.val % 32 * 128 + r.val; omega
  | ⟨2, _⟩ => show win0_3.index t (2 : Fin 3) * 256 + 1 * e.val = 5120 + e.val; omega

theorem emb4 (t : Fin cfg0.N) (r : Fin 128) (e : Fin 128) : ((cfg0.win 4).blk t).view.emb (ix3 0 r e) = ix3 (bat t) (at_ t r) (⟨5376 + e.val, by omega⟩ : Fin 5632) := by
  obtain ⟨-, -, -, -, ⟨e0, e1, e2⟩⟩ := idxA t
  funext a; apply Fin.ext
  match a with
  | ⟨0, _⟩ => show win0_4.index t (0 : Fin 3) * 1 + 1 * 0 = t.val / 32; omega
  | ⟨1, _⟩ => show win0_4.index t (1 : Fin 3) * 128 + 1 * r.val = t.val % 32 * 128 + r.val; omega
  | ⟨2, _⟩ => show win0_4.index t (2 : Fin 3) * 128 + 1 * e.val = 5376 + e.val; omega

theorem emb5 (t : Fin cfg0.N) (r l : Fin 128) : ((cfg0.win 5).blk t).view.emb (ix2 r l) = ix2 (at_ t r) l := by
  obtain ⟨⟨e0, e1⟩, -⟩ := idxT t
  funext a; apply Fin.ext
  match a with
  | ⟨0, _⟩ => show win0_5.index t (0 : Fin 2) * 128 + 1 * r.val = t.val % 32 * 128 + r.val; omega
  | ⟨1, _⟩ => show win0_5.index t (1 : Fin 2) * 128 + 1 * l.val = l.val; omega

theorem emb6 (t : Fin cfg0.N) (r l : Fin 128) : ((cfg0.win 6).blk t).view.emb (ix2 r l) = ix2 (at_ t r) l := by
  obtain ⟨-, ⟨e0, e1⟩, -⟩ := idxT t
  funext a; apply Fin.ext
  match a with
  | ⟨0, _⟩ => show win0_6.index t (0 : Fin 2) * 128 + 1 * r.val = t.val % 32 * 128 + r.val; omega
  | ⟨1, _⟩ => show win0_6.index t (1 : Fin 2) * 128 + 1 * l.val = l.val; omega

theorem emb7 (t : Fin cfg0.N) (r l : Fin 128) : ((cfg0.win 7).blk t).view.emb (ix2 r l) = ix2 (at_ t r) l := by
  obtain ⟨-, -, ⟨e0, e1⟩, -⟩ := idxT t
  funext a; apply Fin.ext
  match a with
  | ⟨0, _⟩ => show win0_7.index t (0 : Fin 2) * 128 + 1 * r.val = t.val % 32 * 128 + r.val; omega
  | ⟨1, _⟩ => show win0_7.index t (1 : Fin 2) * 128 + 1 * l.val = l.val; omega

theorem emb8 (t : Fin cfg0.N) (r l : Fin 128) : ((cfg0.win 8).blk t).view.emb (ix2 r l) = ix2 (at_ t r) l := by
  obtain ⟨-, -, -, ⟨e0, e1⟩, -⟩ := idxT t
  funext a; apply Fin.ext
  match a with
  | ⟨0, _⟩ => show win0_8.index t (0 : Fin 2) * 128 + 1 * r.val = t.val % 32 * 128 + r.val; omega
  | ⟨1, _⟩ => show win0_8.index t (1 : Fin 2) * 128 + 1 * l.val = l.val; omega

theorem emb9 (t : Fin cfg0.N) (r l : Fin 128) : ((cfg0.win 9).blk t).view.emb (ix2 r l) = ix2 (at_ t r) l := by
  obtain ⟨-, -, -, -, ⟨e0, e1⟩, -⟩ := idxT t
  funext a; apply Fin.ext
  match a with
  | ⟨0, _⟩ => show win0_9.index t (0 : Fin 2) * 128 + 1 * r.val = t.val % 32 * 128 + r.val; omega
  | ⟨1, _⟩ => show win0_9.index t (1 : Fin 2) * 128 + 1 * l.val = l.val; omega

theorem emb10 (t : Fin cfg0.N) (r l : Fin 128) : ((cfg0.win 10).blk t).view.emb (ix2 r l) = ix2 (at_ t r) l := by
  obtain ⟨-, -, -, -, -, ⟨e0, e1⟩⟩ := idxT t
  funext a; apply Fin.ext
  match a with
  | ⟨0, _⟩ => show win0_10.index t (0 : Fin 2) * 128 + 1 * r.val = t.val % 32 * 128 + r.val; omega
  | ⟨1, _⟩ => show win0_10.index t (1 : Fin 2) * 128 + 1 * l.val = l.val; omega

theorem emb11 (t : Fin cfg0.N) (r : Fin 128) (e : Fin 512) : ((cfg0.win 11).blk t).view.emb (ix3 0 r e) = ix3 (bat t) (at_ t r) e := by
  obtain ⟨⟨e0, e1, e2⟩, -⟩ := idxR t
  funext a; apply Fin.ext
  match a with
  | ⟨0, _⟩ => show win0_11.index t (0 : Fin 3) * 1 + 1 * 0 = t.val / 32; omega
  | ⟨1, _⟩ => show win0_11.index t (1 : Fin 3) * 128 + 1 * r.val = t.val % 32 * 128 + r.val; omega
  | ⟨2, _⟩ => show win0_11.index t (2 : Fin 3) * 512 + 1 * e.val = e.val; omega

theorem emb12 (t : Fin cfg0.N) (r : Fin 128) (e : Fin 512) : ((cfg0.win 12).blk t).view.emb (ix3 0 r e) = ix3 (bat t) (at_ t r) e := by
  obtain ⟨-, ⟨e0, e1, e2⟩, -⟩ := idxR t
  funext a; apply Fin.ext
  match a with
  | ⟨0, _⟩ => show win0_12.index t (0 : Fin 3) * 1 + 1 * 0 = t.val / 32; omega
  | ⟨1, _⟩ => show win0_12.index t (1 : Fin 3) * 128 + 1 * r.val = t.val % 32 * 128 + r.val; omega
  | ⟨2, _⟩ => show win0_12.index t (2 : Fin 3) * 512 + 1 * e.val = e.val; omega

theorem emb13 (t : Fin cfg0.N) (r : Fin 128) (e : Fin 512) : ((cfg0.win 13).blk t).view.emb (ix3 0 r e) = ix3 (bat t) (at_ t r) e := by
  obtain ⟨-, -, ⟨e0, e1, e2⟩, -⟩ := idxR t
  funext a; apply Fin.ext
  match a with
  | ⟨0, _⟩ => show win0_13.index t (0 : Fin 3) * 1 + 1 * 0 = t.val / 32; omega
  | ⟨1, _⟩ => show win0_13.index t (1 : Fin 3) * 128 + 1 * r.val = t.val % 32 * 128 + r.val; omega
  | ⟨2, _⟩ => show win0_13.index t (2 : Fin 3) * 512 + 1 * e.val = e.val; omega

theorem emb14 (t : Fin cfg0.N) (r : Fin 128) (e : Fin 512) : ((cfg0.win 14).blk t).view.emb (ix3 0 r e) = ix3 (bat t) (at_ t r) e := by
  obtain ⟨-, -, -, ⟨e0, e1, e2⟩, -⟩ := idxR t
  funext a; apply Fin.ext
  match a with
  | ⟨0, _⟩ => show win0_14.index t (0 : Fin 3) * 1 + 1 * 0 = t.val / 32; omega
  | ⟨1, _⟩ => show win0_14.index t (1 : Fin 3) * 128 + 1 * r.val = t.val % 32 * 128 + r.val; omega
  | ⟨2, _⟩ => show win0_14.index t (2 : Fin 3) * 512 + 1 * e.val = e.val; omega

theorem emb15 (t : Fin cfg0.N) (r : Fin 128) (e : Fin 256) : ((cfg0.win 15).blk t).view.emb (ix3 0 r e) = ix3 (bat t) (at_ t r) e := by
  obtain ⟨-, -, -, -, ⟨e0, e1, e2⟩, -⟩ := idxR t
  funext a; apply Fin.ext
  match a with
  | ⟨0, _⟩ => show win0_15.index t (0 : Fin 3) * 1 + 1 * 0 = t.val / 32; omega
  | ⟨1, _⟩ => show win0_15.index t (1 : Fin 3) * 128 + 1 * r.val = t.val % 32 * 128 + r.val; omega
  | ⟨2, _⟩ => show win0_15.index t (2 : Fin 3) * 256 + 1 * e.val = e.val; omega

theorem emb16 (t : Fin cfg0.N) (r : Fin 128) (e : Fin 64) : ((cfg0.win 16).blk t).view.emb (ix3 0 r e) = ix3 (bat t) (at_ t r) e := by
  obtain ⟨-, -, -, -, -, ⟨e0, e1, e2⟩, -⟩ := idxR t
  funext a; apply Fin.ext
  match a with
  | ⟨0, _⟩ => show win0_16.index t (0 : Fin 3) * 1 + 1 * 0 = t.val / 32; omega
  | ⟨1, _⟩ => show win0_16.index t (1 : Fin 3) * 128 + 1 * r.val = t.val % 32 * 128 + r.val; omega
  | ⟨2, _⟩ => show win0_16.index t (2 : Fin 3) * 64 + 1 * e.val = e.val; omega

theorem emb17 (t : Fin cfg0.N) (r : Fin 128) (e : Fin 64) : ((cfg0.win 17).blk t).view.emb (ix3 0 r e) = ix3 (bat t) (at_ t r) e := by
  obtain ⟨-, -, -, -, -, -, ⟨e0, e1, e2⟩⟩ := idxR t
  funext a; apply Fin.ext
  match a with
  | ⟨0, _⟩ => show win0_17.index t (0 : Fin 3) * 1 + 1 * 0 = t.val / 32; omega
  | ⟨1, _⟩ => show win0_17.index t (1 : Fin 3) * 128 + 1 * r.val = t.val % 32 * 128 + r.val; omega
  | ⟨2, _⟩ => show win0_17.index t (2 : Fin 3) * 64 + 1 * e.val = e.val; omega

/-! ## What the input blocks hold, in the arguments as launched -/

variable (m : (ℓ : Loc nD τ sig) → Buf (Elt Ideal) ℓ)

/-- The kernel's arguments on core `c`. -/
abbrev argA (c : Dev nD) : Proj := m ((c : Thread nD τ).loc main_arg0)
abbrev argP (c : Dev nD) : Pos := m ((c : Thread nD τ).loc main_arg1)

/-- The angles at a row of a tile, for the heads of 128 lanes and of 64. -/
abbrev angL (c : Dev nD) (t : Fin cfg0.N) (r : Fin 128) : ℕ → EReal := angle 1107296256#32 (argP m c (ix1 (at_ t r)))
abbrev angS (c : Dev nD) (t : Fin cfg0.N) (r : Fin 128) : ℕ → EReal := angle 1098907648#32 (argP m c (ix1 (at_ t r)))

theorem blk0 (c : Dev nD) (t : Fin cfg0.N) (r : Fin 128) (e : Fin 512) : iblk m c 0 t (ix3 0 r e) = col (argA m c) (bat t) (at_ t r) (3584 + e.val) := by
  show V m c main_arg0 (((cfg0.win 0).blk t).view.emb (ix3 0 r e)) = _
  rw [emb0, col_of _ _ _ _ (show 3584 + e.val < 5632 by omega)]
  exact congrFun (V_main_arg0 m c) _

theorem blk1 (c : Dev nD) (t : Fin cfg0.N) (r : Fin 128) (e : Fin 512) : iblk m c 1 t (ix3 0 r e) = col (argA m c) (bat t) (at_ t r) (4096 + e.val) := by
  show V m c main_arg0 (((cfg0.win 1).blk t).view.emb (ix3 0 r e)) = _
  rw [emb1, col_of _ _ _ _ (show 4096 + e.val < 5632 by omega)]
  exact congrFun (V_main_arg0 m c) _

theorem blk2 (c : Dev nD) (t : Fin cfg0.N) (r : Fin 128) (e : Fin 512) : iblk m c 2 t (ix3 0 r e) = col (argA m c) (bat t) (at_ t r) (4608 + e.val) := by
  show V m c main_arg0 (((cfg0.win 2).blk t).view.emb (ix3 0 r e)) = _
  rw [emb2, col_of _ _ _ _ (show 4608 + e.val < 5632 by omega)]
  exact congrFun (V_main_arg0 m c) _

theorem blk3 (c : Dev nD) (t : Fin cfg0.N) (r : Fin 128) (e : Fin 256) : iblk m c 3 t (ix3 0 r e) = col (argA m c) (bat t) (at_ t r) (5120 + e.val) := by
  show V m c main_arg0 (((cfg0.win 3).blk t).view.emb (ix3 0 r e)) = _
  rw [emb3, col_of _ _ _ _ (show 5120 + e.val < 5632 by omega)]
  exact congrFun (V_main_arg0 m c) _

theorem blk4 (c : Dev nD) (t : Fin cfg0.N) (r : Fin 128) (e : Fin 128) : iblk m c 4 t (ix3 0 r e) = col (argA m c) (bat t) (at_ t r) (5376 + e.val) := by
  show V m c main_arg0 (((cfg0.win 4).blk t).view.emb (ix3 0 r e)) = _
  rw [emb4, col_of _ _ _ _ (show 5376 + e.val < 5632 by omega)]
  exact congrFun (V_main_arg0 m c) _

theorem blk5 (c : Dev nD) (t : Fin cfg0.N) (r l : Fin 128) : iblk m c 5 t (ix2 r l) = tabC 16 (angL m c t r) (l.val % 128) := by
  show V m c main_v24 (((cfg0.win 5).blk t).view.emb (ix2 r l)) = _
  rw [emb5]
  rw [Nat.mod_eq_of_lt l.isLt]
  exact table24 m c (at_ t r) l

theorem blk6 (c : Dev nD) (t : Fin cfg0.N) (r l : Fin 128) : iblk m c 6 t (ix2 r l) = tabA 16 (angL m c t r) (l.val % 128) := by
  show V m c main_v27 (((cfg0.win 6).blk t).view.emb (ix2 r l)) = _
  rw [emb6]
  rw [Nat.mod_eq_of_lt l.isLt]
  exact table27 m c (at_ t r) l

theorem blk7 (c : Dev nD) (t : Fin cfg0.N) (r l : Fin 128) : iblk m c 7 t (ix2 r l) = tabB 16 (angL m c t r) (l.val % 128) := by
  show V m c main_v30 (((cfg0.win 7).blk t).view.emb (ix2 r l)) = _
  rw [emb7]
  rw [Nat.mod_eq_of_lt l.isLt]
  exact table30 m c (at_ t r) l

theorem blk8 (c : Dev nD) (t : Fin cfg0.N) (r l : Fin 128) : iblk m c 8 t (ix2 r l) = tabC 8 (angS m c t r) (l.val % 64) := by
  show V m c main_v55 (((cfg0.win 8).blk t).view.emb (ix2 r l)) = _
  rw [emb8]
  exact table55 m c (at_ t r) l

theorem blk9 (c : Dev nD) (t : Fin cfg0.N) (r l : Fin 128) : iblk m c 9 t (ix2 r l) = tabA 8 (angS m c t r) (l.val % 64) := by
  show V m c main_v58 (((cfg0.win 9).blk t).view.emb (ix2 r l)) = _
  rw [emb9]
  exact table58 m c (at_ t r) l

theorem blk10 (c : Dev nD) (t : Fin cfg0.N) (r l : Fin 128) : iblk m c 10 t (ix2 r l) = tabB 8 (angS m c t r) (l.val % 64) := by
  show V m c main_v61 (((cfg0.win 10).blk t).view.emb (ix2 r l)) = _
  rw [emb10]
  exact table61 m c (at_ t r) l

/-! ## The result arrays -/

/-- What point `t` writes back of result 0 is its block of the computed array. -/
theorem flushed11_eq (c : Dev nD) (t : Fin cfg0.N) : (dats m 0 c).flushed 11 t = ((cfg0.win 11).blk t).view.read (Elt Ideal) (outQ (argA m c) (argP m c)) := by
  rw [Value.flushed11 m c t]
  funext i
  obtain ⟨r, e, rfl⟩ : ∃ (r : Fin 128) (e : Fin 512), i = ix3 (0 : Fin 1) r e := ⟨i 1, i 2, by
    funext a; match a with | ⟨0, _⟩ => exact Subsingleton.elim (α := Fin 1) _ _ | ⟨1, _⟩ => rfl | ⟨2, _⟩ => rfl⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outQ (argA m c) (argP m c)) (((cfg0.win 11).blk t).view.emb (ix3 0 r e))
  rw [emb11]
  exact tile11 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (3584 + n)) (fun r => angL m c t r) (fun r l => blk0 m c t r l) (fun r l => blk5 m c t r l) (fun r l => blk6 m c t r l) (fun r l => blk7 m c t r l) (ix3 0 r e)

theorem cover11 (i : S4x4096x512.Idx) : ∃ t : Fin cfg0.N, (cfg0.win 11).flush t = true ∧ i ∈ ((cfg0.win 11).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_11 _, ?_⟩
  have h := ((cfg0.win 11).blk ⟨_, ht⟩).view.emb_mem_set (ix3 (0 : Fin 1) (⟨q.val % 128, by omega⟩ : Fin 128) e)
  rw [emb11] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final11 (c : Dev nD) : (dats m 0 c).arrAt 11 cfg0.N = (outQ (argA m c) (argP m c)) :=
  (dats m 0 c).arrAt_eq_of_cover 11 _ (fun t _ => flushed11_eq m c t) cover11

/-- What point `t` writes back of result 1 is its block of the computed array. -/
theorem flushed12_eq (c : Dev nD) (t : Fin cfg0.N) : (dats m 0 c).flushed 12 t = ((cfg0.win 12).blk t).view.read (Elt Ideal) (outK (argA m c) (argP m c)) := by
  rw [Value.flushed12 m c t]
  funext i
  obtain ⟨r, e, rfl⟩ : ∃ (r : Fin 128) (e : Fin 512), i = ix3 (0 : Fin 1) r e := ⟨i 1, i 2, by
    funext a; match a with | ⟨0, _⟩ => exact Subsingleton.elim (α := Fin 1) _ _ | ⟨1, _⟩ => rfl | ⟨2, _⟩ => rfl⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outK (argA m c) (argP m c)) (((cfg0.win 12).blk t).view.emb (ix3 0 r e))
  rw [emb12]
  exact tile12 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (4096 + n)) (fun r => angL m c t r) (fun r l => blk1 m c t r l) (fun r l => blk5 m c t r l) (fun r l => blk6 m c t r l) (fun r l => blk7 m c t r l) (ix3 0 r e)

theorem cover12 (i : S4x4096x512.Idx) : ∃ t : Fin cfg0.N, (cfg0.win 12).flush t = true ∧ i ∈ ((cfg0.win 12).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_12 _, ?_⟩
  have h := ((cfg0.win 12).blk ⟨_, ht⟩).view.emb_mem_set (ix3 (0 : Fin 1) (⟨q.val % 128, by omega⟩ : Fin 128) e)
  rw [emb12] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final12 (c : Dev nD) : (dats m 0 c).arrAt 12 cfg0.N = (outK (argA m c) (argP m c)) :=
  (dats m 0 c).arrAt_eq_of_cover 12 _ (fun t _ => flushed12_eq m c t) cover12

/-- What point `t` writes back of result 2 is its block of the computed array. -/
theorem flushed13_eq (c : Dev nD) (t : Fin cfg0.N) : (dats m 0 c).flushed 13 t = ((cfg0.win 13).blk t).view.read (Elt Ideal) (outKs (argA m c) (argP m c)) := by
  rw [Value.flushed13 m c t]
  funext i
  obtain ⟨r, e, rfl⟩ : ∃ (r : Fin 128) (e : Fin 512), i = ix3 (0 : Fin 1) r e := ⟨i 1, i 2, by
    funext a; match a with | ⟨0, _⟩ => exact Subsingleton.elim (α := Fin 1) _ _ | ⟨1, _⟩ => rfl | ⟨2, _⟩ => rfl⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outKs (argA m c) (argP m c)) (((cfg0.win 13).blk t).view.emb (ix3 0 r e))
  rw [emb13]
  exact tile13 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (4096 + n)) (fun r => angL m c t r) (fun r l => blk1 m c t r l) (fun r l => blk5 m c t r l) (fun r l => blk6 m c t r l) (fun r l => blk7 m c t r l) (ix3 0 r e)

theorem cover13 (i : S4x4096x512.Idx) : ∃ t : Fin cfg0.N, (cfg0.win 13).flush t = true ∧ i ∈ ((cfg0.win 13).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_13 _, ?_⟩
  have h := ((cfg0.win 13).blk ⟨_, ht⟩).view.emb_mem_set (ix3 (0 : Fin 1) (⟨q.val % 128, by omega⟩ : Fin 128) e)
  rw [emb13] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final13 (c : Dev nD) : (dats m 0 c).arrAt 13 cfg0.N = (outKs (argA m c) (argP m c)) :=
  (dats m 0 c).arrAt_eq_of_cover 13 _ (fun t _ => flushed13_eq m c t) cover13

/-- What point `t` writes back of result 3 is its block of the computed array. -/
theorem flushed14_eq (c : Dev nD) (t : Fin cfg0.N) : (dats m 0 c).flushed 14 t = ((cfg0.win 14).blk t).view.read (Elt Ideal) (outV (argA m c)) := by
  rw [Value.flushed14 m c t]
  funext i
  obtain ⟨r, e, rfl⟩ : ∃ (r : Fin 128) (e : Fin 512), i = ix3 (0 : Fin 1) r e := ⟨i 1, i 2, by
    funext a; match a with | ⟨0, _⟩ => exact Subsingleton.elim (α := Fin 1) _ _ | ⟨1, _⟩ => rfl | ⟨2, _⟩ => rfl⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outV (argA m c)) (((cfg0.win 14).blk t).view.emb (ix3 0 r e))
  rw [emb14]
  exact tile14 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (4608 + n)) (fun r l => blk2 m c t r l) (ix3 0 r e)

theorem cover14 (i : S4x4096x512.Idx) : ∃ t : Fin cfg0.N, (cfg0.win 14).flush t = true ∧ i ∈ ((cfg0.win 14).blk t).view.set := by
  obtain ⟨b, q, e, rfl⟩ : ∃ (b : Fin 4) (q : Fin 4096) (e : Fin 512), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_14 _, ?_⟩
  have h := ((cfg0.win 14).blk ⟨_, ht⟩).view.emb_mem_set (ix3 (0 : Fin 1) (⟨q.val % 128, by omega⟩ : Fin 128) e)
  rw [emb14] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final14 (c : Dev nD) : (dats m 0 c).arrAt 14 cfg0.N = (outV (argA m c)) :=
  (dats m 0 c).arrAt_eq_of_cover 14 _ (fun t _ => flushed14_eq m c t) cover14

/-- What point `t` writes back of result 4 is its block of the computed array. -/
theorem flushed15_eq (c : Dev nD) (t : Fin cfg0.N) : (dats m 0 c).flushed 15 t = ((cfg0.win 15).blk t).view.read (Elt Ideal) (outQI (argA m c) (argP m c)) := by
  rw [Value.flushed15 m c t]
  funext i
  obtain ⟨r, e, rfl⟩ : ∃ (r : Fin 128) (e : Fin 256), i = ix3 (0 : Fin 1) r e := ⟨i 1, i 2, by
    funext a; match a with | ⟨0, _⟩ => exact Subsingleton.elim (α := Fin 1) _ _ | ⟨1, _⟩ => rfl | ⟨2, _⟩ => rfl⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outQI (argA m c) (argP m c)) (((cfg0.win 15).blk t).view.emb (ix3 0 r e))
  rw [emb15]
  exact tile15 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (5120 + n)) (fun r => angS m c t r) (fun r l => blk3 m c t r l) (fun r l => blk8 m c t r l) (fun r l => blk9 m c t r l) (fun r l => blk10 m c t r l) (ix3 0 r e)

theorem cover15 (i : S4x4096x256.Idx) : ∃ t : Fin cfg0.N, (cfg0.win 15).flush t = true ∧ i ∈ ((cfg0.win 15).blk t).view.set := by
  obtain ⟨b, q, e, rfl⟩ : ∃ (b : Fin 4) (q : Fin 4096) (e : Fin 256), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_15 _, ?_⟩
  have h := ((cfg0.win 15).blk ⟨_, ht⟩).view.emb_mem_set (ix3 (0 : Fin 1) (⟨q.val % 128, by omega⟩ : Fin 128) e)
  rw [emb15] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final15 (c : Dev nD) : (dats m 0 c).arrAt 15 cfg0.N = (outQI (argA m c) (argP m c)) :=
  (dats m 0 c).arrAt_eq_of_cover 15 _ (fun t _ => flushed15_eq m c t) cover15

/-- What point `t` writes back of result 5 is its block of the computed array. -/
theorem flushed16_eq (c : Dev nD) (t : Fin cfg0.N) : (dats m 0 c).flushed 16 t = ((cfg0.win 16).blk t).view.read (Elt Ideal) (outKI (argA m c) (argP m c)) := by
  rw [Value.flushed16 m c t]
  funext i
  obtain ⟨r, e, rfl⟩ : ∃ (r : Fin 128) (e : Fin 64), i = ix3 (0 : Fin 1) r e := ⟨i 1, i 2, by
    funext a; match a with | ⟨0, _⟩ => exact Subsingleton.elim (α := Fin 1) _ _ | ⟨1, _⟩ => rfl | ⟨2, _⟩ => rfl⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outKI (argA m c) (argP m c)) (((cfg0.win 16).blk t).view.emb (ix3 0 r e))
  rw [emb16]
  exact tile16 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (5376 + n)) (fun r => angS m c t r) (fun r l => blk4 m c t r l) (fun r l => blk8 m c t r l) (fun r l => blk9 m c t r l) (fun r l => blk10 m c t r l) (ix3 0 r e)

theorem cover16 (i : S4x4096x64.Idx) : ∃ t : Fin cfg0.N, (cfg0.win 16).flush t = true ∧ i ∈ ((cfg0.win 16).blk t).view.set := by
  obtain ⟨b, q, e, rfl⟩ : ∃ (b : Fin 4) (q : Fin 4096) (e : Fin 64), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_16 _, ?_⟩
  have h := ((cfg0.win 16).blk ⟨_, ht⟩).view.emb_mem_set (ix3 (0 : Fin 1) (⟨q.val % 128, by omega⟩ : Fin 128) e)
  rw [emb16] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final16 (c : Dev nD) : (dats m 0 c).arrAt 16 cfg0.N = (outKI (argA m c) (argP m c)) :=
  (dats m 0 c).arrAt_eq_of_cover 16 _ (fun t _ => flushed16_eq m c t) cover16

/-- What point `t` writes back of result 6 is its block of the computed array. -/
theorem flushed17_eq (c : Dev nD) (t : Fin cfg0.N) : (dats m 0 c).flushed 17 t = ((cfg0.win 17).blk t).view.read (Elt Ideal) (outKIs (argA m c) (argP m c)) := by
  rw [Value.flushed17 m c t]
  funext i
  obtain ⟨r, e, rfl⟩ : ∃ (r : Fin 128) (e : Fin 64), i = ix3 (0 : Fin 1) r e := ⟨i 1, i 2, by
    funext a; match a with | ⟨0, _⟩ => exact Subsingleton.elim (α := Fin 1) _ _ | ⟨1, _⟩ => rfl | ⟨2, _⟩ => rfl⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r e) = (outKIs (argA m c) (argP m c)) (((cfg0.win 17).blk t).view.emb (ix3 0 r e))
  rw [emb17]
  exact tile17 (iblk m c 0 t) (iblk m c 1 t) (iblk m c 2 t) (iblk m c 3 t) (iblk m c 4 t) (iblk m c 5 t) (iblk m c 6 t) (iblk m c 7 t) (iblk m c 8 t) (iblk m c 9 t) (iblk m c 10 t) (fun r n => col (argA m c) (bat t) (at_ t r) (5376 + n)) (fun r => angS m c t r) (fun r l => blk4 m c t r l) (fun r l => blk8 m c t r l) (fun r l => blk9 m c t r l) (fun r l => blk10 m c t r l) (ix3 0 r e)

theorem cover17 (i : S4x4096x64.Idx) : ∃ t : Fin cfg0.N, (cfg0.win 17).flush t = true ∧ i ∈ ((cfg0.win 17).blk t).view.set := by
  obtain ⟨b, q, e, rfl⟩ : ∃ (b : Fin 4) (q : Fin 4096) (e : Fin 64), i = ix3 b q e := ⟨i 0, i 1, i 2, by
    funext a; match a with | ⟨0, _⟩ => rfl | ⟨1, _⟩ => rfl | ⟨2, _⟩ => rfl⟩
  have hb := b.isLt
  have hq := q.isLt
  have ht : b.val * 32 + q.val / 128 < cfg0.N := by rw [show cfg0.N = 128 from N_0]; omega
  refine ⟨⟨_, ht⟩, flush0_17 _, ?_⟩
  have h := ((cfg0.win 17).blk ⟨_, ht⟩).view.emb_mem_set (ix3 (0 : Fin 1) (⟨q.val % 128, by omega⟩ : Fin 128) e)
  rw [emb17] at h
  have e0 : bat ⟨_, ht⟩ = b := Fin.ext (by show (b.val * 32 + q.val / 128) / 32 = b.val; omega)
  have e1 : at_ ⟨_, ht⟩ (⟨q.val % 128, by omega⟩ : Fin 128) = q :=
    Fin.ext (by show (b.val * 32 + q.val / 128) % 32 * 128 + q.val % 128 = q.val; omega)
  rwa [e0, e1] at h

theorem final17 (c : Dev nD) : (dats m 0 c).arrAt 17 cfg0.N = (outKIs (argA m c) (argP m c)) :=
  (dats m 0 c).arrAt_eq_of_cover 17 _ (fun t _ => flushed17_eq m c t) cover17

/-! ## The claims -/

/-- The kernel and its idealization leave every semaphore at zero and the arguments as they were. -/
theorem frame : Cert.quiescent_Prep := fun m ρ _ => Cert.Prep.Gen.frame m ρ
theorem frame_ideal : Cert.quiescent_PrepIdeal := fun m ρ _ => Cert.PrepIdeal.Gen.frame m ρ

/-- The reference leaves the arguments as they were and has no semaphore. -/
theorem frame_ref : Cert.quiescent_PrepRefIdeal := fun m ρ _ =>
  (θ_run Cert.PrepRefIdeal.defs _ _).mono (fun r h => ⟨fun c => (h c).2.2.2.2.2.2.2, sem_eq_zero_of_no_sems (by decide) r.2⟩)
    (Cert.PrepRefIdeal.Value.run (F := Ideal) m ρ)

/-- The idealization rewrote nothing. -/
theorem preserves : Cert.preserves_Prep_PrepIdeal := trivial

/-- Over the extended reals the kernel and the reference end with the same seven result arrays, whatever the arguments. -/
theorem algebraic : Cert.algebraic_PrepIdeal_PrepRefIdeal := by
  intro m ρ m' ρ' _ hag
  refine ⟨fun c => outQ (argA m c) (argP m c), fun c => outK (argA m c) (argP m c), fun c => outKs (argA m c) (argP m c), fun c => outV (argA m c),
    fun c => outQI (argA m c) (argP m c), fun c => outKI (argA m c) (argP m c), fun c => outKIs (argA m c) (argP m c),
    (θ_run _ _ _).mono (fun r h c => ?_) (Value.run_blocks m ρ),
    (θ_run _ _ _).mono (fun r h c => ?_) (Cert.PrepRefIdeal.Value.run (F := Ideal) m' ρ')⟩
  · obtain ⟨h0, h1, h2, h3, h4, h5, h6, h7⟩ := h c
    exact ⟨h0.trans (final11 m c), h1.trans (final12 m c), h2.trans (final13 m c), h3.trans (final14 m c), h4.trans (final15 m c),
      h5.trans (final16 m c), h6.trans (final17 m c), h7⟩
  · obtain ⟨h0, h1, h2, h3, h4, h5, h6, h7⟩ := h c
    obtain ⟨e0, e1⟩ := hag c
    refine ⟨h0.trans ((ref0 m' c).trans ?_), h1.trans ((ref1 m' c).trans ?_), h2.trans ((ref2 m' c).trans ?_), h3.trans ((ref3 m' c).trans ?_),
      h4.trans ((ref4 m' c).trans ?_), h5.trans ((ref5 m' c).trans ?_), h6.trans ((ref6 m' c).trans ?_), h7⟩ <;> rw [e0] <;> rw [e1]

end Cert.Proof.Prep

end
-- ==== Proof.lean ====
module

public import proofs.«01_k».proof.Defs
public import proofs.«01_k».proof.Proof.SbClaim
public import proofs.«01_k».proof.Proof.MatmulValue
public import proofs.«01_k».proof.Proof.GateValue
public import proofs.«01_k».proof.Proof.MergeValue
public import proofs.«01_k».proof.Proof.DownValue
public import proofs.«01_k».proof.Proof.PleValue
public import proofs.«01_k».proof.Proof.HgrnClaim
public import proofs.«01_k».proof.Proof.ConvValue
public import proofs.«01_k».proof.Proof.PrepValue

@[expose] public section

noncomputable section

namespace Cert.Proof

/-- All claims of the certificate. -/
theorem claim : Cert.Claim :=
  ⟨Cert.Kernel.Gen.facts, Cert.KernelIdeal.Gen.facts, Cert.ReferenceIdeal.Gen.facts,
    Cert.Matmul.Gen.facts, Cert.MatmulIdeal.Gen.facts, Cert.MatmulRefIdeal.Gen.facts,
    Cert.Gate.Gen.facts, Cert.GateIdeal.Gen.facts, Cert.GateRefIdeal.Gen.facts,
    Cert.Merge.Gen.facts, Cert.MergeIdeal.Gen.facts, Cert.MergeRefIdeal.Gen.facts,
    Cert.Down.Gen.facts, Cert.DownIdeal.Gen.facts, Cert.DownRefIdeal.Gen.facts,
    Cert.Ple.Gen.facts, Cert.PleIdeal.Gen.facts, Cert.PleRefIdeal.Gen.facts,
    Cert.Hgrn.Gen.facts, Cert.HgrnIdeal.Gen.facts, Cert.HgrnRefIdeal.Gen.facts,
    Cert.Conv.Gen.facts, Cert.ConvIdeal.Gen.facts, Cert.ConvRefIdeal.Gen.facts,
    Cert.Prep.Gen.facts, Cert.PrepIdeal.Gen.facts, Cert.PrepRefIdeal.Gen.facts,
    Cert.Proof.Sb.preFacts, Cert.Proof.Hgrn.preFacts,
    Sb.frame, Sb.frame_ideal, Sb.frame_ideal_pre, Sb.frame_ref, Sb.frame_ref_pre,
    Matmul.frame, Matmul.frame_ideal, Matmul.frame_ref,
    Gate.frame, Gate.frame_ideal, Gate.frame_ref,
    Merge.frame, Merge.frame_ideal, Merge.frame_ref,
    Down.frame, Down.frame_ideal, Down.frame_ref,
    Ple.frame, Ple.frame_ideal, Ple.frame_ref,
    Hgrn.frame, Hgrn.frame_ideal, Hgrn.frame_ideal_pre, Hgrn.frame_ref, Hgrn.frame_ref_pre,
    Conv.frame, Conv.frame_ideal, Conv.frame_ref,
    Prep.frame, Prep.frame_ideal, Prep.frame_ref,
    Sb.preserves, Sb.algebraic,
    Matmul.preserves, Matmul.algebraic,
    Gate.preserves, Gate.algebraic,
    Merge.preserves, Merge.algebraic,
    Down.preserves, Down.algebraic,
    Ple.preserves, Ple.algebraic,
    Hgrn.preserves, Hgrn.algebraic,
    Conv.preserves, Conv.algebraic,
    Prep.preserves, Prep.algebraic⟩

end Cert.Proof

end
